-- ==== Defs.lean ====
def Pre_Rhs (m : (ℓ : Loc Cert.Rhs.nD Cert.Rhs.τ Cert.Rhs.sig) → Buf (Elt Bits) ℓ) : Prop :=
  True

def Pre_RhsIdeal (m : (ℓ : Loc Cert.RhsIdeal.nD Cert.RhsIdeal.τ Cert.RhsIdeal.sig) → Buf (Elt Ideal) ℓ) : Prop :=
  True

def Pre_RhsRefIdeal (m : (ℓ : Loc Cert.RhsRefIdeal.nD Cert.RhsRefIdeal.τ Cert.RhsRefIdeal.sig) → Buf (Elt Ideal) ℓ) : Prop :=
  True

def Pre_Solve (m : (ℓ : Loc Cert.Solve.nD Cert.Solve.τ Cert.Solve.sig) → Buf (Elt Bits) ℓ) : Prop :=
  True

def Pre_SolveIdeal (m : (ℓ : Loc Cert.SolveIdeal.nD Cert.SolveIdeal.τ Cert.SolveIdeal.sig) → Buf (Elt Ideal) ℓ) : Prop :=
  True

def Pre_SolveIdeal_finite [hPre_finite : Cert.Pre_finite.Facts] (m : (ℓ : Loc Cert.SolveIdeal.nD Cert.SolveIdeal.τ Cert.SolveIdeal.sig) → Buf (Elt Ideal) ℓ) : Prop :=
  ∀ c : Dev Cert.SolveIdeal.nD,
    (Cert.Pre_finite.fn (F := Ideal) (m ((c.tc : Thread Cert.SolveIdeal.nD Cert.SolveIdeal.τ).loc Cert.SolveIdeal.main_arg0)) (m ((c.tc : Thread Cert.SolveIdeal.nD Cert.SolveIdeal.τ).loc Cert.SolveIdeal.main_arg1))) = (fun _ => 1#1)

def Pre_SolveRefIdeal (m : (ℓ : Loc Cert.SolveRefIdeal.nD Cert.SolveRefIdeal.τ Cert.SolveRefIdeal.sig) → Buf (Elt Ideal) ℓ) : Prop :=
  True

def Pre_SolveRefIdeal_finite [hPre_finite : Cert.Pre_finite.Facts] (m : (ℓ : Loc Cert.SolveRefIdeal.nD Cert.SolveRefIdeal.τ Cert.SolveRefIdeal.sig) → Buf (Elt Ideal) ℓ) : Prop :=
  ∀ c : Dev Cert.SolveRefIdeal.nD,
    (Cert.Pre_finite.fn (F := Ideal) (m ((c.tc : Thread Cert.SolveRefIdeal.nD Cert.SolveRefIdeal.τ).loc Cert.SolveRefIdeal.main_arg0)) (m ((c.tc : Thread Cert.SolveRefIdeal.nD Cert.SolveRefIdeal.τ).loc Cert.SolveRefIdeal.main_arg1))) = (fun _ => 1#1)

def Pre_Inverse (m : (ℓ : Loc Cert.Inverse.nD Cert.Inverse.τ Cert.Inverse.sig) → Buf (Elt Bits) ℓ) : Prop :=
  True

def Pre_InverseIdeal (m : (ℓ : Loc Cert.InverseIdeal.nD Cert.InverseIdeal.τ Cert.InverseIdeal.sig) → Buf (Elt Ideal) ℓ) : Prop :=
  True

def Pre_InverseIdeal_factored [hPre_factored : Cert.Pre_factored.Facts] (m : (ℓ : Loc Cert.InverseIdeal.nD Cert.InverseIdeal.τ Cert.InverseIdeal.sig) → Buf (Elt Ideal) ℓ) : Prop :=
  ∀ c : Dev Cert.InverseIdeal.nD,
    (Cert.Pre_factored.fn (F := Ideal) (m ((c.tc : Thread Cert.InverseIdeal.nD Cert.InverseIdeal.τ).loc Cert.InverseIdeal.main_arg0)) (m ((c.tc : Thread Cert.InverseIdeal.nD Cert.InverseIdeal.τ).loc Cert.InverseIdeal.main_arg1))) = (fun _ => 1#1)

def Pre_InverseRefIdeal (m : (ℓ : Loc Cert.InverseRefIdeal.nD Cert.InverseRefIdeal.τ Cert.InverseRefIdeal.sig) → Buf (Elt Ideal) ℓ) : Prop :=
  True

def Pre_InverseRefIdeal_factored [hPre_factored : Cert.Pre_factored.Facts] (m : (ℓ : Loc Cert.InverseRefIdeal.nD Cert.InverseRefIdeal.τ Cert.InverseRefIdeal.sig) → Buf (Elt Ideal) ℓ) : Prop :=
  ∀ c : Dev Cert.InverseRefIdeal.nD,
    (Cert.Pre_factored.fn (F := Ideal) (m ((c.tc : Thread Cert.InverseRefIdeal.nD Cert.InverseRefIdeal.τ).loc Cert.InverseRefIdeal.main_arg0)) (m ((c.tc : Thread Cert.InverseRefIdeal.nD Cert.InverseRefIdeal.τ).loc Cert.InverseRefIdeal.main_arg1))) = (fun _ => 1#1)

def quiescent_Rhs [hRhs : Cert.Rhs.Facts] : Prop :=
  ∀ (m : (ℓ : Loc Cert.Rhs.nD Cert.Rhs.τ Cert.Rhs.sig) → Buf (Elt Bits) ℓ) (g : Dev Cert.Rhs.nD → PrngReg), Pre_Rhs m →
    θ_run (Cert.Rhs.defs (F := Bits)) (onTc (τ := Cert.Rhs.τ) (Cert.Rhs.main (F := Bits))) ⟨m, fun _ => 0, g⟩ (fun r => (∀ c : Dev Cert.Rhs.nD,
      r.2.mem ((c.tc : Thread Cert.Rhs.nD Cert.Rhs.τ).loc Cert.Rhs.main_arg0) = m ((c.tc : Thread Cert.Rhs.nD Cert.Rhs.τ).loc Cert.Rhs.main_arg0)
      ∧ r.2.mem ((c.tc : Thread Cert.Rhs.nD Cert.Rhs.τ).loc Cert.Rhs.main_arg1) = m ((c.tc : Thread Cert.Rhs.nD Cert.Rhs.τ).loc Cert.Rhs.main_arg1)
      ∧ r.2.mem ((c.tc : Thread Cert.Rhs.nD Cert.Rhs.τ).loc Cert.Rhs.main_arg2) = m ((c.tc : Thread Cert.Rhs.nD Cert.Rhs.τ).loc Cert.Rhs.main_arg2)
      ∧ r.2.mem ((c.tc : Thread Cert.Rhs.nD Cert.Rhs.τ).loc Cert.Rhs.main_arg3) = m ((c.tc : Thread Cert.Rhs.nD Cert.Rhs.τ).loc Cert.Rhs.main_arg3))
      ∧ r.2.sem = fun _ => 0)

def quiescent_RhsIdeal [hRhsIdeal : Cert.RhsIdeal.Facts] : Prop :=
  ∀ (m : (ℓ : Loc Cert.RhsIdeal.nD Cert.RhsIdeal.τ Cert.RhsIdeal.sig) → Buf (Elt Ideal) ℓ) (g : Dev Cert.RhsIdeal.nD → PrngReg), Pre_RhsIdeal m →
    θ_run (Cert.RhsIdeal.defs (F := Ideal)) (onTc (τ := Cert.RhsIdeal.τ) (Cert.RhsIdeal.main (F := Ideal))) ⟨m, fun _ => 0, g⟩ (fun r => (∀ c : Dev Cert.RhsIdeal.nD,
      r.2.mem ((c.tc : Thread Cert.RhsIdeal.nD Cert.RhsIdeal.τ).loc Cert.RhsIdeal.main_arg0) = m ((c.tc : Thread Cert.RhsIdeal.nD Cert.RhsIdeal.τ).loc Cert.RhsIdeal.main_arg0)
      ∧ r.2.mem ((c.tc : Thread Cert.RhsIdeal.nD Cert.RhsIdeal.τ).loc Cert.RhsIdeal.main_arg1) = m ((c.tc : Thread Cert.RhsIdeal.nD Cert.RhsIdeal.τ).loc Cert.RhsIdeal.main_arg1)
      ∧ r.2.mem ((c.tc : Thread Cert.RhsIdeal.nD Cert.RhsIdeal.τ).loc Cert.RhsIdeal.main_arg2) = m ((c.tc : Thread Cert.RhsIdeal.nD Cert.RhsIdeal.τ).loc Cert.RhsIdeal.main_arg2)
      ∧ r.2.mem ((c.tc : Thread Cert.RhsIdeal.nD Cert.RhsIdeal.τ).loc Cert.RhsIdeal.main_arg3) = m ((c.tc : Thread Cert.RhsIdeal.nD Cert.RhsIdeal.τ).loc Cert.RhsIdeal.main_arg3))
      ∧ r.2.sem = fun _ => 0)

def quiescent_RhsRefIdeal [hRhsRefIdeal : Cert.RhsRefIdeal.Facts] : Prop :=
  ∀ (m : (ℓ : Loc Cert.RhsRefIdeal.nD Cert.RhsRefIdeal.τ Cert.RhsRefIdeal.sig) → Buf (Elt Ideal) ℓ) (g : Dev Cert.RhsRefIdeal.nD → PrngReg), Pre_RhsRefIdeal m →
    θ_run (Cert.RhsRefIdeal.defs (F := Ideal)) (onTc (τ := Cert.RhsRefIdeal.τ) (Cert.RhsRefIdeal.main (F := Ideal))) ⟨m, fun _ => 0, g⟩ (fun r => (∀ c : Dev Cert.RhsRefIdeal.nD,
      r.2.mem ((c.tc : Thread Cert.RhsRefIdeal.nD Cert.RhsRefIdeal.τ).loc Cert.RhsRefIdeal.main_arg0) = m ((c.tc : Thread Cert.RhsRefIdeal.nD Cert.RhsRefIdeal.τ).loc Cert.RhsRefIdeal.main_arg0)
      ∧ r.2.mem ((c.tc : Thread Cert.RhsRefIdeal.nD Cert.RhsRefIdeal.τ).loc Cert.RhsRefIdeal.main_arg1) = m ((c.tc : Thread Cert.RhsRefIdeal.nD Cert.RhsRefIdeal.τ).loc Cert.RhsRefIdeal.main_arg1)
      ∧ r.2.mem ((c.tc : Thread Cert.RhsRefIdeal.nD Cert.RhsRefIdeal.τ).loc Cert.RhsRefIdeal.main_arg2) = m ((c.tc : Thread Cert.RhsRefIdeal.nD Cert.RhsRefIdeal.τ).loc Cert.RhsRefIdeal.main_arg2)
      ∧ r.2.mem ((c.tc : Thread Cert.RhsRefIdeal.nD Cert.RhsRefIdeal.τ).loc Cert.RhsRefIdeal.main_arg3) = m ((c.tc : Thread Cert.RhsRefIdeal.nD Cert.RhsRefIdeal.τ).loc Cert.RhsRefIdeal.main_arg3))
      ∧ r.2.sem = fun _ => 0)

def quiescent_Solve [hSolve : Cert.Solve.Facts] : Prop :=
  ∀ (m : (ℓ : Loc Cert.Solve.nD Cert.Solve.τ Cert.Solve.sig) → Buf (Elt Bits) ℓ) (g : Dev Cert.Solve.nD → PrngReg), Pre_Solve m →
    θ_run (Cert.Solve.defs (F := Bits)) (onTc (τ := Cert.Solve.τ) (Cert.Solve.main (F := Bits))) ⟨m, fun _ => 0, g⟩ (fun r => (∀ c : Dev Cert.Solve.nD,
      r.2.mem ((c.tc : Thread Cert.Solve.nD Cert.Solve.τ).loc Cert.Solve.main_arg0) = m ((c.tc : Thread Cert.Solve.nD Cert.Solve.τ).loc Cert.Solve.main_arg0)
      ∧ r.2.mem ((c.tc : Thread Cert.Solve.nD Cert.Solve.τ).loc Cert.Solve.main_arg1) = m ((c.tc : Thread Cert.Solve.nD Cert.Solve.τ).loc Cert.Solve.main_arg1))
      ∧ r.2.sem = fun _ => 0)

def quiescent_SolveIdeal [hSolveIdeal : Cert.SolveIdeal.Facts] : Prop :=
  ∀ (m : (ℓ : Loc Cert.SolveIdeal.nD Cert.SolveIdeal.τ Cert.SolveIdeal.sig) → Buf (Elt Ideal) ℓ) (g : Dev Cert.SolveIdeal.nD → PrngReg), Pre_SolveIdeal m →
    θ_run (Cert.SolveIdeal.defs (F := Ideal)) (onTc (τ := Cert.SolveIdeal.τ) (Cert.SolveIdeal.main (F := Ideal))) ⟨m, fun _ => 0, g⟩ (fun r => (∀ c : Dev Cert.SolveIdeal.nD,
      r.2.mem ((c.tc : Thread Cert.SolveIdeal.nD Cert.SolveIdeal.τ).loc Cert.SolveIdeal.main_arg0) = m ((c.tc : Thread Cert.SolveIdeal.nD Cert.SolveIdeal.τ).loc Cert.SolveIdeal.main_arg0)
      ∧ r.2.mem ((c.tc : Thread Cert.SolveIdeal.nD Cert.SolveIdeal.τ).loc Cert.SolveIdeal.main_arg1) = m ((c.tc : Thread Cert.SolveIdeal.nD Cert.SolveIdeal.τ).loc Cert.SolveIdeal.main_arg1))
      ∧ r.2.sem = fun _ => 0)

def quiescent_SolveIdeal_pre_finite [hSolveIdeal : Cert.SolveIdeal.Facts] [hPre_finite : Cert.Pre_finite.Facts] : Prop :=
  ∀ (m : (ℓ : Loc Cert.SolveIdeal.nD Cert.SolveIdeal.τ Cert.SolveIdeal.sig) → Buf (Elt Ideal) ℓ) (g : Dev Cert.SolveIdeal.nD → PrngReg), Pre_SolveIdeal_finite m →
    θ_run (Cert.SolveIdeal.defs (F := Ideal)) (onTc (τ := Cert.SolveIdeal.τ) (Cert.SolveIdeal.main (F := Ideal))) ⟨m, fun _ => 0, g⟩ (fun r => (∀ c : Dev Cert.SolveIdeal.nD,
      r.2.mem ((c.tc : Thread Cert.SolveIdeal.nD Cert.SolveIdeal.τ).loc Cert.SolveIdeal.main_arg0) = m ((c.tc : Thread Cert.SolveIdeal.nD Cert.SolveIdeal.τ).loc Cert.SolveIdeal.main_arg0)
      ∧ r.2.mem ((c.tc : Thread Cert.SolveIdeal.nD Cert.SolveIdeal.τ).loc Cert.SolveIdeal.main_arg1) = m ((c.tc : Thread Cert.SolveIdeal.nD Cert.SolveIdeal.τ).loc Cert.SolveIdeal.main_arg1))
      ∧ r.2.sem = fun _ => 0)

def quiescent_SolveRefIdeal [hSolveRefIdeal : Cert.SolveRefIdeal.Facts] : Prop :=
  ∀ (m : (ℓ : Loc Cert.SolveRefIdeal.nD Cert.SolveRefIdeal.τ Cert.SolveRefIdeal.sig) → Buf (Elt Ideal) ℓ) (g : Dev Cert.SolveRefIdeal.nD → PrngReg), Pre_SolveRefIdeal m →
    θ_run (Cert.SolveRefIdeal.defs (F := Ideal)) (onTc (τ := Cert.SolveRefIdeal.τ) (Cert.SolveRefIdeal.main (F := Ideal))) ⟨m, fun _ => 0, g⟩ (fun r => (∀ c : Dev Cert.SolveRefIdeal.nD,
      r.2.mem ((c.tc : Thread Cert.SolveRefIdeal.nD Cert.SolveRefIdeal.τ).loc Cert.SolveRefIdeal.main_arg0) = m ((c.tc : Thread Cert.SolveRefIdeal.nD Cert.SolveRefIdeal.τ).loc Cert.SolveRefIdeal.main_arg0)
      ∧ r.2.mem ((c.tc : Thread Cert.SolveRefIdeal.nD Cert.SolveRefIdeal.τ).loc Cert.SolveRefIdeal.main_arg1) = m ((c.tc : Thread Cert.SolveRefIdeal.nD Cert.SolveRefIdeal.τ).loc Cert.SolveRefIdeal.main_arg1))
      ∧ r.2.sem = fun _ => 0)

def quiescent_SolveRefIdeal_pre_finite [hSolveRefIdeal : Cert.SolveRefIdeal.Facts] [hPre_finite : Cert.Pre_finite.Facts] : Prop :=
  ∀ (m : (ℓ : Loc Cert.SolveRefIdeal.nD Cert.SolveRefIdeal.τ Cert.SolveRefIdeal.sig) → Buf (Elt Ideal) ℓ) (g : Dev Cert.SolveRefIdeal.nD → PrngReg), Pre_SolveRefIdeal_finite m →
    θ_run (Cert.SolveRefIdeal.defs (F := Ideal)) (onTc (τ := Cert.SolveRefIdeal.τ) (Cert.SolveRefIdeal.main (F := Ideal))) ⟨m, fun _ => 0, g⟩ (fun r => (∀ c : Dev Cert.SolveRefIdeal.nD,
      r.2.mem ((c.tc : Thread Cert.SolveRefIdeal.nD Cert.SolveRefIdeal.τ).loc Cert.SolveRefIdeal.main_arg0) = m ((c.tc : Thread Cert.SolveRefIdeal.nD Cert.SolveRefIdeal.τ).loc Cert.SolveRefIdeal.main_arg0)
      ∧ r.2.mem ((c.tc : Thread Cert.SolveRefIdeal.nD Cert.SolveRefIdeal.τ).loc Cert.SolveRefIdeal.main_arg1) = m ((c.tc : Thread Cert.SolveRefIdeal.nD Cert.SolveRefIdeal.τ).loc Cert.SolveRefIdeal.main_arg1))
      ∧ r.2.sem = fun _ => 0)

def quiescent_Inverse [hInverse : Cert.Inverse.Facts] : Prop :=
  ∀ (m : (ℓ : Loc Cert.Inverse.nD Cert.Inverse.τ Cert.Inverse.sig) → Buf (Elt Bits) ℓ) (g : Dev Cert.Inverse.nD → PrngReg), Pre_Inverse m →
    θ_run (Cert.Inverse.defs (F := Bits)) (onTc (τ := Cert.Inverse.τ) (Cert.Inverse.main (F := Bits))) ⟨m, fun _ => 0, g⟩ (fun r => (∀ c : Dev Cert.Inverse.nD,
      r.2.mem ((c.tc : Thread Cert.Inverse.nD Cert.Inverse.τ).loc Cert.Inverse.main_arg0) = m ((c.tc : Thread Cert.Inverse.nD Cert.Inverse.τ).loc Cert.Inverse.main_arg0)
      ∧ r.2.mem ((c.tc : Thread Cert.Inverse.nD Cert.Inverse.τ).loc Cert.Inverse.main_arg1) = m ((c.tc : Thread Cert.Inverse.nD Cert.Inverse.τ).loc Cert.Inverse.main_arg1))
      ∧ r.2.sem = fun _ => 0)

def quiescent_InverseIdeal [hInverseIdeal : Cert.InverseIdeal.Facts] : Prop :=
  ∀ (m : (ℓ : Loc Cert.InverseIdeal.nD Cert.InverseIdeal.τ Cert.InverseIdeal.sig) → Buf (Elt Ideal) ℓ) (g : Dev Cert.InverseIdeal.nD → PrngReg), Pre_InverseIdeal m →
    θ_run (Cert.InverseIdeal.defs (F := Ideal)) (onTc (τ := Cert.InverseIdeal.τ) (Cert.InverseIdeal.main (F := Ideal))) ⟨m, fun _ => 0, g⟩ (fun r => (∀ c : Dev Cert.InverseIdeal.nD,
      r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
      ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1))
      ∧ r.2.sem = fun _ => 0)

def quiescent_InverseIdeal_pre_factored [hInverseIdeal : Cert.InverseIdeal.Facts] [hPre_factored : Cert.Pre_factored.Facts] : Prop :=
  ∀ (m : (ℓ : Loc Cert.InverseIdeal.nD Cert.InverseIdeal.τ Cert.InverseIdeal.sig) → Buf (Elt Ideal) ℓ) (g : Dev Cert.InverseIdeal.nD → PrngReg), Pre_InverseIdeal_factored m →
    θ_run (Cert.InverseIdeal.defs (F := Ideal)) (onTc (τ := Cert.InverseIdeal.τ) (Cert.InverseIdeal.main (F := Ideal))) ⟨m, fun _ => 0, g⟩ (fun r => (∀ c : Dev Cert.InverseIdeal.nD,
      r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
      ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1))
      ∧ r.2.sem = fun _ => 0)

def quiescent_InverseRefIdeal [hInverseRefIdeal : Cert.InverseRefIdeal.Facts] : Prop :=
  ∀ (m : (ℓ : Loc Cert.InverseRefIdeal.nD Cert.InverseRefIdeal.τ Cert.InverseRefIdeal.sig) → Buf (Elt Ideal) ℓ) (g : Dev Cert.InverseRefIdeal.nD → PrngReg), Pre_InverseRefIdeal m →
    θ_run (Cert.InverseRefIdeal.defs (F := Ideal)) (onTc (τ := Cert.InverseRefIdeal.τ) (Cert.InverseRefIdeal.main (F := Ideal))) ⟨m, fun _ => 0, g⟩ (fun r => (∀ c : Dev Cert.InverseRefIdeal.nD,
      r.2.mem ((c.tc : Thread Cert.InverseRefIdeal.nD Cert.InverseRefIdeal.τ).loc Cert.InverseRefIdeal.main_arg0) = m ((c.tc : Thread Cert.InverseRefIdeal.nD Cert.InverseRefIdeal.τ).loc Cert.InverseRefIdeal.main_arg0)
      ∧ r.2.mem ((c.tc : Thread Cert.InverseRefIdeal.nD Cert.InverseRefIdeal.τ).loc Cert.InverseRefIdeal.main_arg1) = m ((c.tc : Thread Cert.InverseRefIdeal.nD Cert.InverseRefIdeal.τ).loc Cert.InverseRefIdeal.main_arg1))
      ∧ r.2.sem = fun _ => 0)

def quiescent_InverseRefIdeal_pre_factored [hInverseRefIdeal : Cert.InverseRefIdeal.Facts] [hPre_factored : Cert.Pre_factored.Facts] : Prop :=
  ∀ (m : (ℓ : Loc Cert.InverseRefIdeal.nD Cert.InverseRefIdeal.τ Cert.InverseRefIdeal.sig) → Buf (Elt Ideal) ℓ) (g : Dev Cert.InverseRefIdeal.nD → PrngReg), Pre_InverseRefIdeal_factored m →
    θ_run (Cert.InverseRefIdeal.defs (F := Ideal)) (onTc (τ := Cert.InverseRefIdeal.τ) (Cert.InverseRefIdeal.main (F := Ideal))) ⟨m, fun _ => 0, g⟩ (fun r => (∀ c : Dev Cert.InverseRefIdeal.nD,
      r.2.mem ((c.tc : Thread Cert.InverseRefIdeal.nD Cert.InverseRefIdeal.τ).loc Cert.InverseRefIdeal.main_arg0) = m ((c.tc : Thread Cert.InverseRefIdeal.nD Cert.InverseRefIdeal.τ).loc Cert.InverseRefIdeal.main_arg0)
      ∧ r.2.mem ((c.tc : Thread Cert.InverseRefIdeal.nD Cert.InverseRefIdeal.τ).loc Cert.InverseRefIdeal.main_arg1) = m ((c.tc : Thread Cert.InverseRefIdeal.nD Cert.InverseRefIdeal.τ).loc Cert.InverseRefIdeal.main_arg1))
      ∧ r.2.sem = fun _ => 0)

def preserves_Rhs_RhsIdeal : Prop :=
  True

def algebraic_RhsIdeal_RhsRefIdeal [hRhsIdeal : Cert.RhsIdeal.Facts] [hRhsRefIdeal : Cert.RhsRefIdeal.Facts] : Prop :=
  ∀ (m : (ℓ : Loc Cert.RhsIdeal.nD Cert.RhsIdeal.τ Cert.RhsIdeal.sig) → Buf (Elt Ideal) ℓ) (g : Dev Cert.RhsIdeal.nD → PrngReg)
    (m' : (ℓ : Loc Cert.RhsRefIdeal.nD Cert.RhsRefIdeal.τ Cert.RhsRefIdeal.sig) → Buf (Elt Ideal) ℓ) (g' : Dev Cert.RhsRefIdeal.nD → PrngReg), Pre_RhsIdeal m →
    (∀ c : Dev Cert.RhsIdeal.nD,
      m' ((c.tc : Thread Cert.RhsRefIdeal.nD Cert.RhsRefIdeal.τ).loc Cert.RhsRefIdeal.main_arg0) = m ((c.tc : Thread Cert.RhsIdeal.nD Cert.RhsIdeal.τ).loc Cert.RhsIdeal.main_arg0)
      ∧ m' ((c.tc : Thread Cert.RhsRefIdeal.nD Cert.RhsRefIdeal.τ).loc Cert.RhsRefIdeal.main_arg1) = m ((c.tc : Thread Cert.RhsIdeal.nD Cert.RhsIdeal.τ).loc Cert.RhsIdeal.main_arg1)
      ∧ m' ((c.tc : Thread Cert.RhsRefIdeal.nD Cert.RhsRefIdeal.τ).loc Cert.RhsRefIdeal.main_arg2) = m ((c.tc : Thread Cert.RhsIdeal.nD Cert.RhsIdeal.τ).loc Cert.RhsIdeal.main_arg2)
      ∧ m' ((c.tc : Thread Cert.RhsRefIdeal.nD Cert.RhsRefIdeal.τ).loc Cert.RhsRefIdeal.main_arg3) = m ((c.tc : Thread Cert.RhsIdeal.nD Cert.RhsIdeal.τ).loc Cert.RhsIdeal.main_arg3)) →
    ∃ (v0 : (c : Dev Cert.RhsIdeal.nD) → Buf (Elt Ideal) ((c.tc : Thread Cert.RhsIdeal.nD Cert.RhsIdeal.τ).loc Cert.RhsIdeal.main_v1)),
      θ_run (Cert.RhsIdeal.defs (F := Ideal)) (onTc (τ := Cert.RhsIdeal.τ) (Cert.RhsIdeal.main (F := Ideal))) ⟨m, fun _ => 0, g⟩ (fun r => ∀ c : Dev Cert.RhsIdeal.nD,
          r.2.mem ((c.tc : Thread Cert.RhsIdeal.nD Cert.RhsIdeal.τ).loc Cert.RhsIdeal.main_v1) = v0 c
          ∧ r.2.mem ((c.tc : Thread Cert.RhsIdeal.nD Cert.RhsIdeal.τ).loc Cert.RhsIdeal.main_arg0) = m ((c.tc : Thread Cert.RhsIdeal.nD Cert.RhsIdeal.τ).loc Cert.RhsIdeal.main_arg0)
          ∧ r.2.mem ((c.tc : Thread Cert.RhsIdeal.nD Cert.RhsIdeal.τ).loc Cert.RhsIdeal.main_arg1) = m ((c.tc : Thread Cert.RhsIdeal.nD Cert.RhsIdeal.τ).loc Cert.RhsIdeal.main_arg1)
          ∧ r.2.mem ((c.tc : Thread Cert.RhsIdeal.nD Cert.RhsIdeal.τ).loc Cert.RhsIdeal.main_arg2) = m ((c.tc : Thread Cert.RhsIdeal.nD Cert.RhsIdeal.τ).loc Cert.RhsIdeal.main_arg2)
          ∧ r.2.mem ((c.tc : Thread Cert.RhsIdeal.nD Cert.RhsIdeal.τ).loc Cert.RhsIdeal.main_arg3) = m ((c.tc : Thread Cert.RhsIdeal.nD Cert.RhsIdeal.τ).loc Cert.RhsIdeal.main_arg3))
      ∧ θ_run (Cert.RhsRefIdeal.defs (F := Ideal)) (onTc (τ := Cert.RhsRefIdeal.τ) (Cert.RhsRefIdeal.main (F := Ideal))) ⟨m', fun _ => 0, g'⟩ (fun r => ∀ c : Dev Cert.RhsRefIdeal.nD,
          r.2.mem ((c.tc : Thread Cert.RhsRefIdeal.nD Cert.RhsRefIdeal.τ).loc Cert.RhsRefIdeal.main_v0) = v0 c
          ∧ r.2.mem ((c.tc : Thread Cert.RhsRefIdeal.nD Cert.RhsRefIdeal.τ).loc Cert.RhsRefIdeal.main_arg0) = m' ((c.tc : Thread Cert.RhsRefIdeal.nD Cert.RhsRefIdeal.τ).loc Cert.RhsRefIdeal.main_arg0)
          ∧ r.2.mem ((c.tc : Thread Cert.RhsRefIdeal.nD Cert.RhsRefIdeal.τ).loc Cert.RhsRefIdeal.main_arg1) = m' ((c.tc : Thread Cert.RhsRefIdeal.nD Cert.RhsRefIdeal.τ).loc Cert.RhsRefIdeal.main_arg1)
          ∧ r.2.mem ((c.tc : Thread Cert.RhsRefIdeal.nD Cert.RhsRefIdeal.τ).loc Cert.RhsRefIdeal.main_arg2) = m' ((c.tc : Thread Cert.RhsRefIdeal.nD Cert.RhsRefIdeal.τ).loc Cert.RhsRefIdeal.main_arg2)
          ∧ r.2.mem ((c.tc : Thread Cert.RhsRefIdeal.nD Cert.RhsRefIdeal.τ).loc Cert.RhsRefIdeal.main_arg3) = m' ((c.tc : Thread Cert.RhsRefIdeal.nD Cert.RhsRefIdeal.τ).loc Cert.RhsRefIdeal.main_arg3))

def preserves_Solve_SolveIdeal : Prop :=
  True

def algebraic_SolveIdeal_SolveRefIdeal_pre_finite [hSolveIdeal : Cert.SolveIdeal.Facts] [hSolveRefIdeal : Cert.SolveRefIdeal.Facts] [hPre_finite : Cert.Pre_finite.Facts] : Prop :=
  ∀ (m : (ℓ : Loc Cert.SolveIdeal.nD Cert.SolveIdeal.τ Cert.SolveIdeal.sig) → Buf (Elt Ideal) ℓ) (g : Dev Cert.SolveIdeal.nD → PrngReg)
    (m' : (ℓ : Loc Cert.SolveRefIdeal.nD Cert.SolveRefIdeal.τ Cert.SolveRefIdeal.sig) → Buf (Elt Ideal) ℓ) (g' : Dev Cert.SolveRefIdeal.nD → PrngReg), Pre_SolveIdeal_finite m →
    (∀ c : Dev Cert.SolveIdeal.nD,
      m' ((c.tc : Thread Cert.SolveRefIdeal.nD Cert.SolveRefIdeal.τ).loc Cert.SolveRefIdeal.main_arg0) = m ((c.tc : Thread Cert.SolveIdeal.nD Cert.SolveIdeal.τ).loc Cert.SolveIdeal.main_arg0)
      ∧ m' ((c.tc : Thread Cert.SolveRefIdeal.nD Cert.SolveRefIdeal.τ).loc Cert.SolveRefIdeal.main_arg1) = m ((c.tc : Thread Cert.SolveIdeal.nD Cert.SolveIdeal.τ).loc Cert.SolveIdeal.main_arg1)) →
    ∃ (v0 : (c : Dev Cert.SolveIdeal.nD) → Buf (Elt Ideal) ((c.tc : Thread Cert.SolveIdeal.nD Cert.SolveIdeal.τ).loc Cert.SolveIdeal.main_v0)),
      θ_run (Cert.SolveIdeal.defs (F := Ideal)) (onTc (τ := Cert.SolveIdeal.τ) (Cert.SolveIdeal.main (F := Ideal))) ⟨m, fun _ => 0, g⟩ (fun r => ∀ c : Dev Cert.SolveIdeal.nD,
          r.2.mem ((c.tc : Thread Cert.SolveIdeal.nD Cert.SolveIdeal.τ).loc Cert.SolveIdeal.main_v0) = v0 c
          ∧ r.2.mem ((c.tc : Thread Cert.SolveIdeal.nD Cert.SolveIdeal.τ).loc Cert.SolveIdeal.main_arg0) = m ((c.tc : Thread Cert.SolveIdeal.nD Cert.SolveIdeal.τ).loc Cert.SolveIdeal.main_arg0)
          ∧ r.2.mem ((c.tc : Thread Cert.SolveIdeal.nD Cert.SolveIdeal.τ).loc Cert.SolveIdeal.main_arg1) = m ((c.tc : Thread Cert.SolveIdeal.nD Cert.SolveIdeal.τ).loc Cert.SolveIdeal.main_arg1))
      ∧ θ_run (Cert.SolveRefIdeal.defs (F := Ideal)) (onTc (τ := Cert.SolveRefIdeal.τ) (Cert.SolveRefIdeal.main (F := Ideal))) ⟨m', fun _ => 0, g'⟩ (fun r => ∀ c : Dev Cert.SolveRefIdeal.nD,
          r.2.mem ((c.tc : Thread Cert.SolveRefIdeal.nD Cert.SolveRefIdeal.τ).loc Cert.SolveRefIdeal.main_v9) = v0 c
          ∧ r.2.mem ((c.tc : Thread Cert.SolveRefIdeal.nD Cert.SolveRefIdeal.τ).loc Cert.SolveRefIdeal.main_arg0) = m' ((c.tc : Thread Cert.SolveRefIdeal.nD Cert.SolveRefIdeal.τ).loc Cert.SolveRefIdeal.main_arg0)
          ∧ r.2.mem ((c.tc : Thread Cert.SolveRefIdeal.nD Cert.SolveRefIdeal.τ).loc Cert.SolveRefIdeal.main_arg1) = m' ((c.tc : Thread Cert.SolveRefIdeal.nD Cert.SolveRefIdeal.τ).loc Cert.SolveRefIdeal.main_arg1))

def preserves_Inverse_InverseIdeal : Prop :=
  True

def algebraic_InverseIdeal_InverseRefIdeal_pre_factored [hInverseIdeal : Cert.InverseIdeal.Facts] [hInverseRefIdeal : Cert.InverseRefIdeal.Facts] [hPre_factored : Cert.Pre_factored.Facts] : Prop :=
  ∀ (m : (ℓ : Loc Cert.InverseIdeal.nD Cert.InverseIdeal.τ Cert.InverseIdeal.sig) → Buf (Elt Ideal) ℓ) (g : Dev Cert.InverseIdeal.nD → PrngReg)
    (m' : (ℓ : Loc Cert.InverseRefIdeal.nD Cert.InverseRefIdeal.τ Cert.InverseRefIdeal.sig) → Buf (Elt Ideal) ℓ) (g' : Dev Cert.InverseRefIdeal.nD → PrngReg), Pre_InverseIdeal_factored m →
    (∀ c : Dev Cert.InverseIdeal.nD,
      m' ((c.tc : Thread Cert.InverseRefIdeal.nD Cert.InverseRefIdeal.τ).loc Cert.InverseRefIdeal.main_arg0) = m ((c.tc : Thread Cert.InverseIdeal.nD Cert.InverseIdeal.τ).loc Cert.InverseIdeal.main_arg0)
      ∧ m' ((c.tc : Thread Cert.InverseRefIdeal.nD Cert.InverseRefIdeal.τ).loc Cert.InverseRefIdeal.main_arg1) = m ((c.tc : Thread Cert.InverseIdeal.nD Cert.InverseIdeal.τ).loc Cert.InverseIdeal.main_arg1)) →
    ∃ (v0 : (c : Dev Cert.InverseIdeal.nD) → Buf (Elt Ideal) ((c.tc : Thread Cert.InverseIdeal.nD Cert.InverseIdeal.τ).loc Cert.InverseIdeal.main_v0_0)) (v1 : (c : Dev Cert.InverseIdeal.nD) → Buf (Elt Ideal) ((c.tc : Thread Cert.InverseIdeal.nD Cert.InverseIdeal.τ).loc Cert.InverseIdeal.main_v0_1)),
      θ_run (Cert.InverseIdeal.defs (F := Ideal)) (onTc (τ := Cert.InverseIdeal.τ) (Cert.InverseIdeal.main (F := Ideal))) ⟨m, fun _ => 0, g⟩ (fun r => ∀ c : Dev Cert.InverseIdeal.nD,
          r.2.mem ((c.tc : Thread Cert.InverseIdeal.nD Cert.InverseIdeal.τ).loc Cert.InverseIdeal.main_v0_0) = v0 c
          ∧ r.2.mem ((c.tc : Thread Cert.InverseIdeal.nD Cert.InverseIdeal.τ).loc Cert.InverseIdeal.main_v0_1) = v1 c
          ∧ r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
          ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1))
      ∧ θ_run (Cert.InverseRefIdeal.defs (F := Ideal)) (onTc (τ := Cert.InverseRefIdeal.τ) (Cert.InverseRefIdeal.main (F := Ideal))) ⟨m', fun _ => 0, g'⟩ (fun r => ∀ c : Dev Cert.InverseRefIdeal.nD,
          r.2.mem ((c.tc : Thread Cert.InverseRefIdeal.nD Cert.InverseRefIdeal.τ).loc Cert.InverseRefIdeal.main_v19) = v0 c
          ∧ r.2.mem ((c.tc : Thread Cert.InverseRefIdeal.nD Cert.InverseRefIdeal.τ).loc Cert.InverseRefIdeal.main_v20) = v1 c
          ∧ r.2.mem ((c.tc : Thread Cert.InverseRefIdeal.nD Cert.InverseRefIdeal.τ).loc Cert.InverseRefIdeal.main_arg0) = m' ((c.tc : Thread Cert.InverseRefIdeal.nD Cert.InverseRefIdeal.τ).loc Cert.InverseRefIdeal.main_arg0)
          ∧ r.2.mem ((c.tc : Thread Cert.InverseRefIdeal.nD Cert.InverseRefIdeal.τ).loc Cert.InverseRefIdeal.main_arg1) = m' ((c.tc : Thread Cert.InverseRefIdeal.nD Cert.InverseRefIdeal.τ).loc Cert.InverseRefIdeal.main_arg1))

def Claim : Prop :=
  ∃ (hRhs : Cert.Rhs.Facts) (hRhsIdeal : Cert.RhsIdeal.Facts) (hRhsRefIdeal : Cert.RhsRefIdeal.Facts) (hSolve : Cert.Solve.Facts) (hSolveIdeal : Cert.SolveIdeal.Facts) (hSolveRefIdeal : Cert.SolveRefIdeal.Facts) (hInverse : Cert.Inverse.Facts) (hInverseIdeal : Cert.InverseIdeal.Facts) (hInverseRefIdeal : Cert.InverseRefIdeal.Facts) (hPre_finite : Cert.Pre_finite.Facts) (hPre_factored : Cert.Pre_factored.Facts),
    quiescent_Rhs (hRhs := hRhs)
    ∧ quiescent_RhsIdeal (hRhsIdeal := hRhsIdeal)
    ∧ quiescent_RhsRefIdeal (hRhsRefIdeal := hRhsRefIdeal)
    ∧ quiescent_Solve (hSolve := hSolve)
    ∧ quiescent_SolveIdeal (hSolveIdeal := hSolveIdeal)
    ∧ quiescent_SolveIdeal_pre_finite (hSolveIdeal := hSolveIdeal) (hPre_finite := hPre_finite)
    ∧ quiescent_SolveRefIdeal (hSolveRefIdeal := hSolveRefIdeal)
    ∧ quiescent_SolveRefIdeal_pre_finite (hSolveRefIdeal := hSolveRefIdeal) (hPre_finite := hPre_finite)
    ∧ quiescent_Inverse (hInverse := hInverse)
    ∧ quiescent_InverseIdeal (hInverseIdeal := hInverseIdeal)
    ∧ quiescent_InverseIdeal_pre_factored (hInverseIdeal := hInverseIdeal) (hPre_factored := hPre_factored)
    ∧ quiescent_InverseRefIdeal (hInverseRefIdeal := hInverseRefIdeal)
    ∧ quiescent_InverseRefIdeal_pre_factored (hInverseRefIdeal := hInverseRefIdeal) (hPre_factored := hPre_factored)
    ∧ preserves_Rhs_RhsIdeal
    ∧ algebraic_RhsIdeal_RhsRefIdeal (hRhsIdeal := hRhsIdeal) (hRhsRefIdeal := hRhsRefIdeal)
    ∧ preserves_Solve_SolveIdeal
    ∧ algebraic_SolveIdeal_SolveRefIdeal_pre_finite (hSolveIdeal := hSolveIdeal) (hSolveRefIdeal := hSolveRefIdeal) (hPre_finite := hPre_finite)
    ∧ preserves_Inverse_InverseIdeal
    ∧ algebraic_InverseIdeal_InverseRefIdeal_pre_factored (hInverseIdeal := hInverseIdeal) (hInverseRefIdeal := hInverseRefIdeal) (hPre_factored := hPre_factored)
-- ==== Pre_factored.lean ====
abbrev S6x2560x2560 : Shape := ⟨3, ![6, 2560, 2560]⟩
abbrev S2560x2560 : Shape := ⟨2, ![2560, 2560]⟩
abbrev S_ : Shape := ⟨0, ![]⟩

class Facts : Prop where
  bitsLt_bf16_f32 : FTy.bits .bf16 < FTy.bits .f32
  reducesTo_S6x2560x2560_S2560x2560_d0 : S6x2560x2560.ReducesTo [0] S2560x2560
  h_S_ : 0 < S_.numel
  bcast_S_S2560x2560 : S_.BroadcastsInDim S2560x2560 (![] : Fin 0 → Fin S2560x2560.rank)
  transposes_S2560x2560_S2560x2560_1_0 : S2560x2560.Transposes [1, 0] S2560x2560
  reducesTo_S2560x2560_S_d0_1 : S2560x2560.ReducesTo [0, 1] S_
  bcast_S_S6x2560x2560 : S_.BroadcastsInDim S6x2560x2560 (![] : Fin 0 → Fin S6x2560x2560.rank)
  reducesTo_S6x2560x2560_S_d0_1_2 : S6x2560x2560.ReducesTo [0, 1, 2] S_
  dot_S2560x2560_S2560x2560_S2560x2560_1_0_0_1_n_n_wf : DotDims.WF S2560x2560 S2560x2560 S2560x2560 [1] [0] [0] [1] [] []

variable [Facts]

def dot_S2560x2560_S2560x2560_S2560x2560_1_0_0_1_n_n : DotDims S2560x2560 S2560x2560 S2560x2560 where
  lhsContracting := [1]
  rhsContracting := [0]
  lhsNonContracting := [0]
  rhsNonContracting := [1]
  lhsBatch := []
  rhsBatch := []
  wf := dot_S2560x2560_S2560x2560_S2560x2560_1_0_0_1_n_n_wf
def fn_where {F : FTy → Type} [FloatOps F] (arg0 : IVec S2560x2560 1) (arg1 : FVec F S2560x2560 .f32) (arg2 : FVec F S_ .f32) : FVec F S2560x2560 .f32 :=
  let v0 : FVec F S_ .f32 := id arg2
  let v1 : FVec F S2560x2560 .f32 := broadcastInDim S2560x2560 ![] bcast_S_S2560x2560 v0
  let v2 : FVec F S2560x2560 .f32 := select arg0 arg1 v1
  v2

def fn_part1 {F : FTy → Type} [FloatOps F] (main_arg0 : FVec F S6x2560x2560 .bf16) (main_arg1 : FVec F S2560x2560 .f32) (main_v15 : FVec F S2560x2560 .f32) (main_v16 : IVec S2560x2560 32) (main_v17 : IVec S2560x2560 32) (main_c_3 : IVec S_ 32) : IVec S_ 1 :=
  let main_v18 : IVec S2560x2560 32 := broadcastInDim S2560x2560 ![] bcast_S_S2560x2560 main_c_3
  let main_v19 : IVec S2560x2560 32 := addi main_v16 main_v18
  let main_v20 : IVec S2560x2560 1 := cmpi .eq main_v19 main_v17
  let main_v21 : FVec F S2560x2560 .f32 := uitofp .f32 main_v20
  let main_v22 : IVec S2560x2560 1 := cmpf .oeq main_v15 main_v21
  let main_c_4 : IVec S_ 1 := constantI S_ 1 1#1
  let main_v23 : IVec S_ 1 := (fun x v => Host.reduce IntOp.andi x v reducesTo_S2560x2560_S_d0_1 h_S_) main_v22 main_c_4
  let main_v24 : FVec F S6x2560x2560 .f32 := (extf .f32 · bitsLt_bf16_f32) main_arg0
  let main_v25 : FVec F S6x2560x2560 .f32 := Host.absf main_v24
  let main_cst_5 : FVec F S_ .f32 := constant S_ .f32 0x7F800000#32
  let main_v26 : FVec F S6x2560x2560 .f32 := broadcastInDim S6x2560x2560 ![] bcast_S_S6x2560x2560 main_cst_5
  let main_v27 : IVec S6x2560x2560 1 := cmpf .olt main_v25 main_v26
  let main_c_6 : IVec S_ 1 := constantI S_ 1 1#1
  let main_v28 : IVec S_ 1 := (fun x v => Host.reduce IntOp.andi x v reducesTo_S6x2560x2560_S_d0_1_2 h_S_) main_v27 main_c_6
  let main_v29 : FVec F S2560x2560 .f32 := Host.absf main_arg1
  let main_cst_7 : FVec F S_ .f32 := constant S_ .f32 0x7F800000#32
  let main_v30 : FVec F S2560x2560 .f32 := broadcastInDim S2560x2560 ![] bcast_S_S2560x2560 main_cst_7
  let main_v31 : IVec S2560x2560 1 := cmpf .olt main_v29 main_v30
  let main_c_8 : IVec S_ 1 := constantI S_ 1 1#1
  let main_v32 : IVec S_ 1 := (fun x v => Host.reduce IntOp.andi x v reducesTo_S2560x2560_S_d0_1 h_S_) main_v31 main_c_8
  let main_v33 : IVec S_ 1 := andi main_v28 main_v32
  let main_v34 : IVec S_ 1 := andi main_v33 main_v23
  main_v34

def fn {F : FTy → Type} [FloatOps F] (main_arg0 : FVec F S6x2560x2560 .bf16) (main_arg1 : FVec F S2560x2560 .f32) : IVec S_ 1 :=
  let main_v0 : FVec F S6x2560x2560 .f32 := (extf .f32 · bitsLt_bf16_f32) main_arg0
  let main_cst : FVec F S_ .f32 := constant S_ .f32 0x00000000#32
  let main_v1 : FVec F S2560x2560 .f32 := (fun x v => Host.reduceAdd x v reducesTo_S6x2560x2560_S2560x2560_d0 h_S_) main_v0 main_cst
  let main_cst_0 : FVec F S_ .f32 := constant S_ .f32 0x3F666666#32
  let main_v2 : FVec F S2560x2560 .f32 := broadcastInDim S2560x2560 ![] bcast_S_S2560x2560 main_cst_0
  let main_v3 : FVec F S2560x2560 .f32 := mulf main_v2 main_v1
  let main_v4 : IVec S2560x2560 32 := iotaInDim S2560x2560 32 0
  let main_v5 : IVec S2560x2560 32 := iotaInDim S2560x2560 32 1
  let main_c : IVec S_ 32 := constantI S_ 32 0#32
  let main_v6 : IVec S2560x2560 32 := broadcastInDim S2560x2560 ![] bcast_S_S2560x2560 main_c
  let main_v7 : IVec S2560x2560 32 := addi main_v4 main_v6
  let main_v8 : IVec S2560x2560 1 := cmpi .eq main_v7 main_v5
  let main_cst_1 : FVec F S_ .f32 := constant S_ .f32 0x00000000#32
  let main_v9 : FVec F S2560x2560 .f32 := fn_where (F := F) main_v8 main_v1 main_cst_1
  let main_cst_2 : FVec F S_ .f32 := constant S_ .f32 0x3DCCCCCD#32
  let main_v10 : FVec F S2560x2560 .f32 := broadcastInDim S2560x2560 ![] bcast_S_S2560x2560 main_cst_2
  let main_v11 : FVec F S2560x2560 .f32 := mulf main_v10 main_v9
  let main_v12 : FVec F S2560x2560 .f32 := addf main_v3 main_v11
  let main_v13 : FVec F S2560x2560 .f32 := (fun l r => Host.dotGeneral dot_S2560x2560_S2560x2560_S2560x2560_1_0_0_1_n_n none l r) main_arg1 main_v12
  let main_v14 : FVec F S2560x2560 .f32 := (transpose S2560x2560 [1, 0] · transposes_S2560x2560_S2560x2560_1_0) main_arg1
  let main_v15 : FVec F S2560x2560 .f32 := (fun l r => Host.dotGeneral dot_S2560x2560_S2560x2560_S2560x2560_1_0_0_1_n_n none l r) main_v13 main_v14
  let main_v16 : IVec S2560x2560 32 := iotaInDim S2560x2560 32 0
  let main_v17 : IVec S2560x2560 32 := iotaInDim S2560x2560 32 1
  let main_c_3 : IVec S_ 32 := constantI S_ 32 0#32
  fn_part1 (F := F) main_arg0 main_arg1 main_v15 main_v16 main_v17 main_c_3
-- ==== Pre_finite.lean ====
abbrev S2560x7680 : Shape := ⟨2, ![2560, 7680]⟩
abbrev S2560x10240 : Shape := ⟨2, ![2560, 10240]⟩
abbrev S_ : Shape := ⟨0, ![]⟩

class Facts : Prop where
  bitsLt_bf16_f32 : FTy.bits .bf16 < FTy.bits .f32
  bcast_S_S2560x7680 : S_.BroadcastsInDim S2560x7680 (![] : Fin 0 → Fin S2560x7680.rank)
  reducesTo_S2560x7680_S_d0_1 : S2560x7680.ReducesTo [0, 1] S_
  h_S_ : 0 < S_.numel
  bcast_S_S2560x10240 : S_.BroadcastsInDim S2560x10240 (![] : Fin 0 → Fin S2560x10240.rank)
  reducesTo_S2560x10240_S_d0_1 : S2560x10240.ReducesTo [0, 1] S_

variable [Facts]

def fn {F : FTy → Type} [FloatOps F] (main_arg0 : FVec F S2560x7680 .bf16) (main_arg1 : FVec F S2560x10240 .f32) : IVec S_ 1 :=
  let main_v0 : FVec F S2560x7680 .f32 := (extf .f32 · bitsLt_bf16_f32) main_arg0
  let main_v1 : FVec F S2560x7680 .f32 := Host.absf main_v0
  let main_cst : FVec F S_ .f32 := constant S_ .f32 0x7F800000#32
  let main_v2 : FVec F S2560x7680 .f32 := broadcastInDim S2560x7680 ![] bcast_S_S2560x7680 main_cst
  let main_v3 : IVec S2560x7680 1 := cmpf .olt main_v1 main_v2
  let main_c : IVec S_ 1 := constantI S_ 1 1#1
  let main_v4 : IVec S_ 1 := (fun x v => Host.reduce IntOp.andi x v reducesTo_S2560x7680_S_d0_1 h_S_) main_v3 main_c
  let main_v5 : FVec F S2560x10240 .f32 := Host.absf main_arg1
  let main_cst_0 : FVec F S_ .f32 := constant S_ .f32 0x7F800000#32
  let main_v6 : FVec F S2560x10240 .f32 := broadcastInDim S2560x10240 ![] bcast_S_S2560x10240 main_cst_0
  let main_v7 : IVec S2560x10240 1 := cmpf .olt main_v5 main_v6
  let main_c_1 : IVec S_ 1 := constantI S_ 1 1#1
  let main_v8 : IVec S_ 1 := (fun x v => Host.reduce IntOp.andi x v reducesTo_S2560x10240_S_d0_1 h_S_) main_v7 main_c_1
  let main_v9 : IVec S_ 1 := andi main_v4 main_v8
  main_v9
-- ==== Rhs.lean ====
abbrev S6x2560x2560 : Shape := ⟨3, ![6, 2560, 2560]⟩
abbrev S6x2560x10240 : Shape := ⟨3, ![6, 2560, 10240]⟩
abbrev S6x10240 : Shape := ⟨2, ![6, 10240]⟩
abbrev S2560x128 : Shape := ⟨2, ![2560, 128]⟩
abbrev S6x1x10240 : Shape := ⟨3, ![6, 1, 10240]⟩
abbrev S2560x10240 : Shape := ⟨2, ![2560, 10240]⟩
abbrev S1x2560x1024 : Shape := ⟨3, ![1, 2560, 1024]⟩
abbrev S1x1280x1024 : Shape := ⟨3, ![1, 1280, 1024]⟩
abbrev S1x1x1024 : Shape := ⟨3, ![1, 1, 1024]⟩
abbrev S1x1280x2560 : Shape := ⟨3, ![1, 1280, 2560]⟩
abbrev S2560x1024 : Shape := ⟨2, ![2560, 1024]⟩
abbrev S2x2560x1024 : Shape := ⟨3, ![2, 2560, 1024]⟩
abbrev S1x1024 : Shape := ⟨2, ![1, 1024]⟩
abbrev S1280x1024 : Shape := ⟨2, ![1280, 1024]⟩
abbrev S1280x128 : Shape := ⟨2, ![1280, 128]⟩
abbrev S1280 : Shape := ⟨1, ![1280]⟩
abbrev S1280x1 : Shape := ⟨2, ![1280, 1]⟩
abbrev S1280x2560 : Shape := ⟨2, ![1280, 2560]⟩

abbrev nBuf : Space → Nat
  | .hbm => 6
  | .vmem => 12
  | .smem => 0
  | _ => 0

abbrev bufTy : (tb : Table) → Fin (tcTables nBuf tb) → BufTy
  | .hbm, ⟨0, _⟩ => ⟨S6x2560x2560, .bf16⟩
  | .hbm, ⟨1, _⟩ => ⟨S6x2560x10240, .i8⟩
  | .hbm, ⟨2, _⟩ => ⟨S6x10240, .f32⟩
  | .hbm, ⟨3, _⟩ => ⟨S2560x128, .f32⟩
  | .hbm, ⟨4, _⟩ => ⟨S6x1x10240, .f32⟩
  | .hbm, ⟨5, _⟩ => ⟨S2560x10240, .f32⟩
  | .local _ .vmem, ⟨0, _⟩ => ⟨S1x2560x1024, .i8⟩
  | .local _ .vmem, ⟨1, _⟩ => ⟨S1x1280x1024, .i8⟩
  | .local _ .vmem, ⟨2, _⟩ => ⟨S1x1280x1024, .i8⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1280x2560, .bf16⟩
  | .local _ .vmem, ⟨7, _⟩ => ⟨S1x1280x2560, .bf16⟩
  | .local _ .vmem, ⟨8, _⟩ => ⟨S2560x128, .f32⟩
  | .local _ .vmem, ⟨9, _⟩ => ⟨S2560x1024, .f32⟩
  | .local _ .vmem, ⟨10, _⟩ => ⟨S2560x1024, .f32⟩
  | .local _ .vmem, ⟨11, _⟩ => ⟨S2x2560x1024, .bf16⟩
  | _, _ => ⟨S6x2560x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![10, 6, 2], ![false, false, false]⟩

def k0_mult1 (i : grid0.Coords) : BitVec 32 :=
  let arg2 : BitVec 32 := BitVec.ofNat 32 (i 2).val
  let c1280_i32 : BitVec 32 := 1280#32
  let v3 : BitVec 32 := Scalar.muli arg2 c1280_i32
  v3
def k0_off1 (i : grid0.Coords) : Fin 3 → Nat :=
  let c1_i32 : BitVec 32 := 1#32
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let v18 : BitVec 32 := Scalar.subi c1_i32 v2
  let v19 : Index := Scalar.indexCast v18
  let arg2 : BitVec 32 := BitVec.ofNat 32 (i 2).val
  let c1280_i32 : BitVec 32 := 1280#32
  let v3 : BitVec 32 := Scalar.muli arg2 c1280_i32
  let v4 : BitVec 32 := v3
  let v20 : Index := Scalar.indexCast v4
  let c0_7 : Index := 0#32
  ![v19.toNat, v20.toNat, 0]
def k0_off2 (i : grid0.Coords) : Fin 2 → Nat :=
  let arg2 : BitVec 32 := BitVec.ofNat 32 (i 2).val
  let c1280_i32 : BitVec 32 := 1280#32
  let v3 : BitVec 32 := Scalar.muli arg2 c1280_i32
  let v4 : BitVec 32 := v3
  let v27 : Index := Scalar.indexCast v4
  let c0_8 : Index := 0#32
  ![v27.toNat, 0]
def k0_off3 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let v35 : Index := Scalar.indexCast v2
  let c0_13 : Index := 0#32
  let c0_14 : Index := 0#32
  ![v35.toNat, 0, 0]
def k0_off4 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v2 : BitVec 32 := Scalar.remsi v1 c2_i32
  let v43 : Index := Scalar.indexCast v2
  let arg2 : BitVec 32 := BitVec.ofNat 32 (i 2).val
  let c1280_i32 : BitVec 32 := 1280#32
  let v3 : BitVec 32 := Scalar.muli arg2 c1280_i32
  let v4 : BitVec 32 := v3
  let v44 : Index := Scalar.indexCast v4
  let c0_18 : Index := 0#32
  ![v43.toNat, v44.toNat, 0]
def k0_cond2 (i : grid0.Coords) : BitVec 1 :=
  let arg1 : BitVec 32 := BitVec.ofNat 32 (i 1).val
  let c0_i32_19 : BitVec 32 := 0#32
  let v51 : BitVec 1 := Scalar.cmpi .eq arg1 c0_i32_19
  let v52 : BitVec 32 := Scalar.extui v51
  let c0_i32_20 : BitVec 32 := 0#32
  let v53 : BitVec 1 := Scalar.cmpi .ne v52 c0_i32_20
  v53

def k0_off5 (i : grid0.Coords) : Fin 2 → Nat :=
  let arg2 : BitVec 32 := BitVec.ofNat 32 (i 2).val
  let c1280_i32 : BitVec 32 := 1280#32
  let v3 : BitVec 32 := Scalar.muli arg2 c1280_i32
  let v4 : BitVec 32 := v3
  let v57 : Index := Scalar.indexCast v4
  let c0_23 : Index := 0#32
  ![v57.toNat, 0]
def k0_cond3 (i : grid0.Coords) : BitVec 1 :=
  let arg1 : BitVec 32 := BitVec.ofNat 32 (i 1).val
  let c0_i32_21 : BitVec 32 := 0#32
  let v54 : BitVec 1 := Scalar.cmpi .ne arg1 c0_i32_21
  let v55 : BitVec 32 := Scalar.extui v54
  let c0_i32_22 : BitVec 32 := 0#32
  let v56 : BitVec 1 := Scalar.cmpi .ne v55 c0_i32_22
  v56

def k0_off6 (i : grid0.Coords) : Fin 2 → Nat :=
  let arg2 : BitVec 32 := BitVec.ofNat 32 (i 2).val
  let c1280_i32 : BitVec 32 := 1280#32
  let v3 : BitVec 32 := Scalar.muli arg2 c1280_i32
  let v4 : BitVec 32 := v3
  let v57 : Index := Scalar.indexCast v4
  let c0_23 : Index := 0#32
  ![v57.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c1_i32 : BitVec 32 := 1#32
  let v2 : BitVec 32 := Scalar.addi v1 c1_i32
  let c59_i32 : BitVec 32 := 59#32
  let v3 : BitVec 32 := Scalar.minsi v2 c59_i32
  let c6_i32_0 : BitVec 32 := 6#32
  let v4 : BitVec 32 := Scalar.remsi v3 c6_i32_0
  let c6_i32_1 : BitVec 32 := 6#32
  let v5 : BitVec 32 := Scalar.divsi v3 c6_i32_1
  let c0_i32 : BitVec 32 := 0#32
  ![v4.toNat, arg2.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c1_i32 : BitVec 32 := 1#32
  let v2 : BitVec 32 := Scalar.addi v1 c1_i32
  let c59_i32 : BitVec 32 := 59#32
  let v3 : BitVec 32 := Scalar.minsi v2 c59_i32
  let c6_i32_0 : BitVec 32 := 6#32
  let v4 : BitVec 32 := Scalar.remsi v3 c6_i32_0
  let c6_i32_1 : BitVec 32 := 6#32
  let v5 : BitVec 32 := Scalar.divsi v3 c6_i32_1
  let c0_i32 : BitVec 32 := 0#32
  let c0_i32_2 : BitVec 32 := 0#32
  ![v4.toNat, c0_i32.toNat, v5.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 1 → Memref sig .tc .vmem S1x2560x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1280x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1280x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S2560x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2560x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== RhsRefIdeal.lean ====
abbrev S6x2560x2560 : Shape := ⟨3, ![6, 2560, 2560]⟩
abbrev S6x2560x10240 : Shape := ⟨3, ![6, 2560, 10240]⟩
abbrev S6x10240 : Shape := ⟨2, ![6, 10240]⟩
abbrev S2560x128 : Shape := ⟨2, ![2560, 128]⟩
abbrev S2560x10240 : Shape := ⟨2, ![2560, 10240]⟩
abbrev S2560x6 : Shape := ⟨2, ![2560, 6]⟩
abbrev S6x2560 : Shape := ⟨2, ![6, 2560]⟩
abbrev S6x1x10240 : Shape := ⟨3, ![6, 1, 10240]⟩
abbrev S6x2560x1 : Shape := ⟨3, ![6, 2560, 1]⟩

abbrev nBuf : Space → Nat
  | .hbm => 5
  | .vmem => 5
  | .smem => 0
  | _ => 0

abbrev bufTy : (tb : Table) → Fin (tcTables nBuf tb) → BufTy
  | .hbm, ⟨0, _⟩ => ⟨S6x2560x2560, .bf16⟩
  | .hbm, ⟨1, _⟩ => ⟨S6x2560x10240, .i8⟩
  | .hbm, ⟨2, _⟩ => ⟨S6x10240, .f32⟩
  | .hbm, ⟨3, _⟩ => ⟨S2560x128, .f32⟩
  | .hbm, ⟨4, _⟩ => ⟨S2560x10240, .f32⟩
  | .local _ .vmem, ⟨0, _⟩ => ⟨S6x2560x2560, .bf16⟩
  | .local _ .vmem, ⟨1, _⟩ => ⟨S6x2560x10240, .i8⟩
  | .local _ .vmem, ⟨2, _⟩ => ⟨S6x10240, .f32⟩
  | .local _ .vmem, ⟨3, _⟩ => ⟨S2560x128, .f32⟩
  | .local _ .vmem, ⟨4, _⟩ => ⟨S2560x10240, .f32⟩
  | _, _ => ⟨S6x2560x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x2560x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2560x10240 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Solve.lean ====
abbrev S2560x7680 : Shape := ⟨2, ![2560, 7680]⟩
abbrev S2560x10240 : Shape := ⟨2, ![2560, 10240]⟩
abbrev S2560x256 : Shape := ⟨2, ![2560, 256]⟩
abbrev S2x7680x256 : Shape := ⟨3, ![2, 7680, 256]⟩
abbrev S1x2560x256 : Shape := ⟨3, ![1, 2560, 256]⟩
abbrev S256x7680 : Shape := ⟨2, ![256, 7680]⟩
abbrev S1x7680x256 : Shape := ⟨3, ![1, 7680, 256]⟩
abbrev S7680x256 : Shape := ⟨2, ![7680, 256]⟩
abbrev S256x256 : Shape := ⟨2, ![256, 256]⟩
abbrev S256x5120 : Shape := ⟨2, ![256, 5120]⟩
abbrev S1x5120x256 : Shape := ⟨3, ![1, 5120, 256]⟩
abbrev S5120x256 : Shape := ⟨2, ![5120, 256]⟩
abbrev S256x2560 : Shape := ⟨2, ![256, 2560]⟩

abbrev nBuf : Space → Nat
  | .hbm => 3
  | .vmem => 7
  | .smem => 0
  | _ => 0

abbrev bufTy : (tb : Table) → Fin (tcTables nBuf tb) → BufTy
  | .hbm, ⟨0, _⟩ => ⟨S2560x7680, .bf16⟩
  | .hbm, ⟨1, _⟩ => ⟨S2560x10240, .f32⟩
  | .hbm, ⟨2, _⟩ => ⟨S2560x10240, .bf16⟩
  | .local _ .vmem, ⟨0, _⟩ => ⟨S2560x7680, .bf16⟩
  | .local _ .vmem, ⟨1, _⟩ => ⟨S2560x256, .f32⟩
  | .local _ .vmem, ⟨2, _⟩ => ⟨S2560x256, .f32⟩
  | .local _ .vmem, ⟨3, _⟩ => ⟨S2560x256, .f32⟩
  | .local _ .vmem, ⟨4, _⟩ => ⟨S2560x256, .bf16⟩
  | .local _ .vmem, ⟨5, _⟩ => ⟨S2560x256, .bf16⟩
  | .local _ .vmem, ⟨6, _⟩ => ⟨S2x7680x256, .bf16⟩
  | _, _ => ⟨S2560x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v4 : BitVec 32 := Scalar.subi c1_i32 v0
  let v13 : Index := Scalar.indexCast v4
  let c0_2 : Index := 0#32
  let c0_3 : Index := 0#32
  ![v13.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v4 : BitVec 32 := Scalar.subi c1_i32 v0
  let v17 : Index := Scalar.indexCast v4
  let c2560 : Index := 2560#32
  let c0_4 : Index := 0#32
  ![v17.toNat, 2560, 0]
def k0_off3 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v4 : BitVec 32 := Scalar.subi c1_i32 v0
  let v21 : Index := Scalar.indexCast v4
  let c5120 : Index := 5120#32
  let c0_5 : Index := 0#32
  ![v21.toNat, 5120, 0]
@[reducible] def k0_t1_loop : Scf.Loop 32 :=
  let c0_i32_6 : BitVec 32 := 0#32
  let c10_i32 : BitVec 32 := 10#32
  let v25 : BitVec 32 := Scalar.addi c0_i32_6 c10_i32
  let c1_i32_7 : BitVec 32 := 1#32
  ⟨c0_i32_6, v25, c1_i32_7⟩
def k0_mult1 (k0_t1 : Fin k0_t1_loop.trips) : BitVec 32 :=
  let c0_i32_6 : BitVec 32 := 0#32
  let c1_i32_7 : BitVec 32 := 1#32
  let arg6 : BitVec 32 := Scf.iv c0_i32_6 c1_i32_7 k0_t1
  let c256_i32 : BitVec 32 := 256#32
  let v26 : BitVec 32 := Scalar.muli arg6 c256_i32
  v26
def k0_off4 (k0_t1 : Fin k0_t1_loop.trips) : Fin 2 → Nat :=
  let c0_i32_6 : BitVec 32 := 0#32
  let c1_i32_7 : BitVec 32 := 1#32
  let arg6 : BitVec 32 := Scf.iv c0_i32_6 c1_i32_7 k0_t1
  let c256_i32 : BitVec 32 := 256#32
  let v26 : BitVec 32 := Scalar.muli arg6 c256_i32
  let v27 : BitVec 32 := v26
  let v28 : Index := Scalar.indexCast v27
  let c0_9 : Index := 0#32
  ![v28.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v30 : Index := Scalar.indexCast v0
  let c0_10 : Index := 0#32
  let c0_11 : Index := 0#32
  ![v30.toNat, 0, 0]
def k0_off6 (k0_t1 : Fin k0_t1_loop.trips) : Fin 2 → Nat :=
  let c0_i32_6 : BitVec 32 := 0#32
  let c1_i32_7 : BitVec 32 := 1#32
  let arg6 : BitVec 32 := Scf.iv c0_i32_6 c1_i32_7 k0_t1
  let c256_i32 : BitVec 32 := 256#32
  let v26 : BitVec 32 := Scalar.muli arg6 c256_i32
  let v27 : BitVec 32 := v26
  let v34 : Index := Scalar.indexCast v27
  let c0_12 : Index := 0#32
  ![v34.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v36 : Index := Scalar.indexCast v0
  let c2560_13 : Index := 2560#32
  let c0_14 : Index := 0#32
  ![v36.toNat, 2560, 0]
def k0_off8 (k0_t1 : Fin k0_t1_loop.trips) : Fin 2 → Nat :=
  let c0_i32_6 : BitVec 32 := 0#32
  let c1_i32_7 : BitVec 32 := 1#32
  let arg6 : BitVec 32 := Scf.iv c0_i32_6 c1_i32_7 k0_t1
  let c256_i32 : BitVec 32 := 256#32
  let v26 : BitVec 32 := Scalar.muli arg6 c256_i32
  let v27 : BitVec 32 := v26
  let v41 : Index := Scalar.indexCast v27
  let c0_16 : Index := 0#32
  ![v41.toNat, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v43 : Index := Scalar.indexCast v0
  let c5120_17 : Index := 5120#32
  let c0_18 : Index := 0#32
  ![v43.toNat, 5120, 0]
def k0_off10 (k0_t1 : Fin k0_t1_loop.trips) : Fin 2 → Nat :=
  let c0_i32_6 : BitVec 32 := 0#32
  let c1_i32_7 : BitVec 32 := 1#32
  let arg6 : BitVec 32 := Scf.iv c0_i32_6 c1_i32_7 k0_t1
  let c256_i32 : BitVec 32 := 256#32
  let v26 : BitVec 32 := Scalar.muli arg6 c256_i32
  let v27 : BitVec 32 := v26
  let v49 : Index := Scalar.indexCast v27
  let c0_20 : Index := 0#32
  ![v49.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c39_i32 : BitVec 32 := 39#32
  let v1 : BitVec 32 := Scalar.minsi v0 c39_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2560x7680 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2560x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SolveRefIdeal.lean ====
abbrev S2560x7680 : Shape := ⟨2, ![2560, 7680]⟩
abbrev S2560x10240 : Shape := ⟨2, ![2560, 10240]⟩
abbrev S2560x2560 : Shape := ⟨2, ![2560, 2560]⟩

abbrev nBuf : Space → Nat
  | .hbm => 12
  | .vmem => 0
  | .smem => 0
  | _ => 0

abbrev bufTy : (tb : Table) → Fin (tcTables nBuf tb) → BufTy
  | .hbm, ⟨0, _⟩ => ⟨S2560x7680, .bf16⟩
  | .hbm, ⟨1, _⟩ => ⟨S2560x10240, .f32⟩
  | .hbm, ⟨2, _⟩ => ⟨S2560x2560, .bf16⟩
  | .hbm, ⟨3, _⟩ => ⟨S2560x2560, .f32⟩
  | .hbm, ⟨4, _⟩ => ⟨S2560x2560, .bf16⟩
  | .hbm, ⟨5, _⟩ => ⟨S2560x2560, .f32⟩
  | .hbm, ⟨6, _⟩ => ⟨S2560x2560, .f32⟩
  | .hbm, ⟨7, _⟩ => ⟨S2560x2560, .bf16⟩
  | .hbm, ⟨8, _⟩ => ⟨S2560x2560, .f32⟩
  | .hbm, ⟨9, _⟩ => ⟨S2560x2560, .f32⟩
  | .hbm, ⟨10, _⟩ => ⟨S2560x10240, .f32⟩
  | .hbm, ⟨11, _⟩ => ⟨S2560x10240, .bf16⟩
  | _, _ => ⟨S2560x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Inverse.lean ====
abbrev S6x2560x2560 : Shape := ⟨3, ![6, 2560, 2560]⟩
abbrev S2560x2560 : Shape := ⟨2, ![2560, 2560]⟩
abbrev S2560x128 : Shape := ⟨2, ![2560, 128]⟩
abbrev S2560x7680 : Shape := ⟨2, ![2560, 7680]⟩
abbrev S6x128x2560 : Shape := ⟨3, ![6, 128, 2560]⟩
abbrev S128x128 : Shape := ⟨2, ![128, 128]⟩
abbrev S128x7680 : Shape := ⟨2, ![128, 7680]⟩
abbrev S256x256 : Shape := ⟨2, ![256, 256]⟩
abbrev S2560x1536 : Shape := ⟨2, ![2560, 1536]⟩
abbrev S1536x2560 : Shape := ⟨2, ![1536, 2560]⟩
abbrev S1x128x2560 : Shape := ⟨3, ![1, 128, 2560]⟩
abbrev S128x2560 : Shape := ⟨2, ![128, 2560]⟩
abbrev S1x128x128 : Shape := ⟨3, ![1, 128, 128]⟩
abbrev S128 : Shape := ⟨1, ![128]⟩
abbrev S128x1 : Shape := ⟨2, ![128, 1]⟩
abbrev S1x256 : Shape := ⟨2, ![1, 256]⟩
abbrev S1 : Shape := ⟨1, ![1]⟩
abbrev S1x1 : Shape := ⟨2, ![1, 1]⟩
abbrev S256 : Shape := ⟨1, ![256]⟩
abbrev S256x1 : Shape := ⟨2, ![256, 1]⟩
abbrev S256x2560 : Shape := ⟨2, ![256, 2560]⟩
abbrev S1536x256 : Shape := ⟨2, ![1536, 256]⟩
abbrev S256x1536 : Shape := ⟨2, ![256, 1536]⟩

abbrev nBuf : Space → Nat
  | .hbm => 4
  | .vmem => 10
  | .smem => 0
  | _ => 0

abbrev bufTy : (tb : Table) → Fin (tcTables nBuf tb) → BufTy
  | .hbm, ⟨0, _⟩ => ⟨S6x2560x2560, .bf16⟩
  | .hbm, ⟨1, _⟩ => ⟨S2560x2560, .f32⟩
  | .hbm, ⟨2, _⟩ => ⟨S2560x128, .f32⟩
  | .hbm, ⟨3, _⟩ => ⟨S2560x7680, .bf16⟩
  | .local _ .vmem, ⟨0, _⟩ => ⟨S6x128x2560, .bf16⟩
  | .local _ .vmem, ⟨1, _⟩ => ⟨S6x128x2560, .bf16⟩
  | .local _ .vmem, ⟨2, _⟩ => ⟨S128x128, .f32⟩
  | .local _ .vmem, ⟨3, _⟩ => ⟨S128x128, .f32⟩
  | .local _ .vmem, ⟨4, _⟩ => ⟨S128x7680, .bf16⟩
  | .local _ .vmem, ⟨5, _⟩ => ⟨S128x7680, .bf16⟩
  | .local _ .vmem, ⟨6, _⟩ => ⟨S2560x2560, .f32⟩
  | .local _ .vmem, ⟨7, _⟩ => ⟨S256x256, .f32⟩
  | .local _ .vmem, ⟨8, _⟩ => ⟨S2560x1536, .bf16⟩
  | .local _ .vmem, ⟨9, _⟩ => ⟨S1536x2560, .bf16⟩
  | _, _ => ⟨S6x2560x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c20_i32 : BitVec 32 := 20#32
  let v0 : BitVec 1 := Scalar.cmpi .slt arg0 c20_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v11 : BitVec 32 := Scalar.muli arg0 c128_i32
  v11
def k0_off1 (i : grid0.Coords) : Fin 2 → Nat :=
  let arg0 : BitVec 32 := BitVec.ofNat 32 (i 0).val
  let c128_i32 : BitVec 32 := 128#32
  let v11 : BitVec 32 := Scalar.muli arg0 c128_i32
  let v12 : BitVec 32 := v11
  let v38 : Index := Scalar.indexCast v12
  let c0_16 : Index := 0#32
  ![v38.toNat, 0]
def k0_off2 (i : grid0.Coords) : Fin 3 → Nat :=
  let c0_19 : Index := 0#32
  let c0_20 : Index := 0#32
  let arg0 : BitVec 32 := BitVec.ofNat 32 (i 0).val
  let c128_i32 : BitVec 32 := 128#32
  let v11 : BitVec 32 := Scalar.muli arg0 c128_i32
  let v12 : BitVec 32 := v11
  let v48 : Index := Scalar.indexCast v12
  ![0, 0, v48.toNat]
def k0_off3 (i : grid0.Coords) : Fin 3 → Nat :=
  let c1_24 : Index := 1#32
  let c0_25 : Index := 0#32
  let arg0 : BitVec 32 := BitVec.ofNat 32 (i 0).val
  let c128_i32 : BitVec 32 := 128#32
  let v11 : BitVec 32 := Scalar.muli arg0 c128_i32
  let v12 : BitVec 32 := v11
  let v62 : Index := Scalar.indexCast v12
  ![1, 0, v62.toNat]
def k0_off4 (i : grid0.Coords) : Fin 3 → Nat :=
  let c2_28 : Index := 2#32
  let c0_29 : Index := 0#32
  let arg0 : BitVec 32 := BitVec.ofNat 32 (i 0).val
  let c128_i32 : BitVec 32 := 128#32
  let v11 : BitVec 32 := Scalar.muli arg0 c128_i32
  let v12 : BitVec 32 := v11
  let v76 : Index := Scalar.indexCast v12
  ![2, 0, v76.toNat]
def k0_off5 (i : grid0.Coords) : Fin 3 → Nat :=
  let c3_32 : Index := 3#32
  let c0_33 : Index := 0#32
  let arg0 : BitVec 32 := BitVec.ofNat 32 (i 0).val
  let c128_i32 : BitVec 32 := 128#32
  let v11 : BitVec 32 := Scalar.muli arg0 c128_i32
  let v12 : BitVec 32 := v11
  let v90 : Index := Scalar.indexCast v12
  ![3, 0, v90.toNat]
def k0_off6 (i : grid0.Coords) : Fin 3 → Nat :=
  let c4_36 : Index := 4#32
  let c0_37 : Index := 0#32
  let arg0 : BitVec 32 := BitVec.ofNat 32 (i 0).val
  let c128_i32 : BitVec 32 := 128#32
  let v11 : BitVec 32 := Scalar.muli arg0 c128_i32
  let v12 : BitVec 32 := v11
  let v104 : Index := Scalar.indexCast v12
  ![4, 0, v104.toNat]
def k0_off7 (i : grid0.Coords) : Fin 3 → Nat :=
  let c5_40 : Index := 5#32
  let c0_41 : Index := 0#32
  let arg0 : BitVec 32 := BitVec.ofNat 32 (i 0).val
  let c128_i32 : BitVec 32 := 128#32
  let v11 : BitVec 32 := Scalar.muli arg0 c128_i32
  let v12 : BitVec 32 := v11
  let v118 : Index := Scalar.indexCast v12
  ![5, 0, v118.toNat]
def k0_off8 (i : grid0.Coords) : Fin 2 → Nat :=
  let arg0 : BitVec 32 := BitVec.ofNat 32 (i 0).val
  let c128_i32 : BitVec 32 := 128#32
  let v11 : BitVec 32 := Scalar.muli arg0 c128_i32
  let v12 : BitVec 32 := v11
  let v132 : Index := Scalar.indexCast v12
  let v133 : Index := Scalar.indexCast v12
  ![v132.toNat, v133.toNat]
def k0_cond2 (i : grid0.Coords) : BitVec 1 :=
  let arg0 : BitVec 32 := BitVec.ofNat 32 (i 0).val
  let c20_i32_0 : BitVec 32 := 20#32
  let v3 : BitVec 1 := Scalar.cmpi .sge arg0 c20_i32_0
  let c30_i32 : BitVec 32 := 30#32
  let v4 : BitVec 1 := Scalar.cmpi .slt arg0 c30_i32
  let v5 : BitVec 1 := Scalar.andi v3 v4
  let v6 : BitVec 32 := Scalar.extui v5
  let c0_i32_1 : BitVec 32 := 0#32
  let v7 : BitVec 1 := Scalar.cmpi .ne v6 c0_i32_1
  v7

def k0_mult2 (i : grid0.Coords) : BitVec 32 :=
  let arg0 : BitVec 32 := BitVec.ofNat 32 (i 0).val
  let c20_i32_4 : BitVec 32 := 20#32
  let v11 : BitVec 32 := Scalar.subi arg0 c20_i32_4
  let c256_i32 : BitVec 32 := 256#32
  let v12 : BitVec 32 := Scalar.muli v11 c256_i32
  v12
def k0_off9 (i : grid0.Coords) : Fin 2 → Nat :=
  let arg0 : BitVec 32 := BitVec.ofNat 32 (i 0).val
  let c20_i32_4 : BitVec 32 := 20#32
  let v11 : BitVec 32 := Scalar.subi arg0 c20_i32_4
  let c256_i32 : BitVec 32 := 256#32
  let v12 : BitVec 32 := Scalar.muli v11 c256_i32
  let v13 : BitVec 32 := v12
  let v14 : Index := Scalar.indexCast v13
  let v15 : Index := Scalar.indexCast v13
  ![v14.toNat, v15.toNat]
@[reducible] def k0_t1_loop : Scf.Loop 32 :=
  let c0_i32_6 : BitVec 32 := 0#32
  let c256_i32_7 : BitVec 32 := 256#32
  let v23 : BitVec 32 := Scalar.addi c0_i32_6 c256_i32_7
  let c1_i32 : BitVec 32 := 1#32
  ⟨c0_i32_6, v23, c1_i32⟩
def k0_off10 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let v81 : Index := Scalar.indexCast arg8
  let c0_31 : Index := 0#32
  ![v81.toNat, 0]
def k0_off11 (i : grid0.Coords) : Fin 2 → Nat :=
  let arg0 : BitVec 32 := BitVec.ofNat 32 (i 0).val
  let c20_i32_4 : BitVec 32 := 20#32
  let v11 : BitVec 32 := Scalar.subi arg0 c20_i32_4
  let c256_i32 : BitVec 32 := 256#32
  let v12 : BitVec 32 := Scalar.muli v11 c256_i32
  let v13 : BitVec 32 := v12
  let v30 : Index := Scalar.indexCast v13
  let c0_9 : Index := 0#32
  ![v30.toNat, 0]
@[reducible] def k0_t2_loop : Scf.Loop 32 :=
  let c0_i32_17 : BitVec 32 := 0#32
  let c10_i32 : BitVec 32 := 10#32
  let v59 : BitVec 32 := Scalar.addi c0_i32_17 c10_i32
  let c1_i32_18 : BitVec 32 := 1#32
  ⟨c0_i32_17, v59, c1_i32_18⟩
def k0_mult3 (k0_t2 : Fin k0_t2_loop.trips) : BitVec 32 :=
  let c0_i32_17 : BitVec 32 := 0#32
  let c1_i32_18 : BitVec 32 := 1#32
  let arg8 : BitVec 32 := Scf.iv c0_i32_17 c1_i32_18 k0_t2
  let c256_i32_29 : BitVec 32 := 256#32
  let v80 : BitVec 32 := Scalar.muli arg8 c256_i32_29
  v80
def k0_off12 (i : grid0.Coords) (k0_t2 : Fin k0_t2_loop.trips) : Fin 2 → Nat :=
  let c0_i32_17 : BitVec 32 := 0#32
  let c1_i32_18 : BitVec 32 := 1#32
  let arg8 : BitVec 32 := Scf.iv c0_i32_17 c1_i32_18 k0_t2
  let c256_i32_29 : BitVec 32 := 256#32
  let v80 : BitVec 32 := Scalar.muli arg8 c256_i32_29
  let v81 : BitVec 32 := v80
  let v82 : Index := Scalar.indexCast v81
  let arg0 : BitVec 32 := BitVec.ofNat 32 (i 0).val
  let c20_i32_4 : BitVec 32 := 20#32
  let v11 : BitVec 32 := Scalar.subi arg0 c20_i32_4
  let c256_i32 : BitVec 32 := 256#32
  let v12 : BitVec 32 := Scalar.muli v11 c256_i32
  let v13 : BitVec 32 := v12
  let v83 : Index := Scalar.indexCast v13
  ![v82.toNat, v83.toNat]
def k0_off13 (k0_t2 : Fin k0_t2_loop.trips) : Fin 2 → Nat :=
  let c0_i32_17 : BitVec 32 := 0#32
  let c1_i32_18 : BitVec 32 := 1#32
  let arg8 : BitVec 32 := Scf.iv c0_i32_17 c1_i32_18 k0_t2
  let c256_i32_29 : BitVec 32 := 256#32
  let v80 : BitVec 32 := Scalar.muli arg8 c256_i32_29
  let v81 : BitVec 32 := v80
  let v102 : Index := Scalar.indexCast v81
  let c0_31 : Index := 0#32
  ![v102.toNat, 0]
def k0_off14 (i : grid0.Coords) : Fin 2 → Nat :=
  let arg0 : BitVec 32 := BitVec.ofNat 32 (i 0).val
  let c20_i32_4 : BitVec 32 := 20#32
  let v11 : BitVec 32 := Scalar.subi arg0 c20_i32_4
  let c256_i32 : BitVec 32 := 256#32
  let v12 : BitVec 32 := Scalar.muli v11 c256_i32
  let v13 : BitVec 32 := v12
  let v69 : Index := Scalar.indexCast v13
  let c0_22 : Index := 0#32
  ![v69.toNat, 0]
@[reducible] def k0_t3_loop : Scf.Loop 32 :=
  let c0_i32_23 : BitVec 32 := 0#32
  let c10_i32_24 : BitVec 32 := 10#32
  let v73 : BitVec 32 := Scalar.addi c0_i32_23 c10_i32_24
  let c1_i32_25 : BitVec 32 := 1#32
  ⟨c0_i32_23, v73, c1_i32_25⟩
def k0_mult4 (k0_t3 : Fin k0_t3_loop.trips) : BitVec 32 :=
  let c0_i32_23 : BitVec 32 := 0#32
  let c1_i32_25 : BitVec 32 := 1#32
  let arg8 : BitVec 32 := Scf.iv c0_i32_23 c1_i32_25 k0_t3
  let c256_i32_29 : BitVec 32 := 256#32
  let v80 : BitVec 32 := Scalar.muli arg8 c256_i32_29
  v80
def k0_off15 (k0_t3 : Fin k0_t3_loop.trips) : Fin 2 → Nat :=
  let c0_i32_23 : BitVec 32 := 0#32
  let c1_i32_25 : BitVec 32 := 1#32
  let arg8 : BitVec 32 := Scf.iv c0_i32_23 c1_i32_25 k0_t3
  let c256_i32_29 : BitVec 32 := 256#32
  let v80 : BitVec 32 := Scalar.muli arg8 c256_i32_29
  let v81 : BitVec 32 := v80
  let v82 : Index := Scalar.indexCast v81
  let c0_30 : Index := 0#32
  ![v82.toNat, 0]
def k0_off16 (k0_t3 : Fin k0_t3_loop.trips) : Fin 2 → Nat :=
  let c0_i32_23 : BitVec 32 := 0#32
  let c1_i32_25 : BitVec 32 := 1#32
  let arg8 : BitVec 32 := Scf.iv c0_i32_23 c1_i32_25 k0_t3
  let c256_i32_29 : BitVec 32 := 256#32
  let v80 : BitVec 32 := Scalar.muli arg8 c256_i32_29
  let v81 : BitVec 32 := v80
  let v84 : Index := Scalar.indexCast v81
  let c0_31 : Index := 0#32
  ![v84.toNat, 0]
def k0_cond3 (i : grid0.Coords) : BitVec 1 :=
  let arg0 : BitVec 32 := BitVec.ofNat 32 (i 0).val
  let c30_i32_2 : BitVec 32 := 30#32
  let v8 : BitVec 1 := Scalar.cmpi .sge arg0 c30_i32_2
  let v9 : BitVec 32 := Scalar.extui v8
  let c0_i32_3 : BitVec 32 := 0#32
  let v10 : BitVec 1 := Scalar.cmpi .ne v9 c0_i32_3
  v10

def k0_mult5 (i : grid0.Coords) : BitVec 32 :=
  let arg0 : BitVec 32 := BitVec.ofNat 32 (i 0).val
  let c20_i32_4 : BitVec 32 := 20#32
  let v11 : BitVec 32 := Scalar.subi arg0 c20_i32_4
  let c10_i32 : BitVec 32 := 10#32
  let v12 : BitVec 32 := Scalar.subi v11 c10_i32
  let c128_i32 : BitVec 32 := 128#32
  let v13 : BitVec 32 := Scalar.muli v12 c128_i32
  v13
def k0_off17 (i : grid0.Coords) : Fin 2 → Nat :=
  let arg0 : BitVec 32 := BitVec.ofNat 32 (i 0).val
  let c20_i32_4 : BitVec 32 := 20#32
  let v11 : BitVec 32 := Scalar.subi arg0 c20_i32_4
  let c10_i32 : BitVec 32 := 10#32
  let v12 : BitVec 32 := Scalar.subi v11 c10_i32
  let c128_i32 : BitVec 32 := 128#32
  let v13 : BitVec 32 := Scalar.muli v12 c128_i32
  let v14 : BitVec 32 := v13
  let v15 : Index := Scalar.indexCast v14
  let c0 : Index := 0#32
  ![v15.toNat, 0]
def cc0_transform_0 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c20_i32 : BitVec 32 := 20#32
  let v0 : BitVec 32 := Scalar.subi arg0 c20_i32
  let c10_i32 : BitVec 32 := 10#32
  let v1 : BitVec 32 := Scalar.subi v0 c10_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S6x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7680 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InverseRefIdeal.lean ====
abbrev S6x2560x2560 : Shape := ⟨3, ![6, 2560, 2560]⟩
abbrev S2560x2560 : Shape := ⟨2, ![2560, 2560]⟩
abbrev S_ : Shape := ⟨0, ![]⟩
abbrev S1x2560x2560 : Shape := ⟨3, ![1, 2560, 2560]⟩
abbrev S6x2560 : Shape := ⟨2, ![6, 2560]⟩
abbrev S2560x6 : Shape := ⟨2, ![2560, 6]⟩
abbrev S2560x128 : Shape := ⟨2, ![2560, 128]⟩
abbrev S2560x7680 : Shape := ⟨2, ![2560, 7680]⟩

abbrev nBuf : Space → Nat
  | .hbm => 31
  | .vmem => 0
  | .smem => 0
  | _ => 0

abbrev bufTy : (tb : Table) → Fin (tcTables nBuf tb) → BufTy
  | .hbm, ⟨0, _⟩ => ⟨S6x2560x2560, .bf16⟩
  | .hbm, ⟨1, _⟩ => ⟨S2560x2560, .f32⟩
  | .hbm, ⟨2, _⟩ => ⟨S2560x2560, .i32⟩
  | .hbm, ⟨3, _⟩ => ⟨S2560x2560, .i32⟩
  | .hbm, ⟨4, _⟩ => ⟨S_, .i32⟩
  | .hbm, ⟨5, _⟩ => ⟨S2560x2560, .i32⟩
  | .hbm, ⟨6, _⟩ => ⟨S2560x2560, .i32⟩
  | .hbm, ⟨7, _⟩ => ⟨S2560x2560, .i1⟩
  | .hbm, ⟨8, _⟩ => ⟨S1x2560x2560, .i1⟩
  | .hbm, ⟨9, _⟩ => ⟨S6x2560x2560, .f32⟩
  | .hbm, ⟨10, _⟩ => ⟨S_, .f32⟩
  | .hbm, ⟨11, _⟩ => ⟨S_, .f32⟩
  | .hbm, ⟨12, _⟩ => ⟨S6x2560x2560, .i1⟩
  | .hbm, ⟨13, _⟩ => ⟨S6x2560x2560, .f32⟩
  | .hbm, ⟨14, _⟩ => ⟨S6x2560x2560, .f32⟩
  | .hbm, ⟨15, _⟩ => ⟨S_, .f32⟩
  | .hbm, ⟨16, _⟩ => ⟨S6x2560, .f32⟩
  | .hbm, ⟨17, _⟩ => ⟨S2560x2560, .f32⟩
  | .hbm, ⟨18, _⟩ => ⟨S2560x2560, .f32⟩
  | .hbm, ⟨19, _⟩ => ⟨S2560x2560, .bf16⟩
  | .hbm, ⟨20, _⟩ => ⟨S2560x2560, .f32⟩
  | .hbm, ⟨21, _⟩ => ⟨S2560x2560, .f32⟩
  | .hbm, ⟨22, _⟩ => ⟨S2560x2560, .bf16⟩
  | .hbm, ⟨23, _⟩ => ⟨S2560x2560, .f32⟩
  | .hbm, ⟨24, _⟩ => ⟨S2560x2560, .f32⟩
  | .hbm, ⟨25, _⟩ => ⟨S2560x2560, .bf16⟩
  | .hbm, ⟨26, _⟩ => ⟨S2560x6, .f32⟩
  | .hbm, ⟨27, _⟩ => ⟨S_, .i32⟩
  | .hbm, ⟨28, _⟩ => ⟨S_, .f32⟩
  | .hbm, ⟨29, _⟩ => ⟨S2560x128, .f32⟩
  | .hbm, ⟨30, _⟩ => ⟨S2560x7680, .bf16⟩
  | _, _ => ⟨S6x2560x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Rhs.Runs.lean ====
/- What the runs of the kernel's body share: when its three conditionals are taken, as arithmetic of the grid point, and the
   memrefs the body is handed. -/
module

public import proofs.«01_k».proof.Proof.Gen.RhsIdeal.Frame
public import proofs.«01_k».proof.Proof.Gen.RhsIdeal.Skeleton
public import Idealize.ShloMosaic.Lib.Pipeline.Value
public import Idealize.ShloMosaic.Lib.Pipeline.DatRel

@[expose] public section

-- membership in a rectangle of production extents (`View.cover_of_tiled`): the elaborator's structural look
-- recurses once per coordinate of the long axes
set_option maxRecDepth 16384

noncomputable section

namespace Cert.RhsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (Scalar.addi (Scalar.muli (BitVec.ofNat 32 (i 0).val) 6#32) (BitVec.ofNat 32 (i 1).val)) 0#32) (Scalar.cmpi .eq (BitVec.ofNat 32 (i 2).val) 0#32))) 0#32) = 1#1
/-- It holds at the first point only — decided over the grid. -/
theorem hcond0_0 : ∀ t : Fin cfg0.N, cond0_0 (grid0.coords t) ↔ t.val % 120 = 0 :=
  (by decide +kernel : ∀ t : Fin grid0.N, cond0_0 (grid0.coords t) ↔ t.val % 120 = 0)

/-- The condition of the body's `scf.if` 1 (`k0_h2`), from the grid coordinates (the skeleton's scalar
    chain substituted). -/
abbrev cond0_1 (i : grid0.Coords) : Prop := k0_cond2 i = 1#1
/-- It holds at the points whose coordinates have i1 = 0 — by arithmetic of the point. -/
theorem hcond0_1 : ∀ t : Fin cfg0.N, cond0_1 (grid0.coords t) ↔ t.val / 2 % 6 = 0 :=
  (fun t => by
    have ht : t.val < 120 := Nat.lt_of_lt_of_eq t.isLt N_0
    have e0 : (grid0.coords t 0).val = t.val / 12 % 10 := Pipeline.Grid.coords_val t 0 (by decide) rfl
    have e1 : (grid0.coords t 1).val = t.val / 2 % 6 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val / 2 % 6 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — by arithmetic of the point. -/
theorem hcond0_2 : ∀ t : Fin cfg0.N, cond0_2 (grid0.coords t) ↔ 1 ≤ t.val / 2 % 6 :=
  (fun t => by
    have ht : t.val < 120 := Nat.lt_of_lt_of_eq t.isLt N_0
    have e0 : (grid0.coords t 0).val = t.val / 12 % 10 := Pipeline.Grid.coords_val t 0 (by decide) rfl
    have e1 : (grid0.coords t 1).val = t.val / 2 % 6 := Pipeline.Grid.coords_val t 1 (by decide) rfl
    have e2 : (grid0.coords t 2).val = t.val / 1 % 2 := Pipeline.Grid.coords_val t 2 (by decide) rfl
    simp only [cond0_2, k0_cond3, e0, e1, e2]
    word_cmp
   : ∀ t : Fin grid0.N, cond0_2 (grid0.coords t) ↔ 1 ≤ t.val / 2 % 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2560x1024 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2560x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2560x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x2560x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.RhsIdeal.Gen

end
-- ==== Proof.Overlay.lean ====
/- A store through a rectangle of a view, read back: what the view reads after a list of unmasked writes is what it read
   before with each write's rectangle overlaid by its payload. -/
module

public import Idealize.ShloMosaic.Lib.Pipeline.FrameBody
public import Idealize.ShloMosaic.Lib.Pipeline.Value

@[expose] public section

noncomputable section

namespace Cert.Kit

open Idealize.ShloMosaic Idealize.SL.Sem

variable {sig : RefSig} {κ : Kind} {sp : Space} {s : Shape} {e : EltTy} {Val : EltTy → Type}

/-- The last write of a list, read back: the earlier writes' reading with the write's rectangle overlaid. -/
theorem read_writes_cons_overlay (v : View sig κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨x, rfl⟩ := p.1.exists_idx_of_mem hy
    rw [show p.1.idx x = p.1.emb x from rfl, Rect.overlay_emb]
    exact View.read_writes_cons_emb v f p.1 p.2 L x
  · rw [Rect.overlay_of_not_mem _ _ _ hy, View.writes_cons, View.read_slice_write_of_not_mem p.1 _ _ _ (by rwa [Rect.map_emb_univ])]

/-- Where an index of a unit-stride rectangle lies in the shape, axis by axis. -/
theorem unit_emb_val {off size : Fin s.rank → Nat} (inb : ∀ a, off a + size a ≤ s.size a) (x : (Rect.unit (s := s) off size inb).shape.Idx) (a : Fin s.rank) :
    ((Rect.unit (s := s) off size inb).emb x a : Nat) = off a + x a := by
  show off a + 1 * (x a : Nat) = off a + x a
  rw [Nat.one_mul]

/-- Membership in a unit-stride rectangle, axis by axis. -/
theorem mem_unit_set {off size : Fin s.rank → Nat} (inb : ∀ a, off a + size a ≤ s.size a) (y : s.Idx) :
    y ∈ (Rect.unit (s := s) off size inb).set ↔ ∀ a, off a ≤ y a ∧ (y a : Nat) < off a + size a := by
  constructor
  · intro hy a
    obtain ⟨x, rfl⟩ := (Rect.unit (s := s) off size inb).exists_idx_of_mem hy
    rw [show (Rect.unit (s := s) off size inb).idx x = (Rect.unit (s := s) off size inb).emb x from rfl, unit_emb_val]
    have := (x a).isLt
    have h : (x a : Nat) < size a := this
    omega
  · intro h
    have hx : ∀ a, (y a : Nat) - off a < size a := fun a => by have := h a; omega
    have e : y = (Rect.unit (s := s) off size inb).emb (fun a => ⟨(y a : Nat) - off a, hx a⟩) := by
      funext a; apply Fin.ext; rw [unit_emb_val]; have := h a; show (y a : Nat) = off a + ((y a : Nat) - off a); omega
    rw [e, ← Rect.map_emb_univ]
    exact Finset.mem_map_of_mem _ (Finset.mem_univ _)

/-- An overlay read inside its unit-stride rectangle: the payload at the index less the offset. -/
theorem overlay_unit_in {α : Type} {off size : Fin s.rank → Nat} (inb : ∀ a, off a + size a ≤ s.size a) (X : s.Idx → α)
    (G : (Rect.unit (s := s) off size inb).shape.Idx → α) (y : s.Idx) (x : (Rect.unit (s := s) off size inb).shape.Idx)
    (h : ∀ a, (y a : Nat) = off a + x a) : (Rect.unit (s := s) off size inb).overlay X G y = G x := by
  have e : y = (Rect.unit (s := s) off size inb).emb x := by
    funext a; apply Fin.ext; rw [unit_emb_val]; exact h a
  rw [e, Rect.overlay_emb]

/-- An overlay read off its unit-stride rectangle: what lay below. -/
theorem overlay_unit_out {α : Type} {off size : Fin s.rank → Nat} (inb : ∀ a, off a + size a ≤ s.size a) (X : s.Idx → α)
    (G : (Rect.unit (s := s) off size inb).shape.Idx → α) (y : s.Idx) (a : Fin s.rank)
    (h : (y a : Nat) < off a ∨ off a + size a ≤ y a) : (Rect.unit (s := s) off size inb).overlay X G y = X y :=
  Rect.overlay_of_not_mem _ _ _ fun hm => by have := (mem_unit_set inb y).mp hm a; omega

/-- A load through a unit-stride rectangle reads the contents at the offset index. -/
theorem ld_unit_apply {off size : Fin s.rank → Nat} (inb : ∀ a, off a + size a ≤ s.size a) (X : s.Idx → Val e)
    (x : (Rect.unit (s := s) off size inb).shape.Idx) (y : s.Idx) (h : ∀ a, (y a : Nat) = off a + x a) :
    View.ld X (Rect.unit (s := s) off size inb) x = X y := by
  have e : (Rect.unit (s := s) off size inb).idx x = y := by
    funext a; apply Fin.ext; rw [show (Rect.unit (s := s) off size inb).idx x = (Rect.unit (s := s) off size inb).emb x from rfl, unit_emb_val]; exact (h a).symm
  show X _ = X y
  rw [e]

end Cert.Kit

end
-- ==== Proof.Rhs.RunA.lean ====
/- The kernel's body run once, at the first point: from its operands at given contents to the
   output block and the scratch at named contents. -/
module

public import proofs.«01_k».proof.Proof.Rhs.Runs
public import proofs.«01_k».proof.Proof.Overlay

@[expose] public section

-- membership in a rectangle of production extents (`View.cover_of_tiled`): the elaborator's structural look
-- recurses once per coordinate of the long axes
set_option maxRecDepth 16384

noncomputable section

namespace Cert.RhsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the first point's whole-slot store of the dequantised first block. -/
def scrFirst (x0 : Vec F S1x2560x1024 .i8) (x2 : Vec F S1x1x1024 .f32) (d10 : Vec F S2x2560x1024 .bf16) : Vec F S2x2560x1024 .bf16 :=
  (Rect.unit (s := S2x2560x1024) ![0, 0, 0] S1x2560x1024.size inb_S2x2560x1024_S1x2560x1024_0_0_0).overlay d10 (k0_pay3 x0 x2)

/-- The scratch after a point's store of the dequantised half of the next block. -/
def scrNext (i : grid0.Coords) (x1 : Vec F S1x1280x1024 .i8) (x3 : Vec F S1x1x1024 .f32) (d10 : Vec F S2x2560x1024 .bf16) : Vec F S2x2560x1024 .bf16 :=
  (Rect.unit (s := S2x2560x1024) (k0_off1 i) S1x1280x1024.size (k0_off1_inb i)).overlay d10 (k0_pay4 x1 x3)

/-- What a point adds to its rows of the output block: the scaled product and the scaled diagonal term. -/
def addPay (i : grid0.Coords) (x4 : Vec F S1x1280x2560 .bf16) (x5 : Vec F S2560x128 .f32) (d10 : Vec F S2x2560x1024 .bf16) : FVec F S1280x1024 .f32 :=
  k0_pay1 (k0_pay5 i (View.ld (Val := Elt F) (e' := .f32) x5 (Rect.unit (s := S2560x128) (k0_off2 i) S1280x128.size (k0_off2_inb i)))) (k0_pay6 x4)
    (View.ld (Val := Elt F) (e' := .bf16) d10 (Rect.unit (s := S2x2560x1024) (k0_off3 i) S1x2560x1024.size (k0_off3_inb i)))
    (View.ld (Val := Elt F) (e' := .bf16) d10 (Rect.unit (s := S2x2560x1024) (k0_off4 i) S1x1280x1024.size (k0_off4_inb i)))

/-- The output block after a point of the first model: its rows set. -/
def outSet (i : grid0.Coords) (h : cond0_1 i) (x4 : Vec F S1x1280x2560 .bf16) (x5 : Vec F S2560x128 .f32) (d9 : Vec F S2560x1024 .f32) (d10 : Vec F S2x2560x1024 .bf16) : Vec F S2560x1024 .f32 :=
  (Rect.unit (s := S2560x1024) (k0_off5 i) S1280x1024.size (k0_off5_inb i h)).overlay d9 (addPay i x4 x5 d10)

/-- The output block after a point of a later model: its rows added to. -/
def outAdd (i : grid0.Coords) (h : cond0_2 i) (x4 : Vec F S1x1280x2560 .bf16) (x5 : Vec F S2560x128 .f32) (d9 : Vec F S2560x1024 .f32) (d10 : Vec F S2x2560x1024 .bf16) : Vec F S2560x1024 .f32 :=
  (Rect.unit (s := S2560x1024) (k0_off6 i) S1280x1024.size (k0_off6_inb i h)).overlay d9
    (addf (View.ld (Val := Elt F) (e' := .f32) d9 (Rect.unit (s := S2560x1024) (k0_off6 i) S1280x1024.size (k0_off6_inb i h))) (addPay i x4 x5 d10))

set_option maxHeartbeats 1000000 in
/-- The body at the first point: the first block is dequantised whole, then half of the next; the rows are set. -/
theorem run_A (c : Dev nD) (i : grid0.Coords) (arg3 : Memref sig .tc .vmem S1x2560x1024 .i8) (harg3 : arg3.IsWhole) (arg4 : Memref sig .tc .vmem S1x1280x1024 .i8) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1280x2560 .bf16) (harg7 : arg7.IsWhole) (arg8 : Memref sig .tc .vmem S2560x128 .f32) (harg8 : arg8.IsWhole) (arg9 : Memref sig .tc .vmem S2560x1024 .f32) (harg9 : arg9.IsWhole) (arg10 : Memref sig .tc .vmem S2x2560x1024 .bf16) (harg10 : arg10.IsWhole) (hc0 : cond0_0 i) (hc1 : cond0_1 i) (hc2 : ¬cond0_2 i) (x0 : Vec F S1x2560x1024 .i8) (x1 : Vec F S1x1280x1024 .i8) (x2 : Vec F S1x1x1024 .f32) (x3 : Vec F S1x1x1024 .f32) (x4 : Vec F S1x1280x2560 .bf16) (x5 : Vec F S2560x128 .f32) (d9 : Vec F S2560x1024 .f32) (d10 : Vec F S2x2560x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare d10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outSet i hc1 x4 x5 d9 (scrNext i x1 x3 (scrFirst x0 x2 d10))) ∗ owns (c : Thread nD τ) arg10 fullShare (scrNext i x1 x3 (scrFirst x0 x2 d10))) -∗ K ⟨⟩))
          ⊢ wp frame (wpE (defs₀ (F := F)) Variants.none c none) E (cc0_rhs i arg3 harg3 arg4 harg4 arg5 harg5 arg6 harg6 arg7 harg7 arg8 harg8 arg9 harg9 arg10 harg10) K := by
    intro E K
    simp only [cc0_rhs_eq_skeleton]; unfold cc0_rhs_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1 | sl_exact hc2)
    sl_step
    have h0 : (![0, 0, 0] : Fin 3 → Nat) = fun _ => 0 := by decide
    have e0 : View.ld (Val := Elt F) (e' := .i8) x0 (Rect.unit (s := S1x2560x1024) ![0, 0, 0] S1x2560x1024.size inb_S1x2560x1024_S1x2560x1024_0_0_0) = x0 := View.ld_unit_zero (S := S1x2560x1024) h0 _ x0
    have e1 : View.ld (Val := Elt F) (e' := .i8) x1 (Rect.unit (s := S1x1280x1024) ![0, 0, 0] S1x1280x1024.size inb_S1x1280x1024_S1x1280x1024_0_0_0) = x1 := View.ld_unit_zero (S := S1x1280x1024) h0 _ x1
    have e2 : View.ld (Val := Elt F) (e' := .f32) x2 (Rect.unit (s := S1x1x1024) ![0, 0, 0] S1x1x1024.size inb_S1x1x1024_S1x1x1024_0_0_0) = x2 := View.ld_unit_zero (S := S1x1x1024) h0 _ x2
    have e3 : View.ld (Val := Elt F) (e' := .f32) x3 (Rect.unit (s := S1x1x1024) ![0, 0, 0] S1x1x1024.size inb_S1x1x1024_S1x1x1024_0_0_0) = x3 := View.ld_unit_zero (S := S1x1x1024) h0 _ x3
    have e4 : View.ld (Val := Elt F) (e' := .bf16) x4 (Rect.unit (s := S1x1280x2560) ![0, 0, 0] S1x1280x2560.size inb_S1x1280x2560_S1x1280x2560_0_0_0) = x4 := View.ld_unit_zero (S := S1x1280x2560) h0 _ x4
    have hS : View.read (Elt F) arg10.view (arg10.view.writes (Elt F) (harg10.unread d10)
        (run_A.sl.HS0_2 c i arg3 harg3 arg4 harg4 arg5 harg5 arg6 harg6 x0 x1 x2 x3)) = scrNext i x1 x3 (scrFirst x0 x2 d10) := by
      unfold run_A.sl.HS0_2
      simp only [View.readAt_eq_ld, Cert.Kit.read_writes_cons_overlay, View.writes_nil, hf0, hf1, hf2, hf3, hfs0]
      unfold scrNext scrFirst
      erw [e0, e1, e2, e3]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      unfold run_A.sl.r run_A.sl.r_1 run_A.sl.v36 run_A.sl.v45
      simp only [View.readAt_eq_ld, Cert.Kit.read_writes_cons_overlay, View.writes_nil, hf4, hf5, hf6, hS]
      unfold outSet addPay
      erw [e4]
    iexists _; isplitr; swap; · iexact HS0
    ipureintro
    exact hS

end Cert.RhsIdeal.Gen

end
-- ==== Proof.Rhs.RunB.lean ====
/- The kernel's body run once, at a later point of the first model: from its operands at given contents to the
   output block and the scratch at named contents. -/
module

public import proofs.«01_k».proof.Proof.Rhs.RunA
public import proofs.«01_k».proof.Proof.Overlay

@[expose] public section

-- membership in a rectangle of production extents (`View.cover_of_tiled`): the elaborator's structural look
-- recurses once per coordinate of the long axes
set_option maxRecDepth 16384

noncomputable section

namespace Cert.RhsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point of the first model: half of the next block is dequantised; the rows are set. -/
theorem run_B (c : Dev nD) (i : grid0.Coords) (arg3 : Memref sig .tc .vmem S1x2560x1024 .i8) (harg3 : arg3.IsWhole) (arg4 : Memref sig .tc .vmem S1x1280x1024 .i8) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1280x2560 .bf16) (harg7 : arg7.IsWhole) (arg8 : Memref sig .tc .vmem S2560x128 .f32) (harg8 : arg8.IsWhole) (arg9 : Memref sig .tc .vmem S2560x1024 .f32) (harg9 : arg9.IsWhole) (arg10 : Memref sig .tc .vmem S2x2560x1024 .bf16) (harg10 : arg10.IsWhole) (hc0 : ¬cond0_0 i) (hc1 : cond0_1 i) (hc2 : ¬cond0_2 i) (x0 : Vec F S1x2560x1024 .i8) (x1 : Vec F S1x1280x1024 .i8) (x2 : Vec F S1x1x1024 .f32) (x3 : Vec F S1x1x1024 .f32) (x4 : Vec F S1x1280x2560 .bf16) (x5 : Vec F S2560x128 .f32) (d9 : Vec F S2560x1024 .f32) (d10 : Vec F S2x2560x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare d10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outSet i hc1 x4 x5 d9 (scrNext i x1 x3 d10)) ∗ owns (c : Thread nD τ) arg10 fullShare (scrNext i x1 x3 d10)) -∗ K ⟨⟩))
          ⊢ wp frame (wpE (defs₀ (F := F)) Variants.none c none) E (cc0_rhs i arg3 harg3 arg4 harg4 arg5 harg5 arg6 harg6 arg7 harg7 arg8 harg8 arg9 harg9 arg10 harg10) K := by
    intro E K
    simp only [cc0_rhs_eq_skeleton]; unfold cc0_rhs_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1 | sl_exact hc2)
    sl_step
    have h0 : (![0, 0, 0] : Fin 3 → Nat) = fun _ => 0 := by decide
    have e1 : View.ld (Val := Elt F) (e' := .i8) x1 (Rect.unit (s := S1x1280x1024) ![0, 0, 0] S1x1280x1024.size inb_S1x1280x1024_S1x1280x1024_0_0_0) = x1 := View.ld_unit_zero (S := S1x1280x1024) h0 _ x1
    have e3 : View.ld (Val := Elt F) (e' := .f32) x3 (Rect.unit (s := S1x1x1024) ![0, 0, 0] S1x1x1024.size inb_S1x1x1024_S1x1x1024_0_0_0) = x3 := View.ld_unit_zero (S := S1x1x1024) h0 _ x3
    have e4 : View.ld (Val := Elt F) (e' := .bf16) x4 (Rect.unit (s := S1x1280x2560) ![0, 0, 0] S1x1280x2560.size inb_S1x1280x2560_S1x1280x2560_0_0_0) = x4 := View.ld_unit_zero (S := S1x1280x2560) h0 _ x4
    have hS : View.read (Elt F) arg10.view (arg10.view.writes (Elt F) (harg10.unread d10)
        (run_B.sl.HS0_1 c i arg4 harg4 arg6 harg6 x1 x3)) = scrNext i x1 x3 d10 := by
      unfold run_B.sl.HS0_1
      simp only [View.readAt_eq_ld, Cert.Kit.read_writes_cons_overlay, View.writes_nil, hf1, hf3, hfs0]
      unfold scrNext
      erw [e1, e3]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      unfold run_B.sl.r run_B.sl.r_1 run_B.sl.v36 run_B.sl.v45
      simp only [View.readAt_eq_ld, Cert.Kit.read_writes_cons_overlay, View.writes_nil, hf4, hf5, hf6, hS]
      unfold outSet addPay
      erw [e4]
    iexists _; isplitr; swap; · iexact HS0
    ipureintro
    exact hS

end Cert.RhsIdeal.Gen

end
-- ==== Proof.Rhs.RunC.lean ====
/- The kernel's body run once, at a point of a later model: from its operands at given contents to the
   output block and the scratch at named contents. -/
module

public import proofs.«01_k».proof.Proof.Rhs.RunA
public import proofs.«01_k».proof.Proof.Overlay

@[expose] public section

-- membership in a rectangle of production extents (`View.cover_of_tiled`): the elaborator's structural look
-- recurses once per coordinate of the long axes
set_option maxRecDepth 16384

noncomputable section

namespace Cert.RhsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of a later model: half of the next block is dequantised; the rows are added to. -/
theorem run_C (c : Dev nD) (i : grid0.Coords) (arg3 : Memref sig .tc .vmem S1x2560x1024 .i8) (harg3 : arg3.IsWhole) (arg4 : Memref sig .tc .vmem S1x1280x1024 .i8) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1280x2560 .bf16) (harg7 : arg7.IsWhole) (arg8 : Memref sig .tc .vmem S2560x128 .f32) (harg8 : arg8.IsWhole) (arg9 : Memref sig .tc .vmem S2560x1024 .f32) (harg9 : arg9.IsWhole) (arg10 : Memref sig .tc .vmem S2x2560x1024 .bf16) (harg10 : arg10.IsWhole) (hc0 : ¬cond0_0 i) (hc1 : ¬cond0_1 i) (hc2 : cond0_2 i) (x0 : Vec F S1x2560x1024 .i8) (x1 : Vec F S1x1280x1024 .i8) (x2 : Vec F S1x1x1024 .f32) (x3 : Vec F S1x1x1024 .f32) (x4 : Vec F S1x1280x2560 .bf16) (x5 : Vec F S2560x128 .f32) (d9 : Vec F S2560x1024 .f32) (d10 : Vec F S2x2560x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare d10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outAdd i hc2 x4 x5 d9 (scrNext i x1 x3 d10)) ∗ owns (c : Thread nD τ) arg10 fullShare (scrNext i x1 x3 d10)) -∗ K ⟨⟩))
          ⊢ wp frame (wpE (defs₀ (F := F)) Variants.none c none) E (cc0_rhs i arg3 harg3 arg4 harg4 arg5 harg5 arg6 harg6 arg7 harg7 arg8 harg8 arg9 harg9 arg10 harg10) K := by
    intro E K
    simp only [cc0_rhs_eq_skeleton]; unfold cc0_rhs_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1 | sl_exact hc2)
    sl_step
    have h0 : (![0, 0, 0] : Fin 3 → Nat) = fun _ => 0 := by decide
    have e1 : View.ld (Val := Elt F) (e' := .i8) x1 (Rect.unit (s := S1x1280x1024) ![0, 0, 0] S1x1280x1024.size inb_S1x1280x1024_S1x1280x1024_0_0_0) = x1 := View.ld_unit_zero (S := S1x1280x1024) h0 _ x1
    have e3 : View.ld (Val := Elt F) (e' := .f32) x3 (Rect.unit (s := S1x1x1024) ![0, 0, 0] S1x1x1024.size inb_S1x1x1024_S1x1x1024_0_0_0) = x3 := View.ld_unit_zero (S := S1x1x1024) h0 _ x3
    have e4 : View.ld (Val := Elt F) (e' := .bf16) x4 (Rect.unit (s := S1x1280x2560) ![0, 0, 0] S1x1280x2560.size inb_S1x1280x2560_S1x1280x2560_0_0_0) = x4 := View.ld_unit_zero (S := S1x1280x2560) h0 _ x4
    have hS : View.read (Elt F) arg10.view (arg10.view.writes (Elt F) (harg10.unread d10)
        (run_C.sl.HS0_1 c i arg4 harg4 arg6 harg6 x1 x3)) = scrNext i x1 x3 d10 := by
      unfold run_C.sl.HS0_1
      simp only [View.readAt_eq_ld, Cert.Kit.read_writes_cons_overlay, View.writes_nil, hf1, hf3, hfs0]
      unfold scrNext
      erw [e1, e3]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      unfold run_C.sl.r run_C.sl.r_1 run_C.sl.v36 run_C.sl.v45 run_C.sl.v58
      simp only [View.readAt_eq_ld, Cert.Kit.read_writes_cons_overlay, View.writes_nil, hf4, hf5, hf6, hS]
      unfold outAdd addPay k0_pay2
      rw [shapeCast_self]
      erw [e4]
    iexists _; isplitr; swap; · iexact HS0
    ipureintro
    exact hS

end Cert.RhsIdeal.Gen

end
-- ==== Proof.Rhs.Data.lean ====
/- The run of the call from a pair of invariants: `P n` holds of the scratch when `n` points have run, `Rl t` of the output
   block when point `t` has. What a point does to them (`Steps`) is pure; this module turns it into the run. -/
module

public import proofs.«01_k».proof.Proof.Rhs.RunA
public import proofs.«01_k».proof.Proof.Rhs.RunB
public import proofs.«01_k».proof.Proof.Rhs.RunC
public import Idealize.ShloMosaic.Lib.Pipeline.ArrRel

@[expose] public section

set_option maxRecDepth 16384

noncomputable section

namespace Cert.RhsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point of the grid does to the invariants, case by case: `P n` of the scratch after `n` points and `Rl t` of
    the output block after point `t`, of which nothing is known where a block begins. -/
structure Steps (c : Dev nD) (P : ℕ → Vec F S2x2560x1024 .bf16 → Prop) (Rl : Fin cfg0.N → Vec F S2560x1024 .f32 → Prop) : Prop where
  zero : ∀ X, P 0 X
  first : ∀ (t : Fin cfg0.N) (h1 : cond0_1 (grid0.coords t)), t.val = 0 → ∀ d9 d10,
    P (t.val + 1) (scrNext (grid0.coords t) (iblk m c 1 t) (iblk m c 3 t) (scrFirst (iblk m c 0 t) (iblk m c 2 t) d10))
      ∧ Rl t (outSet (grid0.coords t) h1 (iblk m c 4 t) (iblk m c 5 t) d9 (scrNext (grid0.coords t) (iblk m c 1 t) (iblk m c 3 t) (scrFirst (iblk m c 0 t) (iblk m c 2 t) d10)))
  set : ∀ (t : Fin cfg0.N) (h1 : cond0_1 (grid0.coords t)), t.val ≠ 0 → t.val / 2 % 6 = 0 → ∀ d9 d10, P t.val d10 →
    (t.val % 12 ≠ 0 → Rl ⟨t.val - 1, Nat.lt_of_le_of_lt (Nat.sub_le _ _) t.isLt⟩ d9) →
    P (t.val + 1) (scrNext (grid0.coords t) (iblk m c 1 t) (iblk m c 3 t) d10)
      ∧ Rl t (outSet (grid0.coords t) h1 (iblk m c 4 t) (iblk m c 5 t) d9 (scrNext (grid0.coords t) (iblk m c 1 t) (iblk m c 3 t) d10))
  add : ∀ (t : Fin cfg0.N) (h2 : cond0_2 (grid0.coords t)), 1 ≤ t.val / 2 % 6 → ∀ d9 d10, P t.val d10 →
    Rl ⟨t.val - 1, Nat.lt_of_le_of_lt (Nat.sub_le _ _) t.isLt⟩ d9 →
    P (t.val + 1) (scrNext (grid0.coords t) (iblk m c 1 t) (iblk m c 3 t) d10)
      ∧ Rl t (outAdd (grid0.coords t) h2 (iblk m c 4 t) (iblk m c 5 t) d9 (scrNext (grid0.coords t) (iblk m c 1 t) (iblk m c 3 t) d10))

/-- The window held to a predicate: the output. -/
def forgets0 : Fin 7 → Bool := fun w => w.val == 6

/-- The proof data: the arrays as the region finds them, each input's buffer at its block, the scratch held to `P`. -/
def dats (P : (c : Dev nD) → ℕ → Vec F S2x2560x1024 .bf16 → Prop) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ n := iprop((∃ d, ⌜P c n.val d⌝ ∗ owns (c : Thread nD τ) scM0_0 fullShare d) ∗ (∃ r, prngReg c r))
  q w := Pipeline.shareOf spec0 w
  owed _ := 0

variable (P : (c : Dev nD) → ℕ → Vec F S2x2560x1024 .bf16 → Prop) (Rl : (c : Dev nD) → Fin cfg0.N → Vec F S2560x1024 .f32 → Prop)

/-- The predicate on each window's buffer: `Rl` on the output. -/
def relW (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun t X => Rl c t X

/-- The proof data's arrays are the region-entry contents. -/
theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem after0_1 (c : Dev nD) (t : Fin cfg0.N) : (dats m P 0 c).after 1 t = iblk m c 1 t := by dsimp only [dats]
theorem after0_2 (c : Dev nD) (t : Fin cfg0.N) : (dats m P 0 c).after 2 t = iblk m c 2 t := by dsimp only [dats]
theorem after0_3 (c : Dev nD) (t : Fin cfg0.N) : (dats m P 0 c).after 3 t = iblk m c 3 t := by dsimp only [dats]
theorem after0_4 (c : Dev nD) (t : Fin cfg0.N) : (dats m P 0 c).after 4 t = iblk m c 4 t := by dsimp only [dats]
theorem after0_5 (c : Dev nD) (t : Fin cfg0.N) : (dats m P 0 c).after 5 t = iblk m c 5 t := by dsimp only [dats]
theorem before0_0 (c : Dev nD) (t : Fin cfg0.N) (d) : (dats m P 0 c).before 0 t d = iblk m c 0 t :=
  before0_0_of m (dats m P 0 c) (A_eq m P c 0) (after0_0 m P c) t d
theorem before0_1 (c : Dev nD) (t : Fin cfg0.N) (d) : (dats m P 0 c).before 1 t d = iblk m c 1 t :=
  before0_1_of m (dats m P 0 c) (A_eq m P c 1) (after0_1 m P c) t d
theorem before0_2 (c : Dev nD) (t : Fin cfg0.N) (d) : (dats m P 0 c).before 2 t d = iblk m c 2 t :=
  before0_2_of m (dats m P 0 c) (A_eq m P c 2) (after0_2 m P c) t d
theorem before0_3 (c : Dev nD) (t : Fin cfg0.N) (d) : (dats m P 0 c).before 3 t d = iblk m c 3 t :=
  before0_3_of m (dats m P 0 c) (A_eq m P c 3) (after0_3 m P c) t d
theorem before0_4 (c : Dev nD) (t : Fin cfg0.N) (d) : (dats m P 0 c).before 4 t d = iblk m c 4 t :=
  before0_4_of m (dats m P 0 c) (A_eq m P c 4) (after0_4 m P c) t d
theorem before0_5 (c : Dev nD) (t : Fin cfg0.N) (d) : (dats m P 0 c).before 5 t d = iblk m c 5 t :=
  before0_5_of m (dats m P 0 c) (A_eq m P c 5) (after0_5 m P c) t d

/-- The relational proof data of the call. -/
abbrev rdats (c : Dev nD) : Pipeline.RDat τ (Elt F) Unit ℕ (UR sig nD τ) ℕ cfg0 c := (dats m P 0 c).toRRel forgets0 (relW Rl c)

/-- The output's window is never fetched into. -/
theorem fetch0_6 (t : Fin cfg0.N) : (cfg0.win 6).fetch t = false := rfl

/-- Off a block's first point the output block is found as the point before left it. -/
theorem finds6 (c : Dev nD) (t : Fin cfg0.N) (h : t.val % 12 ≠ 0) (Y : Vec F S2560x1024 .f32) (hY : (rdats m P Rl c).Finds 6 t Y) :
    Rl c ⟨t.val - 1, Nat.lt_of_le_of_lt (Nat.sub_le _ _) t.isLt⟩ Y := by
  rcases ((rdats m P Rl c).finds_of_pos (fetch0_6 t) (by omega) Y).mp hY with hf | hl
  · exfalso
    have := (flush0_6 _).mp hf
    have hp : t.val ≠ 0 := by omega
    simp only at this
    omega
  · exact Dat.toRRel_leaves (dats m P 0 c) (fgt := forgets0) (Rl := relW Rl c) (w := 6) rfl hl

/-- What the body is called with at point `t`, the windows one by one, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ d, owns (c : Thread nD τ) (ms0_3 t) fullShare ((dats m P 0 c).before 3 t d))
    ∗ (∃ d, owns (c : Thread nD τ) (ms0_4 t) fullShare ((dats m P 0 c).before 4 t d))
    ∗ (∃ d, owns (c : Thread nD τ) (ms0_5 t) fullShare ((dats m P 0 c).before 5 t d))
    ∗ (∃ Y, ⌜(rdats m P Rl c).Finds 6 t Y⌝ ∗ owns (c : Thread nD τ) (ms0_6 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ owns (c : Thread nD τ) (ms0_1 t) fullShare ((dats m P 0 c).after 1 t)
    ∗ owns (c : Thread nD τ) (ms0_2 t) fullShare ((dats m P 0 c).after 2 t)
    ∗ owns (c : Thread nD τ) (ms0_3 t) fullShare ((dats m P 0 c).after 3 t)
    ∗ owns (c : Thread nD τ) (ms0_4 t) fullShare ((dats m P 0 c).after 4 t)
    ∗ owns (c : Thread nD τ) (ms0_5 t) fullShare ((dats m P 0 c).after 5 t)
    ∗ (∃ X, ⌜Rl c t X⌝ ∗ owns (c : Thread nD τ) (ms0_6 t) fullShare X))

variable (hS : ∀ c, Steps m c (P c) (Rl c))
include hS

set_option maxHeartbeats 2400000 in
/-- The body at any point keeps the invariants. -/
theorem sound_body (c : Dev nD) (t : Fin cfg0.N) :
    bodyPre m P Rl c t ⊢ wp frame (wpE (defs₀ (F := F)) Variants.none c none) Set.univ (bodyAt0 t) (fun _ => bodyPost m P Rl c t) := by
  unfold bodyPre bodyPost bodyAt0
  simp only [before0_0, before0_1, before0_2, before0_3, before0_4, before0_5, after0_0, after0_1, after0_2, after0_3, after0_4, after0_5]
  rw [show (dats m P 0 c).owesAt () t.succ = (dats m P 0 c).owesAt () t.castSucc from rfl]
  rw [show (dats m P 0 c).Φ t.castSucc = iprop((∃ d, ⌜P c t.val d⌝ ∗ owns (c : Thread nD τ) scM0_0 fullShare d) ∗ (∃ r, prngReg c r)) from rfl,
    show (dats m P 0 c).Φ t.succ = iprop((∃ d, ⌜P c (t.val + 1) d⌝ ∗ owns (c : Thread nD τ) scM0_0 fullShare d) ∗ (∃ r, prngReg c r)) from rfl]
  have hN : t.val < 120 := lt_of_lt_of_eq t.isLt (show cfg0.N = 120 from N_0)
  iintro ⟨⟨⟨%d10, %hP, HS0⟩, Hg⟩, Ho, ⟨%d0, H0⟩, ⟨%d1, H1⟩, ⟨%d2, H2⟩, ⟨%d3, H3⟩, ⟨%d4, H4⟩, ⟨%d5, H5⟩, ⟨%d9, %hF, H6⟩⟩
  by_cases h0 : t.val % 120 = 0
  · have hst := (hS c).first t ((hcond0_1 t).mpr (by omega)) (by omega) d9 d10
    iapply (run_A c (grid0.coords t) _ _ _ _ _ _ _ _ _ _ _ _ _ _ _ _ ((hcond0_0 t).mpr h0) ((hcond0_1 t).mpr (by omega)) (fun h => by have := (hcond0_2 t).mp h; omega) (iblk m c 0 t) (iblk m c 1 t) (iblk m c 2 t) (iblk m c 3 t) (iblk m c 4 t) (iblk m c 5 t) d9 d10 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists _; isplitr; · ipureintro; exact hst.1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr; · ipureintro; exact hst.2
    iexact H6
  · by_cases h1 : t.val / 2 % 6 = 0
    · have hst := (hS c).set t ((hcond0_1 t).mpr h1) (by omega) h1 d9 d10 hP (fun h => finds6 m P Rl c t h d9 hF)
      iapply (run_B c (grid0.coords t) _ _ _ _ _ _ _ _ _ _ _ _ _ _ _ _ (fun h => h0 ((hcond0_0 t).mp h)) ((hcond0_1 t).mpr h1) (fun h => by have := (hcond0_2 t).mp h; omega) (iblk m c 0 t) (iblk m c 1 t) (iblk m c 2 t) (iblk m c 3 t) (iblk m c 4 t) (iblk m c 5 t) d9 d10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexists _; isplitr; · ipureintro; exact hst.1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr; · ipureintro; exact hst.2
      iexact H6
    · have hst := (hS c).add t ((hcond0_2 t).mpr (by omega)) (by omega) d9 d10 hP (finds6 m P Rl c t (by omega) d9 hF)
      iapply (run_C c (grid0.coords t) _ _ _ _ _ _ _ _ _ _ _ _ _ _ _ _ (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) d9 d10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexists _; isplitr; · ipureintro; exact hst.1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr; · ipureintro; exact hst.2
      iexact H6

omit hS in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m P 0 c) (defs₀ (F := F)) Variants.none () Set.univ forgets0 (relW Rl c) := fun t => by
  rw [bigSep_W0, bigSep_W0, defs₀_row]
  exact triple_restated (sound_body m P Rl hS c t) rfl .rfl fun _ => .rfl

omit hS in
/-- The region is entered with the scratch at any contents: `P 0` holds of them all. -/
theorem Phi_in (h0 : ∀ c X, P c 0 X) (c : Dev nD) : (Pipeline.ΦA spec0 c : sProp 𝕄) ⊢ (dats m P 0 c).Φ 0 := by
  rw [PhiA0_eq]
  show _ ⊢ iprop((∃ d, ⌜P c 0 d⌝ ∗ owns (c : Thread nD τ) scM0_0 fullShare d) ∗ (∃ r, prngReg c r))
  iintro ⟨⟨%d, H⟩, Hg⟩
  isplitl [H]
  · iexists d; isplitr; · ipureintro; exact h0 c d
    iexact H
  iexact Hg

omit hS in
/-- The region is left with the scratch at some contents. -/
theorem Phi_out (c : Dev nD) : (dats m P 0 c).Φ (Fin.last cfg0.N) ⊢ (Pipeline.ΦA spec0 c : sProp 𝕄) := by
  rw [PhiA0_eq]
  show iprop((∃ d, ⌜P c _ d⌝ ∗ owns (c : Thread nD τ) scM0_0 fullShare d) ∗ (∃ r, prngReg c r)) ⊢ _
  iintro ⟨⟨%d, %hd, H⟩, Hg⟩
  isplitl [H]
  · iexists d; iexact H
  iexact Hg

set_option backward.isDefEq.respectTransparency.types false in
/-- The launch: every fair execution ends, at arrays the relational proof data allow, with every counter at zero. -/
theorem run_main_quiescent : θ_run defs (onTc (τ := τ) (main (F := F))) (s₀ m ρ) (fun r => (Pipeline.RDat.FramePost (cfgs 0) (rdats m P Rl) (V m)) r ∧ r.2.sem = fun _ => 0) :=
  Pipeline.RDat.θ_run_frame_track_shared (Q' := _) cfgs (0 : Fin 1) launch₀0 defs₀ Variants.none (rdats m P Rl) m ρ main
    (hbody := fun c => (body_obligation m P Rl hS c).toRRel) (hq := fun _ _ _ => rfl)
    (howed := fun _ _ => rfl) (V := V m) (hmain := hmain m Variants.none) (hA := A_eq m P) (hin := Phi_in m P fun c X => (hS c).zero X) (hout := Phi_out m P)
    (hQ' := fun _ h => h)

/-- What a final state holds: at each flushing point some contents that meet `Rl`, and the result array as those contents
    written back; the arguments as launched; every counter at zero. -/
theorem run_main : θ_run defs (onTc (τ := τ) (main (F := F))) ⟨m, fun _ => 0, ρ⟩ (fun r => ((∀ c : Dev nD,
      (∃ after : (w' : Fin cfg0.W) → Fin cfg0.N → (cfg0.win w').block.Idx → Elt F (cfg0.win w').elt,
        (∀ u : Fin cfg0.N, (cfg0.win 6).flush u = true → Rl c u (after 6 u))
          ∧ r.2.mem ((cfg0.spec 6).arr.view.loc (c.tc : Thread nD τ)) = ((rdats m P Rl c).withAfter after).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) := by
  refine (θ_run defs _ _).mono (fun r h => ⟨fun c => ⟨?_, ?_⟩, h.2⟩) (run_main_quiescent m ρ P Rl hS)
  · haveI : ∀ e, Nonempty (Elt F e) := fun e => inferInstance
    obtain ⟨after, hL, hA⟩ := Pipeline.RDat.FramePost.exists_exact h.1 c
    exact ⟨after, fun u hu => Dat.toRRel_leaves (dats m P 0 c) (fgt := forgets0) (Rl := relW Rl c) (w := 6) rfl (hL 6 u hu), hA 6⟩
  · have h := h.1
    exact ⟨(Pipeline.RDat.FramePost.arr_in h c 4 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 5 rfl).trans (V_main_arg3 m c)⟩

end Cert.RhsIdeal.Gen

end
-- ==== Proof.Rhs.Pays.lean ====
/- The kernel's stored values read at an index, over the extended reals. -/
module

public import proofs.«01_k».proof.Proof.Gen.RhsIdeal.Skeleton
public import Idealize.ShloMosaic.Lib.Pointwise

@[expose] public section

set_option maxRecDepth 16384

noncomputable section

namespace Cert.RhsIdeal.Pays

open Cert.RhsIdeal Cert.RhsIdeal.Gen Idealize.ShloMosaic Idealize.ShloMosaic.TcCoe

/-- The kernel's constant 0.9, as its f32 pattern denotes it. -/
abbrev α : EReal := Ideal.ofBits .f32 0x3F666666#32
/-- The kernel's constant 0.1, as its f32 pattern denotes it. -/
abbrev β : EReal := Ideal.ofBits .f32 0x3DCCCCCD#32

/-- The first block dequantised: code times scale. -/
theorem pay3_apply (x : Vec Ideal S1x2560x1024 .i8) (y : Vec Ideal S1x1x1024 .f32) (r : Fin 2560) (l : Fin 1024) :
    k0_pay3 (F := Ideal) x y (ix3 0 r l) = (((x (ix3 0 r l)).toInt : ℝ) : EReal) * y (ix3 0 0 l) := by
  unfold k0_pay3
  pointwise
  rfl

/-- Half of the next block dequantised: code times scale. -/
theorem pay4_apply (x : Vec Ideal S1x1280x1024 .i8) (y : Vec Ideal S1x1x1024 .f32) (r : Fin 1280) (l : Fin 1024) :
    k0_pay4 (F := Ideal) x y (ix3 0 r l) = (((x (ix3 0 r l)).toInt : ℝ) : EReal) * y (ix3 0 0 l) := by
  unfold k0_pay4
  pointwise
  rfl

/-- A model's column of the diagonals, picked by a sum over the lanes. -/
theorem pay5_apply (i : grid0.Coords) (x : Vec Ideal S1280x128 .f32) (r : Fin 1280) :
    k0_pay5 (F := Ideal) i x (ix2 r 0) = x (ix2 r ⟨(i 1).val, lt_of_lt_of_le (i 1).isLt (by decide)⟩) := by
  unfold k0_pay5
  pointwise
  have hi : (i 1).val < 6 := (i 1).isLt
  refine (Finset.sum_eq_single (⟨(i 1).val, by omega⟩ : Fin 128) ?_ ?_).trans ?_
  · intro b _ hb
    have hne : ¬ (BitVec.ofNat 32 b.val = BitVec.ofNat 32 (i 1).val) := by
      intro he
      have h := congrArg BitVec.toNat he
      rw [BitVec.toNat_ofNat, BitVec.toNat_ofNat, Nat.mod_eq_of_lt (by omega), Nat.mod_eq_of_lt (by omega)] at h
      exact hb (Fin.ext h)
    have hb : (BitVec.ofNat 32 b.val == BitVec.ofNat 32 (i 1).val) = false := by rw [beq_eq_false_iff_ne]; exact hne
    simp [Scalar.select, IntOp.cmpi, hb]
  · intro h
    exact absurd (Finset.mem_univ _) h
  · simp [Scalar.select, IntOp.cmpi]

/-- The Gram block without its leading unit axis. -/
theorem pay6_apply (x : Vec Ideal S1x1280x2560 .bf16) (r : Fin 1280) (l : Fin 2560) :
    k0_pay6 (F := Ideal) x (ix2 r l) = x (ix3 0 r l) := by
  unfold k0_pay6
  pointwise

/-- What a point adds: `0.9 · (Gram block × weights) + (0.1 · diagonal) · weights`. -/
theorem pay1_apply (v32 : FVec Ideal S1280x1 .f32) (v34 : FVec Ideal S1280x2560 .bf16) (v36 : Vec Ideal S1x2560x1024 .bf16)
    (v45 : Vec Ideal S1x1280x1024 .bf16) (r : Fin 1280) (l : Fin 1024) :
    k0_pay1 (F := Ideal) v32 v34 v36 v45 (ix2 r l)
      = α * (∑ j : Fin 2560, v34 (ix2 r j) * v36 (ix3 0 j l)) + β * v32 (ix2 r 0) * v45 (ix3 0 r l) := by
  unfold k0_pay1
  pointwise

end Cert.RhsIdeal.Pays

end
-- ==== Proof.Rhs.Blocks.lean ====
/- What each input block of the kernel holds, as elements of the argument arrays. -/
module

public import proofs.«01_k».proof.Proof.Gen.RhsIdeal.Frame
public import Idealize.ShloMosaic.Lib.Pointwise
public import Idealize.ShloMosaic.Lib.Claim
public import Idealize.ShloMosaic.Lib.Pipeline.ValueKit

@[expose] public section

set_option maxRecDepth 16384

noncomputable section

namespace Cert.RhsIdeal.Blocks

open Cert.RhsIdeal Cert.RhsIdeal.Gen Idealize.ShloMosaic Idealize.ShloMosaic.TcCoe

variable (m : (ℓ : Loc nD τ sig) → Buf (Elt Ideal) ℓ) (c : Dev nD)

/-- The Gram matrices. -/
abbrev aG : Vec Ideal S6x2560x2560 .bf16 := m ((c.tc : Thread nD τ).loc main_arg0)
/-- The weight codes. -/
abbrev aC : Vec Ideal S6x2560x10240 .i8 := m ((c.tc : Thread nD τ).loc main_arg1)
/-- The weight scales. -/
abbrev aS : Vec Ideal S6x10240 .f32 := m ((c.tc : Thread nD τ).loc main_arg2)
/-- The diagonals, a column a model. -/
abbrev aD : Vec Ideal S2560x128 .f32 := m ((c.tc : Thread nD τ).loc main_arg3)

/-- The model of the `s`-th pair (column block, model). -/
def kS (s : ℕ) : Fin 6 := ⟨s % 6, Nat.mod_lt _ (by decide)⟩
/-- Column `l` of the column block of the `s`-th pair. -/
def cS (s : ℕ) (l : Fin 1024) : Fin 10240 := ⟨(1024 * (s / 6) + l.val) % 10240, Nat.mod_lt _ (by decide)⟩
/-- Row `r` of half `h`. -/
def rS (h : ℕ) (r : Fin 1280) : Fin 2560 := ⟨(1280 * h + r.val) % 2560, Nat.mod_lt _ (by decide)⟩

/-- The windows' blocks, point by point. -/
theorem idx : ∀ t : Fin cfg0.N, (cfg0.win 0).index t = ![0, 0, 0]
    ∧ (cfg0.win 1).index t = ![min (t.val / 2 + 1) 59 % 6, t.val % 2, min (t.val / 2 + 1) 59 / 6]
    ∧ (cfg0.win 2).index t = ![0, 0, 0]
    ∧ (cfg0.win 3).index t = ![min (t.val / 2 + 1) 59 % 6, 0, min (t.val / 2 + 1) 59 / 6]
    ∧ (cfg0.win 4).index t = ![t.val / 2 % 6, t.val % 2, 0]
    ∧ (cfg0.win 5).index t = ![0, 0]
    ∧ (cfg0.win 6).index t = ![0, t.val / 12] := by decide +kernel

/-- A point of the grid is below 120. -/
theorem lt120 (t : Fin cfg0.N) : t.val < 120 := t.isLt

theorem blk0 (t : Fin cfg0.N) (r : Fin 2560) (l : Fin 1024) :
    iblk m c 0 t (ix3 0 r l) = aC m c (ix3 (kS 0) r (cS 0 l)) := by
  blk_ext [iblk, V, idx t, kS, cS]

theorem blk1 (t : Fin cfg0.N) (r : Fin 1280) (l : Fin 1024) :
    iblk m c 1 t (ix3 0 r l) = aC m c (ix3 (kS (min (t.val / 2 + 1) 59)) (rS (t.val % 2) r) (cS (min (t.val / 2 + 1) 59) l)) := by
  have := lt120 t
  blk_ext [iblk, V, idx t, kS, cS, rS]

theorem blk2 (t : Fin cfg0.N) (l : Fin 1024) :
    iblk m c 2 t (ix3 0 0 l) = aS m c (ix2 (kS 0) (cS 0 l)) := by
  blk_simp [iblk, idx t]
  entry_read
  pointwise
  blk_ext [idx t, kS, cS]

theorem blk3 (t : Fin cfg0.N) (l : Fin 1024) :
    iblk m c 3 t (ix3 0 0 l) = aS m c (ix2 (kS (min (t.val / 2 + 1) 59)) (cS (min (t.val / 2 + 1) 59) l)) := by
  have := lt120 t
  blk_simp [iblk, idx t]
  entry_read
  pointwise
  blk_ext [idx t, kS, cS]

theorem blk4 (t : Fin cfg0.N) (r : Fin 1280) (j : Fin 2560) :
    iblk m c 4 t (ix3 0 r j) = aG m c (ix3 (kS (t.val / 2)) (rS (t.val % 2) r) j) := by
  have := lt120 t
  blk_ext [iblk, V, idx t, kS, rS]

theorem blk5 (t : Fin cfg0.N) (r : Fin 2560) (j : Fin 128) :
    iblk m c 5 t (ix2 r j) = aD m c (ix2 r j) := by
  blk_ext [iblk, V, idx t]

end Cert.RhsIdeal.Blocks

end
-- ==== Proof.Rhs.Steps.lean ====
/- The kernel's invariants over the extended reals, kept by every point: the scratch slot in use holds the dequantised weights
   of the current pair (column block, model), the other slot fills up with the next pair's; the output block holds, row by
   row, the sum over the models done so far. -/
module

public import proofs.«01_k».proof.Proof.Rhs.Data
public import proofs.«01_k».proof.Proof.Rhs.Pays
public import proofs.«01_k».proof.Proof.Rhs.Blocks

@[expose] public section

set_option maxRecDepth 16384

noncomputable section

namespace Cert.RhsIdeal.Steps

open Cert.RhsIdeal Cert.RhsIdeal.Gen Idealize.ShloMosaic Idealize.ShloMosaic.TcCoe
open Cert.RhsIdeal.Pays Cert.RhsIdeal.Blocks Cert.Kit

variable (m : (ℓ : Loc nD τ sig) → Buf (Elt Ideal) ℓ) (c : Dev nD)

/-- The dequantised weight of model `k` at row `i` and column `col`: code times scale. -/
def wb (k : Fin 6) (i : Fin 2560) (col : Fin 10240) : EReal :=
  (((aC m c (ix3 k i col)).toInt : ℝ) : EReal) * aS m c (ix2 k col)

/-- … of the `s`-th pair (column block, model), at column `l` of the block. -/
def w (s : ℕ) (i : Fin 2560) (l : Fin 1024) : EReal := wb m c (kS s) i (cS s l)

/-- What model `k` contributes to the right-hand side: the scaled product and the scaled diagonal term. -/
def term (k : Fin 6) (i : Fin 2560) (col : Fin 10240) : EReal :=
  α * (∑ j : Fin 2560, aG m c (ix3 k i j) * wb m c k j col)
    + β * aD m c (ix2 i ⟨k.val, by omega⟩) * wb m c k i col

/-- The sum of the contributions of the first `n` models, in column block `o`. -/
def acc (o n : ℕ) (i : Fin 2560) (l : Fin 1024) : EReal :=
  ∑ k ∈ Finset.range n, term m c (kS (6 * o + k)) i (cS (6 * o + k) l)

/-- The scratch slot of the `s`-th pair. -/
def sl (s : ℕ) : Fin 2 := ⟨s % 2, Nat.mod_lt _ (by decide)⟩

/-- What point `t` finds in the scratch: the slot in use full, and in an odd point the upper half of the other slot. -/
def Cur (t : ℕ) (X : Vec Ideal S2x2560x1024 .bf16) : Prop :=
  (∀ (i : Fin 2560) (l : Fin 1024), X (ix3 (sl (t / 2)) i l) = w m c (t / 2) i l)
    ∧ (t % 2 = 1 → ∀ (i : Fin 2560) (l : Fin 1024), i.val < 1280 → X (ix3 (sl (t / 2 + 1)) i l) = w m c (min (t / 2 + 1) 59) i l)

/-- The scratch invariant after `n` points. -/
def P (n : ℕ) (X : Vec Ideal S2x2560x1024 .bf16) : Prop := 1 ≤ n → n < 120 → Cur m c n X

/-- The output invariant after point `t`: each row holds the sum over the models that reached it, if any did. -/
def Rl (t : Fin cfg0.N) (X : Vec Ideal S2560x1024 .f32) : Prop :=
  ∀ (i : Fin 2560) (l : Fin 1024), 0 < (t.val % 12 + 2 - i.val / 1280) / 2 →
    X (ix2 i l) = acc m c (t.val / 12) ((t.val % 12 + 2 - i.val / 1280) / 2) i l

/-- The body's offsets, point by point. -/
theorem off1 : ∀ t : Fin cfg0.N, k0_off1 (grid0.coords t) = ![(t.val / 2 + 1) % 2, 1280 * (t.val % 2), 0] := by decide +kernel
theorem off2 : ∀ t : Fin cfg0.N, k0_off2 (grid0.coords t) = ![1280 * (t.val % 2), 0] := by decide +kernel
theorem off3 : ∀ t : Fin cfg0.N, k0_off3 (grid0.coords t) = ![t.val / 2 % 2, 0, 0] := by decide +kernel
theorem off4 : ∀ t : Fin cfg0.N, k0_off4 (grid0.coords t) = ![t.val / 2 % 2, 1280 * (t.val % 2), 0] := by decide +kernel
theorem off5 : ∀ t : Fin cfg0.N, k0_off5 (grid0.coords t) = ![1280 * (t.val % 2), 0] := by decide +kernel
theorem off6 : ∀ t : Fin cfg0.N, k0_off6 (grid0.coords t) = ![1280 * (t.val % 2), 0] := by decide +kernel
/-- The model coordinate. -/
theorem coord1 : ∀ t : Fin cfg0.N, ((grid0.coords t) 1).val = t.val / 2 % 6 := by decide +kernel

/-- What a point stores in the other slot is there afterwards. -/
theorem scrNext_in (t : Fin cfg0.N) (d : Vec Ideal S2x2560x1024 .bf16) (i : Fin 2560) (l : Fin 1024) (h : i.val / 1280 = t.val % 2) :
    scrNext (grid0.coords t) (iblk m c 1 t) (iblk m c 3 t) d (ix3 (sl (t.val / 2 + 1)) i l) = w m c (min (t.val / 2 + 1) 59) i l := by
  have ht := lt120 t
  have hr : i.val - 1280 * (t.val % 2) < 1280 := by omega
  have hrow : rS (t.val % 2) ⟨i.val - 1280 * (t.val % 2), hr⟩ = i := by
    apply Fin.ext; show (1280 * (t.val % 2) + (i.val - 1280 * (t.val % 2))) % 2560 = i.val; omega
  refine (overlay_unit_in (k0_off1_inb _) d _ _ (ix3 0 ⟨i.val - 1280 * (t.val % 2), hr⟩ l) ?_).trans ?_
  · refine fun a => Eq.trans ?_ (congrArg (· + _) (congrFun (off1 t) a).symm)
    fin_cases a
    · rfl
    · show i.val = 1280 * (t.val % 2) + (i.val - 1280 * (t.val % 2)); omega
    · show l.val = 0 + l.val; omega
  · refine (pay4_apply _ _ _ _).trans ?_
    rw [blk1, blk3, hrow]
    rfl

/-- The slot in use is untouched by it, -/
theorem scrNext_cur (t : Fin cfg0.N) (d : Vec Ideal S2x2560x1024 .bf16) (i : Fin 2560) (l : Fin 1024) :
    scrNext (grid0.coords t) (iblk m c 1 t) (iblk m c 3 t) d (ix3 (sl (t.val / 2)) i l) = d (ix3 (sl (t.val / 2)) i l) := by
  refine overlay_unit_out (k0_off1_inb _) d _ _ (0 : Fin 3) ?_
  rw [off1 t]
  show t.val / 2 % 2 < (t.val / 2 + 1) % 2 ∨ (t.val / 2 + 1) % 2 + 1 ≤ t.val / 2 % 2
  omega

/-- and so are the rows of the other half. -/
theorem scrNext_row (t : Fin cfg0.N) (d : Vec Ideal S2x2560x1024 .bf16) (k : Fin 2) (i : Fin 2560) (l : Fin 1024) (h : i.val / 1280 ≠ t.val % 2) :
    scrNext (grid0.coords t) (iblk m c 1 t) (iblk m c 3 t) d (ix3 k i l) = d (ix3 k i l) := by
  refine overlay_unit_out (k0_off1_inb _) d _ _ (1 : Fin 3) ?_
  rw [off1 t]
  show i.val < 1280 * (t.val % 2) ∨ 1280 * (t.val % 2) + 1280 ≤ i.val
  omega

/-- The slot in use holds the current weights after the point's store too. -/
theorem cur_after (t : Fin cfg0.N) (d : Vec Ideal S2x2560x1024 .bf16) (h : Cur m c t.val d) (i : Fin 2560) (l : Fin 1024) :
    scrNext (grid0.coords t) (iblk m c 1 t) (iblk m c 3 t) d (ix3 (sl (t.val / 2)) i l) = w m c (t.val / 2) i l :=
  (scrNext_cur m c t d i l).trans (h.1 i l)

/-- A point hands on the scratch as the next point wants it. -/
theorem next_P (t : Fin cfg0.N) (d : Vec Ideal S2x2560x1024 .bf16) (h : Cur m c t.val d) :
    P m c (t.val + 1) (scrNext (grid0.coords t) (iblk m c 1 t) (iblk m c 3 t) d) := by
  intro _ hlt
  rcases Nat.mod_two_eq_zero_or_one t.val with he | he
  · have e2 : (t.val + 1) / 2 = t.val / 2 := by omega
    refine ⟨fun i l => ?_, fun _ i l hi => ?_⟩
    · rw [e2]; exact cur_after m c t d h i l
    · rw [e2]; exact scrNext_in m c t d i l (by omega)
  · have e2 : (t.val + 1) / 2 = t.val / 2 + 1 := by omega
    refine ⟨fun i l => ?_, fun h1 => by omega⟩
    rw [e2]
    have e3 : min (t.val / 2 + 1) 59 = t.val / 2 + 1 := by omega
    by_cases hi : i.val < 1280
    · rw [scrNext_row m c t d _ i l (by omega), h.2 he i l hi, e3]
    · rw [scrNext_in m c t d i l (by omega), e3]

/-- The first point's whole-slot store. -/
theorem first_cur (t : Fin cfg0.N) (h0 : t.val = 0) (d : Vec Ideal S2x2560x1024 .bf16) :
    Cur m c t.val (scrFirst (iblk m c 0 t) (iblk m c 2 t) d) := by
  refine ⟨fun i l => ?_, fun h1 => by omega⟩
  rw [h0]
  refine (overlay_unit_in (s := S2x2560x1024) inb_S2x2560x1024_S1x2560x1024_0_0_0 d _ _ (ix3 0 i l) ?_).trans ?_
  · intro a
    fin_cases a
    · rfl
    · show i.val = 0 + i.val; omega
    · show l.val = 0 + l.val; omega
  · refine (pay3_apply _ _ _ _).trans ?_
    rw [blk0, blk2]
    rfl

/-- What a point adds, at a row of its half. -/
theorem addPay_apply (t : Fin cfg0.N) (X : Vec Ideal S2x2560x1024 .bf16)
    (hX : ∀ (i : Fin 2560) (l : Fin 1024), X (ix3 (sl (t.val / 2)) i l) = w m c (t.val / 2) i l) (r : Fin 1280) (l : Fin 1024) :
    addPay (grid0.coords t) (iblk m c 4 t) (iblk m c 5 t) X (ix2 r l)
      = term m c (kS (t.val / 2)) (rS (t.val % 2) r) (cS (t.val / 2) l) := by
  have ht := lt120 t
  have hrow : (rS (t.val % 2) r).val = 1280 * (t.val % 2) + r.val := by
    show (1280 * (t.val % 2) + r.val) % 2560 = _; omega
  refine (pay1_apply _ _ _ _ r l).trans ?_
  have e36 : ∀ j : Fin 2560, (View.ld (Val := Elt Ideal) (e' := .bf16) X (Rect.unit (s := S2x2560x1024) (k0_off3 (grid0.coords t)) S1x2560x1024.size (k0_off3_inb _))) (ix3 0 j l)
      = w m c (t.val / 2) j l := fun j => by
    refine (ld_unit_apply (k0_off3_inb _) X _ (ix3 (sl (t.val / 2)) j l) ?_).trans (hX j l)
    refine fun a => Eq.trans ?_ (congrArg (· + _) (congrFun (off3 t) a).symm)
    fin_cases a
    · rfl
    · show j.val = 0 + j.val; omega
    · show l.val = 0 + l.val; omega
  have e45 : (View.ld (Val := Elt Ideal) (e' := .bf16) X (Rect.unit (s := S2x2560x1024) (k0_off4 (grid0.coords t)) S1x1280x1024.size (k0_off4_inb _))) (ix3 0 r l)
      = w m c (t.val / 2) (rS (t.val % 2) r) l := by
    refine (ld_unit_apply (k0_off4_inb _) X _ (ix3 (sl (t.val / 2)) (rS (t.val % 2) r) l) ?_).trans (hX _ l)
    refine fun a => Eq.trans ?_ (congrArg (· + _) (congrFun (off4 t) a).symm)
    fin_cases a
    · rfl
    · exact hrow
    · show l.val = 0 + l.val; omega
  have e32 : k0_pay5 (F := Ideal) (grid0.coords t) (View.ld (Val := Elt Ideal) (e' := .f32) (iblk m c 5 t) (Rect.unit (s := S2560x128) (k0_off2 (grid0.coords t)) S1280x128.size (k0_off2_inb _))) (ix2 r 0)
      = aD m c (ix2 (rS (t.val % 2) r) ⟨(kS (t.val / 2)).val, by have := (kS (t.val / 2)).isLt; omega⟩) := by
    refine (pay5_apply _ _ r).trans ?_
    refine (ld_unit_apply (k0_off2_inb _) _ _ (ix2 (rS (t.val % 2) r) ⟨(kS (t.val / 2)).val, by have := (kS (t.val / 2)).isLt; omega⟩) ?_).trans (blk5 m c t _ _)
    refine fun a => Eq.trans ?_ (congrArg (· + _) (congrFun (off2 t) a).symm)
    fin_cases a
    · exact hrow
    · show t.val / 2 % 6 = 0 + ((grid0.coords t) 1).val
      rw [coord1 t]; omega
  have e34 : ∀ j : Fin 2560, k0_pay6 (F := Ideal) (iblk m c 4 t) (ix2 r j) = aG m c (ix3 (kS (t.val / 2)) (rS (t.val % 2) r) j) := fun j =>
    (pay6_apply _ r j).trans (blk4 m c t r j)
  exact congrArg₂ (· + ·) (congrArg (α * ·) (Finset.sum_congr rfl fun j _ => congrArg₂ (· * ·) (e34 j) (e36 j)))
    (congrArg₂ (· * ·) (congrArg (β * ·) e32) e45)

/-- One more model in the sum. -/
theorem acc_succ (o n : ℕ) (i : Fin 2560) (l : Fin 1024) :
    acc m c o (n + 1) i l = acc m c o n i l + term m c (kS (6 * o + n)) i (cS (6 * o + n) l) := Finset.sum_range_succ _ _

/-- The first model's sum is its contribution. -/
theorem acc_one (o : ℕ) (i : Fin 2560) (l : Fin 1024) :
    acc m c o 1 i l = term m c (kS (6 * o)) i (cS (6 * o) l) := by
  show ∑ k ∈ Finset.range 1, _ = _
  rw [Finset.sum_range_one]; rfl

/-- A point of the first model sets its rows, the others' being as before. -/
theorem set_Rl (t : Fin cfg0.N) (h1 : cond0_1 (grid0.coords t)) (hk : t.val / 2 % 6 = 0) (d9 : Vec Ideal S2560x1024 .f32) (X : Vec Ideal S2x2560x1024 .bf16)
    (hX : ∀ (i : Fin 2560) (l : Fin 1024), X (ix3 (sl (t.val / 2)) i l) = w m c (t.val / 2) i l)
    (h9 : t.val % 12 ≠ 0 → Rl m c ⟨t.val - 1, Nat.lt_of_le_of_lt (Nat.sub_le _ _) t.isLt⟩ d9) :
    Rl m c t (outSet (grid0.coords t) h1 (iblk m c 4 t) (iblk m c 5 t) d9 X) := by
  have ht := lt120 t
  intro i l hn
  by_cases hi : i.val / 1280 = t.val % 2
  · have hr : i.val - 1280 * (t.val % 2) < 1280 := by omega
    have hrow : rS (t.val % 2) ⟨i.val - 1280 * (t.val % 2), hr⟩ = i := by
      apply Fin.ext; show (1280 * (t.val % 2) + (i.val - 1280 * (t.val % 2))) % 2560 = i.val; omega
    refine (overlay_unit_in (k0_off5_inb _ h1) d9 _ _ (ix2 ⟨i.val - 1280 * (t.val % 2), hr⟩ l) ?_).trans ?_
    · refine fun a => Eq.trans ?_ (congrArg (· + _) (congrFun (off5 t) a).symm)
      fin_cases a
      · show i.val = 1280 * (t.val % 2) + (i.val - 1280 * (t.val % 2)); omega
      · show l.val = 0 + l.val; omega
    · refine (addPay_apply m c t X hX _ l).trans ?_
      rw [hrow, show (t.val % 12 + 2 - i.val / 1280) / 2 = 1 by omega, acc_one, show 6 * (t.val / 12) = t.val / 2 by omega]
  · refine (overlay_unit_out (k0_off5_inb _ h1) d9 _ _ (0 : Fin 2) ?_).trans ?_
    · rw [off5 t]
      show i.val < 1280 * (t.val % 2) ∨ 1280 * (t.val % 2) + 1280 ≤ i.val
      omega
    · have hi' := i.isLt
      have h0 : t.val % 12 ≠ 0 := by omega
      have := h9 h0 i l (by show 0 < ((t.val - 1) % 12 + 2 - i.val / 1280) / 2; omega)
      rw [this]
      show acc m c ((t.val - 1) / 12) (((t.val - 1) % 12 + 2 - i.val / 1280) / 2) i l = _
      rw [show (t.val - 1) / 12 = t.val / 12 by omega, show ((t.val - 1) % 12 + 2 - i.val / 1280) / 2 = (t.val % 12 + 2 - i.val / 1280) / 2 by omega]

/-- A point of a later model adds to its rows. -/
theorem add_Rl (t : Fin cfg0.N) (h2 : cond0_2 (grid0.coords t)) (hk : 1 ≤ t.val / 2 % 6) (d9 : Vec Ideal S2560x1024 .f32) (X : Vec Ideal S2x2560x1024 .bf16)
    (hX : ∀ (i : Fin 2560) (l : Fin 1024), X (ix3 (sl (t.val / 2)) i l) = w m c (t.val / 2) i l)
    (h9 : Rl m c ⟨t.val - 1, Nat.lt_of_le_of_lt (Nat.sub_le _ _) t.isLt⟩ d9) :
    Rl m c t (outAdd (grid0.coords t) h2 (iblk m c 4 t) (iblk m c 5 t) d9 X) := by
  have ht := lt120 t
  intro i l hn
  have hi' := i.isLt
  have h := h9 i l (by show 0 < ((t.val - 1) % 12 + 2 - i.val / 1280) / 2; omega)
  have h : d9 (ix2 i l) = acc m c ((t.val - 1) / 12) (((t.val - 1) % 12 + 2 - i.val / 1280) / 2) i l := h
  rw [show (t.val - 1) / 12 = t.val / 12 by omega] at h
  by_cases hi : i.val / 1280 = t.val % 2
  · have hr : i.val - 1280 * (t.val % 2) < 1280 := by omega
    have hrow : rS (t.val % 2) ⟨i.val - 1280 * (t.val % 2), hr⟩ = i := by
      apply Fin.ext; show (1280 * (t.val % 2) + (i.val - 1280 * (t.val % 2))) % 2560 = i.val; omega
    have hoff : ∀ a : Fin 2, (ix2 i l a : ℕ) = k0_off6 (grid0.coords t) a + (ix2 (⟨i.val - 1280 * (t.val % 2), hr⟩ : Fin 1280) l a : ℕ) := by
      refine fun a => Eq.trans ?_ (congrArg (· + _) (congrFun (off6 t) a).symm)
      fin_cases a
      · show i.val = 1280 * (t.val % 2) + (i.val - 1280 * (t.val % 2)); omega
      · show l.val = 0 + l.val; omega
    refine (overlay_unit_in (k0_off6_inb _ h2) d9 _ _ (ix2 ⟨i.val - 1280 * (t.val % 2), hr⟩ l) hoff).trans ?_
    show _ + addPay (grid0.coords t) (iblk m c 4 t) (iblk m c 5 t) X (ix2 ⟨i.val - 1280 * (t.val % 2), hr⟩ l) = _
    rw [addPay_apply m c t X hX _ l, hrow, show (t.val % 12 + 2 - i.val / 1280) / 2 = t.val / 2 % 6 + 1 by omega, acc_succ,
      show 6 * (t.val / 12) + t.val / 2 % 6 = t.val / 2 by omega]
    refine congrArg (· + _) ?_
    refine (ld_unit_apply (k0_off6_inb _ h2) d9 _ (ix2 i l) hoff).trans ?_
    rw [h, show ((t.val - 1) % 12 + 2 - i.val / 1280) / 2 = t.val / 2 % 6 by omega]
  · refine (overlay_unit_out (k0_off6_inb _ h2) d9 _ _ (0 : Fin 2) ?_).trans ?_
    · rw [off6 t]
      show i.val < 1280 * (t.val % 2) ∨ 1280 * (t.val % 2) + 1280 ≤ i.val
      omega
    · rw [h, show ((t.val - 1) % 12 + 2 - i.val / 1280) / 2 = (t.val % 12 + 2 - i.val / 1280) / 2 by omega]

/-- Every point keeps the invariants. -/
theorem steps : Cert.RhsIdeal.Gen.Steps m c (P m c) (Rl m c) where
  zero := fun X h => by omega
  first := fun t h1 h0 d9 d10 => by
    have hc := first_cur m c t h0 d10
    exact ⟨next_P m c t _ hc, set_Rl m c t h1 (by omega) d9 _ (cur_after m c t _ hc) (fun h => by omega)⟩
  set := fun t h1 h0 hk d9 d10 hP h9 => by
    have hc : Cur m c t.val d10 := hP (by omega) (lt120 t)
    exact ⟨next_P m c t _ hc, set_Rl m c t h1 hk d9 _ (cur_after m c t _ hc) h9⟩
  add := fun t h2 hk d9 d10 hP h9 => by
    have hc : Cur m c t.val d10 := hP (by omega) (lt120 t)
    exact ⟨next_P m c t _ hc, add_Rl m c t h2 hk d9 _ (cur_after m c t _ hc) h9⟩

end Cert.RhsIdeal.Steps

end
-- ==== Proof.Rhs.Ref.lean ====
/- The reference's result at an index, over the extended reals. -/
module

public import proofs.«01_k».proof.Proof.Gen.RhsRefIdeal.Value
public import Idealize.ShloMosaic.Lib.Pointwise

@[expose] public section

set_option maxRecDepth 16384

noncomputable section

namespace Cert.RhsRefIdeal.RefValue

open Cert.RhsRefIdeal Cert.RhsRefIdeal.Gen Idealize.ShloMosaic Idealize.ShloMosaic.TcCoe

/-- The dequantised weight: code times scale. -/
def rwb (C : Vec Ideal S6x2560x10240 .i8) (S : Vec Ideal S6x10240 .f32) (k : Fin 6) (i : Fin 2560) (col : Fin 10240) : EReal :=
  (((C (ix3 k i col)).toInt : ℝ) : EReal) * S (ix2 k col)

/-- `0.9` times the sum of the models' products plus `0.1` times the sum of the diagonals times the weights. -/
theorem G4_apply (G : Vec Ideal S6x2560x2560 .bf16) (C : Vec Ideal S6x2560x10240 .i8) (S : Vec Ideal S6x10240 .f32) (D : Vec Ideal S2560x128 .f32)
    (i : Fin 2560) (col : Fin 10240) :
    Value.G4 (F := Ideal) G C S D (ix2 i col)
      = Ideal.ofBits .f32 0x3F666666#32 * (∑ k : Fin 6, ∑ j : Fin 2560, G (ix3 k i j) * rwb C S k j col)
        + Ideal.ofBits .f32 0x3DCCCCCD#32 * (∑ k : Fin 6, D (ix2 i ⟨k.val, by omega⟩) * rwb C S k i col) := by
  unfold Value.G4 k0_pay1
  pointwise
  rfl

end Cert.RhsRefIdeal.RefValue

end
-- ==== Proof.Rhs.Final.lean ====
/- The kernel's result is the reference's, element by element over the extended reals. -/
module

public import proofs.«01_k».proof.Proof.Rhs.Steps
public import proofs.«01_k».proof.Proof.Rhs.Ref
public import proofs.«01_k».proof.Defs

@[expose] public section

set_option maxRecDepth 16384

noncomputable section

namespace Cert.RhsIdeal.Final

open Cert.RhsIdeal Cert.RhsIdeal.Gen Idealize.ShloMosaic Idealize.ShloMosaic.TcCoe Idealize.SL.Sem
open Cert.RhsIdeal.Pays Cert.RhsIdeal.Blocks Cert.RhsIdeal.Steps

variable (m : (ℓ : Loc nD τ sig) → Buf (Elt Ideal) ℓ) (c : Dev nD)

/-- The right-hand side: the sum of the six models' contributions. -/
def out : Vec Ideal S2560x10240 .f32 := fun y => ∑ k : Fin 6, term m c k (y 0) (y 1)

/-- The sum over all six models at a column of block `o`. -/
theorem acc_six (o : ℕ) (ho : o < 10) (i : Fin 2560) (l : Fin 1024) (col : Fin 10240) (hc : col.val = o * 1024 + l.val) :
    acc m c o 6 i l = ∑ k : Fin 6, term m c k i col := by
  show ∑ k ∈ Finset.range 6, term m c (kS (6 * o + k)) i (cS (6 * o + k) l) = _
  rw [Finset.sum_range]
  refine Finset.sum_congr rfl fun k _ => ?_
  have e1 : kS (6 * o + k.val) = k := by
    apply Fin.ext; show (6 * o + k.val) % 6 = k.val; have := k.isLt; omega
  have e2 : cS (6 * o + k.val) l = col := by
    apply Fin.ext; show (1024 * ((6 * o + k.val) / 6) + l.val) % 10240 = col.val; have := k.isLt; have := l.isLt; omega
  rw [e1, e2]

/-- The output array, whatever each point leaves as long as it keeps the invariant. -/
theorem final (after : (w' : Fin cfg0.W) → Fin cfg0.N → (cfg0.win w').block.Idx → Elt Ideal (cfg0.win w').elt)
    (h : ∀ u : Fin cfg0.N, (cfg0.win 6).flush u = true → Rl m c u (after 6 u)) :
    ((rdats m (P m) (Rl m) c).withAfter after).arrAt 6 cfg0.N = out m c := by
  refine ((rdats m (P m) (Rl m) c).withAfter after).arrAt_eq_of_covers 6 _ (by decide +kernel) fun t hf y => ?_
  have hm : t.val % 12 = 11 := (flush0_6 t).mp hf
  have ht := lt120 t
  have hr := h t hf
  idx_vars y
  have hi := y0.isLt
  have hv := hr y0 y1 (by omega)
  rw [show (t.val % 12 + 2 - y0.val / 1280) / 2 = 6 by omega] at hv
  blk_simp
  refine hv.trans ?_
  refine (acc_six m c (t.val / 12) (by omega) y0 y1 ⟨t.val / 12 * 1024 + y1.val, by have := y1.isLt; omega⟩ rfl).trans ?_
  have e : ((cfg0.win 6).blk t).view.emb (ix2 y0 y1) = ix2 y0 (⟨t.val / 12 * 1024 + y1.val, by have := y1.isLt; omega⟩ : Fin 10240) := by
    have i6 := (idx t).2.2.2.2.2.2
    blk_ext [i6]
  exact (congrArg (out m c) e).symm

/-- The constant 0.9 is a nonnegative real, -/
theorem α_real : ∃ r : ℝ, 0 ≤ r ∧ α = (r : EReal) := by
  refine ⟨15099494 / 16777216, by norm_num, ?_⟩
  simp [Ideal.ofBits, Ideal.ieee, -EReal.coe_mul]; norm_num

/-- and so is 0.1. -/
theorem β_real : ∃ r : ℝ, 0 ≤ r ∧ β = (r : EReal) := by
  refine ⟨13421773 / 134217728, by norm_num, ?_⟩
  simp [Ideal.ofBits, Ideal.ieee, -EReal.coe_mul]; norm_num

/-- A nonnegative real factor distributes over a finite sum of extended reals. -/
theorem mul_sum_of_real {ι : Type} (s : Finset ι) (f : ι → EReal) (a : EReal) (ha : ∃ r : ℝ, 0 ≤ r ∧ a = (r : EReal)) :
    a * ∑ k ∈ s, f k = ∑ k ∈ s, a * f k := by
  classical
  obtain ⟨r, hr, rfl⟩ := ha
  induction s using Finset.induction_on with
  | empty => simp
  | insert k s hk ih =>
    rw [Finset.sum_insert hk, Finset.sum_insert hk,
      EReal.left_distrib_of_nonneg_of_ne_top (EReal.coe_nonneg.mpr hr) (EReal.coe_ne_top r), ih]

/-- The reference's result is the same sum. -/
theorem ref_eq (G : Vec Ideal S6x2560x2560 .bf16) (C : Vec Ideal S6x2560x10240 .i8) (S : Vec Ideal S6x10240 .f32) (D : Vec Ideal S2560x128 .f32)
    (hG : G = aG m c) (hC : C = aC m c) (hS : S = aS m c) (hD : D = aD m c) :
    Cert.RhsRefIdeal.Value.G4 (F := Ideal) G C S D = out m c := by
  subst hG hC hS hD
  funext y
  idx_vars y
  refine (Cert.RhsRefIdeal.RefValue.G4_apply _ _ _ _ y0 y1).trans ?_
  rw [mul_sum_of_real _ _ α α_real, mul_sum_of_real _ _ β β_real, ← Finset.sum_add_distrib]
  refine Finset.sum_congr rfl fun k _ => ?_
  rw [← mul_assoc]
  rfl

/-- The frame of the call over the extended reals. -/
theorem frame : Cert.quiescent_RhsIdeal (hRhsIdeal := Cert.RhsIdeal.Gen.facts) := fun m ρ _ =>
  (θ_run defs _ _).mono (fun r h => ⟨fun c => (h.1 c).2, h.2⟩) (run_main m ρ (P m) (Rl m) (steps m))

/-- Both run and end with equal results. -/
theorem algebraic : Cert.algebraic_RhsIdeal_RhsRefIdeal (hRhsIdeal := Cert.RhsIdeal.Gen.facts) (hRhsRefIdeal := Cert.RhsRefIdeal.Gen.facts) :=
  fun m g m' g' _ hargs => ⟨fun c => out m c,
    (θ_run defs _ _).mono (fun r h c => by
      obtain ⟨⟨after, hL, hA⟩, hk⟩ := h.1 c
      exact ⟨hA.trans (final m c after hL), hk⟩) (run_main m g (P m) (Rl m) (steps m)),
    (θ_run Cert.RhsRefIdeal.defs _ _).mono (fun r h c => ⟨(h c).1.trans
      (ref_eq m c _ _ _ _ (hargs c).1 (hargs c).2.1 (hargs c).2.2.1 (hargs c).2.2.2), (h c).2⟩) (Cert.RhsRefIdeal.Value.run m' g')⟩

end Cert.RhsIdeal.Final

end
-- ==== Proof.RhsBits.Runs.lean ====
/- What the runs of the kernel's body share: when its three conditionals are taken, as arithmetic of the grid point, and the
   memrefs the body is handed. -/
module

public import proofs.«01_k».proof.Proof.Gen.Rhs.Frame
public import proofs.«01_k».proof.Proof.Gen.Rhs.Skeleton
public import Idealize.ShloMosaic.Lib.Pipeline.Value
public import Idealize.ShloMosaic.Lib.Pipeline.DatRel

@[expose] public section

-- membership in a rectangle of production extents (`View.cover_of_tiled`): the elaborator's structural look
-- recurses once per coordinate of the long axes
set_option maxRecDepth 16384

noncomputable section

namespace Cert.Rhs.BitsFrame

open Cert.Rhs Cert.Rhs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (Scalar.addi (Scalar.muli (BitVec.ofNat 32 (i 0).val) 6#32) (BitVec.ofNat 32 (i 1).val)) 0#32) (Scalar.cmpi .eq (BitVec.ofNat 32 (i 2).val) 0#32))) 0#32) = 1#1
/-- It holds at the first point only — decided over the grid. -/
theorem hcond0_0 : ∀ t : Fin cfg0.N, cond0_0 (grid0.coords t) ↔ t.val % 120 = 0 :=
  (by decide +kernel : ∀ t : Fin grid0.N, cond0_0 (grid0.coords t) ↔ t.val % 120 = 0)

/-- The condition of the body's `scf.if` 1 (`k0_h2`), from the grid coordinates (the skeleton's scalar
    chain substituted). -/
abbrev cond0_1 (i : grid0.Coords) : Prop := k0_cond2 i = 1#1
/-- It holds at the points whose coordinates have i1 = 0 — by arithmetic of the point. -/
theorem hcond0_1 : ∀ t : Fin cfg0.N, cond0_1 (grid0.coords t) ↔ t.val / 2 % 6 = 0 :=
  (fun t => by
    have ht : t.val < 120 := Nat.lt_of_lt_of_eq t.isLt N_0
    have e0 : (grid0.coords t 0).val = t.val / 12 % 10 := Pipeline.Grid.coords_val t 0 (by decide) rfl
    have e1 : (grid0.coords t 1).val = t.val / 2 % 6 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val / 2 % 6 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — by arithmetic of the point. -/
theorem hcond0_2 : ∀ t : Fin cfg0.N, cond0_2 (grid0.coords t) ↔ 1 ≤ t.val / 2 % 6 :=
  (fun t => by
    have ht : t.val < 120 := Nat.lt_of_lt_of_eq t.isLt N_0
    have e0 : (grid0.coords t 0).val = t.val / 12 % 10 := Pipeline.Grid.coords_val t 0 (by decide) rfl
    have e1 : (grid0.coords t 1).val = t.val / 2 % 6 := Pipeline.Grid.coords_val t 1 (by decide) rfl
    have e2 : (grid0.coords t 2).val = t.val / 1 % 2 := Pipeline.Grid.coords_val t 2 (by decide) rfl
    simp only [cond0_2, k0_cond3, e0, e1, e2]
    word_cmp
   : ∀ t : Fin grid0.N, cond0_2 (grid0.coords t) ↔ 1 ≤ t.val / 2 % 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2560x1024 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2560x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2560x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x2560x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Rhs.BitsFrame

end
-- ==== Proof.RhsBits.RunA.lean ====
/- The kernel's body run once, at the first point: from its operands at given contents to the
   output block and the scratch at named contents. -/
module

public import proofs.«01_k».proof.Proof.RhsBits.Runs
public import proofs.«01_k».proof.Proof.Overlay

@[expose] public section

-- membership in a rectangle of production extents (`View.cover_of_tiled`): the elaborator's structural look
-- recurses once per coordinate of the long axes
set_option maxRecDepth 16384

noncomputable section

namespace Cert.Rhs.BitsFrame

open Cert.Rhs Cert.Rhs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the first point's whole-slot store of the dequantised first block. -/
def scrFirst (x0 : Vec F S1x2560x1024 .i8) (x2 : Vec F S1x1x1024 .f32) (d10 : Vec F S2x2560x1024 .bf16) : Vec F S2x2560x1024 .bf16 :=
  (Rect.unit (s := S2x2560x1024) ![0, 0, 0] S1x2560x1024.size inb_S2x2560x1024_S1x2560x1024_0_0_0).overlay d10 (k0_pay3 x0 x2)

/-- The scratch after a point's store of the dequantised half of the next block. -/
def scrNext (i : grid0.Coords) (x1 : Vec F S1x1280x1024 .i8) (x3 : Vec F S1x1x1024 .f32) (d10 : Vec F S2x2560x1024 .bf16) : Vec F S2x2560x1024 .bf16 :=
  (Rect.unit (s := S2x2560x1024) (k0_off1 i) S1x1280x1024.size (k0_off1_inb i)).overlay d10 (k0_pay4 x1 x3)

/-- What a point adds to its rows of the output block: the scaled product and the scaled diagonal term. -/
def addPay (i : grid0.Coords) (x4 : Vec F S1x1280x2560 .bf16) (x5 : Vec F S2560x128 .f32) (d10 : Vec F S2x2560x1024 .bf16) : FVec F S1280x1024 .f32 :=
  k0_pay1 (k0_pay5 i (View.ld (Val := Elt F) (e' := .f32) x5 (Rect.unit (s := S2560x128) (k0_off2 i) S1280x128.size (k0_off2_inb i)))) (k0_pay6 x4)
    (View.ld (Val := Elt F) (e' := .bf16) d10 (Rect.unit (s := S2x2560x1024) (k0_off3 i) S1x2560x1024.size (k0_off3_inb i)))
    (View.ld (Val := Elt F) (e' := .bf16) d10 (Rect.unit (s := S2x2560x1024) (k0_off4 i) S1x1280x1024.size (k0_off4_inb i)))

/-- The output block after a point of the first model: its rows set. -/
def outSet (i : grid0.Coords) (h : cond0_1 i) (x4 : Vec F S1x1280x2560 .bf16) (x5 : Vec F S2560x128 .f32) (d9 : Vec F S2560x1024 .f32) (d10 : Vec F S2x2560x1024 .bf16) : Vec F S2560x1024 .f32 :=
  (Rect.unit (s := S2560x1024) (k0_off5 i) S1280x1024.size (k0_off5_inb i h)).overlay d9 (addPay i x4 x5 d10)

/-- The output block after a point of a later model: its rows added to. -/
def outAdd (i : grid0.Coords) (h : cond0_2 i) (x4 : Vec F S1x1280x2560 .bf16) (x5 : Vec F S2560x128 .f32) (d9 : Vec F S2560x1024 .f32) (d10 : Vec F S2x2560x1024 .bf16) : Vec F S2560x1024 .f32 :=
  (Rect.unit (s := S2560x1024) (k0_off6 i) S1280x1024.size (k0_off6_inb i h)).overlay d9
    (addf (View.ld (Val := Elt F) (e' := .f32) d9 (Rect.unit (s := S2560x1024) (k0_off6 i) S1280x1024.size (k0_off6_inb i h))) (addPay i x4 x5 d10))

set_option maxHeartbeats 1000000 in
/-- The body at the first point: the first block is dequantised whole, then half of the next; the rows are set. -/
theorem run_A (c : Dev nD) (i : grid0.Coords) (arg3 : Memref sig .tc .vmem S1x2560x1024 .i8) (harg3 : arg3.IsWhole) (arg4 : Memref sig .tc .vmem S1x1280x1024 .i8) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1280x2560 .bf16) (harg7 : arg7.IsWhole) (arg8 : Memref sig .tc .vmem S2560x128 .f32) (harg8 : arg8.IsWhole) (arg9 : Memref sig .tc .vmem S2560x1024 .f32) (harg9 : arg9.IsWhole) (arg10 : Memref sig .tc .vmem S2x2560x1024 .bf16) (harg10 : arg10.IsWhole) (hc0 : cond0_0 i) (hc1 : cond0_1 i) (hc2 : ¬cond0_2 i) (x0 : Vec F S1x2560x1024 .i8) (x1 : Vec F S1x1280x1024 .i8) (x2 : Vec F S1x1x1024 .f32) (x3 : Vec F S1x1x1024 .f32) (x4 : Vec F S1x1280x2560 .bf16) (x5 : Vec F S2560x128 .f32) (d9 : Vec F S2560x1024 .f32) (d10 : Vec F S2x2560x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare d10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outSet i hc1 x4 x5 d9 (scrNext i x1 x3 (scrFirst x0 x2 d10))) ∗ owns (c : Thread nD τ) arg10 fullShare (scrNext i x1 x3 (scrFirst x0 x2 d10))) -∗ K ⟨⟩))
          ⊢ wp frame (wpE (defs₀ (F := F)) Variants.none c none) E (cc0_rhs i arg3 harg3 arg4 harg4 arg5 harg5 arg6 harg6 arg7 harg7 arg8 harg8 arg9 harg9 arg10 harg10) K := by
    intro E K
    simp only [cc0_rhs_eq_skeleton]; unfold cc0_rhs_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1 | sl_exact hc2)
    sl_step
    have h0 : (![0, 0, 0] : Fin 3 → Nat) = fun _ => 0 := by decide
    have e0 : View.ld (Val := Elt F) (e' := .i8) x0 (Rect.unit (s := S1x2560x1024) ![0, 0, 0] S1x2560x1024.size inb_S1x2560x1024_S1x2560x1024_0_0_0) = x0 := View.ld_unit_zero (S := S1x2560x1024) h0 _ x0
    have e1 : View.ld (Val := Elt F) (e' := .i8) x1 (Rect.unit (s := S1x1280x1024) ![0, 0, 0] S1x1280x1024.size inb_S1x1280x1024_S1x1280x1024_0_0_0) = x1 := View.ld_unit_zero (S := S1x1280x1024) h0 _ x1
    have e2 : View.ld (Val := Elt F) (e' := .f32) x2 (Rect.unit (s := S1x1x1024) ![0, 0, 0] S1x1x1024.size inb_S1x1x1024_S1x1x1024_0_0_0) = x2 := View.ld_unit_zero (S := S1x1x1024) h0 _ x2
    have e3 : View.ld (Val := Elt F) (e' := .f32) x3 (Rect.unit (s := S1x1x1024) ![0, 0, 0] S1x1x1024.size inb_S1x1x1024_S1x1x1024_0_0_0) = x3 := View.ld_unit_zero (S := S1x1x1024) h0 _ x3
    have e4 : View.ld (Val := Elt F) (e' := .bf16) x4 (Rect.unit (s := S1x1280x2560) ![0, 0, 0] S1x1280x2560.size inb_S1x1280x2560_S1x1280x2560_0_0_0) = x4 := View.ld_unit_zero (S := S1x1280x2560) h0 _ x4
    have hS : View.read (Elt F) arg10.view (arg10.view.writes (Elt F) (harg10.unread d10)
        (run_A.sl.HS0_2 c i arg3 harg3 arg4 harg4 arg5 harg5 arg6 harg6 x0 x1 x2 x3)) = scrNext i x1 x3 (scrFirst x0 x2 d10) := by
      unfold run_A.sl.HS0_2
      simp only [View.readAt_eq_ld, Cert.Kit.read_writes_cons_overlay, View.writes_nil, hf0, hf1, hf2, hf3, hfs0]
      unfold scrNext scrFirst
      erw [e0, e1, e2, e3]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      unfold run_A.sl.r run_A.sl.r_1 run_A.sl.v36 run_A.sl.v45
      simp only [View.readAt_eq_ld, Cert.Kit.read_writes_cons_overlay, View.writes_nil, hf4, hf5, hf6, hS]
      unfold outSet addPay
      erw [e4]
    iexists _; isplitr; swap; · iexact HS0
    ipureintro
    exact hS

end Cert.Rhs.BitsFrame

end
-- ==== Proof.RhsBits.RunB.lean ====
/- The kernel's body run once, at a later point of the first model: from its operands at given contents to the
   output block and the scratch at named contents. -/
module

public import proofs.«01_k».proof.Proof.RhsBits.RunA
public import proofs.«01_k».proof.Proof.Overlay

@[expose] public section

-- membership in a rectangle of production extents (`View.cover_of_tiled`): the elaborator's structural look
-- recurses once per coordinate of the long axes
set_option maxRecDepth 16384

noncomputable section

namespace Cert.Rhs.BitsFrame

open Cert.Rhs Cert.Rhs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point of the first model: half of the next block is dequantised; the rows are set. -/
theorem run_B (c : Dev nD) (i : grid0.Coords) (arg3 : Memref sig .tc .vmem S1x2560x1024 .i8) (harg3 : arg3.IsWhole) (arg4 : Memref sig .tc .vmem S1x1280x1024 .i8) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1280x2560 .bf16) (harg7 : arg7.IsWhole) (arg8 : Memref sig .tc .vmem S2560x128 .f32) (harg8 : arg8.IsWhole) (arg9 : Memref sig .tc .vmem S2560x1024 .f32) (harg9 : arg9.IsWhole) (arg10 : Memref sig .tc .vmem S2x2560x1024 .bf16) (harg10 : arg10.IsWhole) (hc0 : ¬cond0_0 i) (hc1 : cond0_1 i) (hc2 : ¬cond0_2 i) (x0 : Vec F S1x2560x1024 .i8) (x1 : Vec F S1x1280x1024 .i8) (x2 : Vec F S1x1x1024 .f32) (x3 : Vec F S1x1x1024 .f32) (x4 : Vec F S1x1280x2560 .bf16) (x5 : Vec F S2560x128 .f32) (d9 : Vec F S2560x1024 .f32) (d10 : Vec F S2x2560x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare d10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outSet i hc1 x4 x5 d9 (scrNext i x1 x3 d10)) ∗ owns (c : Thread nD τ) arg10 fullShare (scrNext i x1 x3 d10)) -∗ K ⟨⟩))
          ⊢ wp frame (wpE (defs₀ (F := F)) Variants.none c none) E (cc0_rhs i arg3 harg3 arg4 harg4 arg5 harg5 arg6 harg6 arg7 harg7 arg8 harg8 arg9 harg9 arg10 harg10) K := by
    intro E K
    simp only [cc0_rhs_eq_skeleton]; unfold cc0_rhs_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1 | sl_exact hc2)
    sl_step
    have h0 : (![0, 0, 0] : Fin 3 → Nat) = fun _ => 0 := by decide
    have e1 : View.ld (Val := Elt F) (e' := .i8) x1 (Rect.unit (s := S1x1280x1024) ![0, 0, 0] S1x1280x1024.size inb_S1x1280x1024_S1x1280x1024_0_0_0) = x1 := View.ld_unit_zero (S := S1x1280x1024) h0 _ x1
    have e3 : View.ld (Val := Elt F) (e' := .f32) x3 (Rect.unit (s := S1x1x1024) ![0, 0, 0] S1x1x1024.size inb_S1x1x1024_S1x1x1024_0_0_0) = x3 := View.ld_unit_zero (S := S1x1x1024) h0 _ x3
    have e4 : View.ld (Val := Elt F) (e' := .bf16) x4 (Rect.unit (s := S1x1280x2560) ![0, 0, 0] S1x1280x2560.size inb_S1x1280x2560_S1x1280x2560_0_0_0) = x4 := View.ld_unit_zero (S := S1x1280x2560) h0 _ x4
    have hS : View.read (Elt F) arg10.view (arg10.view.writes (Elt F) (harg10.unread d10)
        (run_B.sl.HS0_1 c i arg4 harg4 arg6 harg6 x1 x3)) = scrNext i x1 x3 d10 := by
      unfold run_B.sl.HS0_1
      simp only [View.readAt_eq_ld, Cert.Kit.read_writes_cons_overlay, View.writes_nil, hf1, hf3, hfs0]
      unfold scrNext
      erw [e1, e3]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      unfold run_B.sl.r run_B.sl.r_1 run_B.sl.v36 run_B.sl.v45
      simp only [View.readAt_eq_ld, Cert.Kit.read_writes_cons_overlay, View.writes_nil, hf4, hf5, hf6, hS]
      unfold outSet addPay
      erw [e4]
    iexists _; isplitr; swap; · iexact HS0
    ipureintro
    exact hS

end Cert.Rhs.BitsFrame

end
-- ==== Proof.RhsBits.RunC.lean ====
/- The kernel's body run once, at a point of a later model: from its operands at given contents to the
   output block and the scratch at named contents. -/
module

public import proofs.«01_k».proof.Proof.RhsBits.RunA
public import proofs.«01_k».proof.Proof.Overlay

@[expose] public section

-- membership in a rectangle of production extents (`View.cover_of_tiled`): the elaborator's structural look
-- recurses once per coordinate of the long axes
set_option maxRecDepth 16384

noncomputable section

namespace Cert.Rhs.BitsFrame

open Cert.Rhs Cert.Rhs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of a later model: half of the next block is dequantised; the rows are added to. -/
theorem run_C (c : Dev nD) (i : grid0.Coords) (arg3 : Memref sig .tc .vmem S1x2560x1024 .i8) (harg3 : arg3.IsWhole) (arg4 : Memref sig .tc .vmem S1x1280x1024 .i8) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1280x2560 .bf16) (harg7 : arg7.IsWhole) (arg8 : Memref sig .tc .vmem S2560x128 .f32) (harg8 : arg8.IsWhole) (arg9 : Memref sig .tc .vmem S2560x1024 .f32) (harg9 : arg9.IsWhole) (arg10 : Memref sig .tc .vmem S2x2560x1024 .bf16) (harg10 : arg10.IsWhole) (hc0 : ¬cond0_0 i) (hc1 : ¬cond0_1 i) (hc2 : cond0_2 i) (x0 : Vec F S1x2560x1024 .i8) (x1 : Vec F S1x1280x1024 .i8) (x2 : Vec F S1x1x1024 .f32) (x3 : Vec F S1x1x1024 .f32) (x4 : Vec F S1x1280x2560 .bf16) (x5 : Vec F S2560x128 .f32) (d9 : Vec F S2560x1024 .f32) (d10 : Vec F S2x2560x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare d10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outAdd i hc2 x4 x5 d9 (scrNext i x1 x3 d10)) ∗ owns (c : Thread nD τ) arg10 fullShare (scrNext i x1 x3 d10)) -∗ K ⟨⟩))
          ⊢ wp frame (wpE (defs₀ (F := F)) Variants.none c none) E (cc0_rhs i arg3 harg3 arg4 harg4 arg5 harg5 arg6 harg6 arg7 harg7 arg8 harg8 arg9 harg9 arg10 harg10) K := by
    intro E K
    simp only [cc0_rhs_eq_skeleton]; unfold cc0_rhs_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | sl_exact hc0 | sl_exact hc1 | sl_exact hc2)
    sl_step
    have h0 : (![0, 0, 0] : Fin 3 → Nat) = fun _ => 0 := by decide
    have e1 : View.ld (Val := Elt F) (e' := .i8) x1 (Rect.unit (s := S1x1280x1024) ![0, 0, 0] S1x1280x1024.size inb_S1x1280x1024_S1x1280x1024_0_0_0) = x1 := View.ld_unit_zero (S := S1x1280x1024) h0 _ x1
    have e3 : View.ld (Val := Elt F) (e' := .f32) x3 (Rect.unit (s := S1x1x1024) ![0, 0, 0] S1x1x1024.size inb_S1x1x1024_S1x1x1024_0_0_0) = x3 := View.ld_unit_zero (S := S1x1x1024) h0 _ x3
    have e4 : View.ld (Val := Elt F) (e' := .bf16) x4 (Rect.unit (s := S1x1280x2560) ![0, 0, 0] S1x1280x2560.size inb_S1x1280x2560_S1x1280x2560_0_0_0) = x4 := View.ld_unit_zero (S := S1x1280x2560) h0 _ x4
    have hS : View.read (Elt F) arg10.view (arg10.view.writes (Elt F) (harg10.unread d10)
        (run_C.sl.HS0_1 c i arg4 harg4 arg6 harg6 x1 x3)) = scrNext i x1 x3 d10 := by
      unfold run_C.sl.HS0_1
      simp only [View.readAt_eq_ld, Cert.Kit.read_writes_cons_overlay, View.writes_nil, hf1, hf3, hfs0]
      unfold scrNext
      erw [e1, e3]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      unfold run_C.sl.r run_C.sl.r_1 run_C.sl.v36 run_C.sl.v45 run_C.sl.v58
      simp only [View.readAt_eq_ld, Cert.Kit.read_writes_cons_overlay, View.writes_nil, hf4, hf5, hf6, hS]
      unfold outAdd addPay k0_pay2
      rw [shapeCast_self]
      erw [e4]
    iexists _; isplitr; swap; · iexact HS0
    ipureintro
    exact hS

end Cert.Rhs.BitsFrame

end
-- ==== Proof.RhsBits.Data.lean ====
/- The run of the call from a pair of invariants: `P n` holds of the scratch when `n` points have run, `Rl t` of the output
   block when point `t` has. What a point does to them (`Steps`) is pure; this module turns it into the run. -/
module

public import proofs.«01_k».proof.Proof.RhsBits.RunA
public import proofs.«01_k».proof.Proof.RhsBits.RunB
public import proofs.«01_k».proof.Proof.RhsBits.RunC
public import Idealize.ShloMosaic.Lib.Pipeline.ArrRel

@[expose] public section

set_option maxRecDepth 16384

noncomputable section

namespace Cert.Rhs.BitsFrame

open Cert.Rhs Cert.Rhs.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point of the grid does to the invariants, case by case: `P n` of the scratch after `n` points and `Rl t` of
    the output block after point `t`, of which nothing is known where a block begins. -/
structure Steps (c : Dev nD) (P : ℕ → Vec F S2x2560x1024 .bf16 → Prop) (Rl : Fin cfg0.N → Vec F S2560x1024 .f32 → Prop) : Prop where
  zero : ∀ X, P 0 X
  first : ∀ (t : Fin cfg0.N) (h1 : cond0_1 (grid0.coords t)), t.val = 0 → ∀ d9 d10,
    P (t.val + 1) (scrNext (grid0.coords t) (iblk m c 1 t) (iblk m c 3 t) (scrFirst (iblk m c 0 t) (iblk m c 2 t) d10))
      ∧ Rl t (outSet (grid0.coords t) h1 (iblk m c 4 t) (iblk m c 5 t) d9 (scrNext (grid0.coords t) (iblk m c 1 t) (iblk m c 3 t) (scrFirst (iblk m c 0 t) (iblk m c 2 t) d10)))
  set : ∀ (t : Fin cfg0.N) (h1 : cond0_1 (grid0.coords t)), t.val ≠ 0 → t.val / 2 % 6 = 0 → ∀ d9 d10, P t.val d10 →
    (t.val % 12 ≠ 0 → Rl ⟨t.val - 1, Nat.lt_of_le_of_lt (Nat.sub_le _ _) t.isLt⟩ d9) →
    P (t.val + 1) (scrNext (grid0.coords t) (iblk m c 1 t) (iblk m c 3 t) d10)
      ∧ Rl t (outSet (grid0.coords t) h1 (iblk m c 4 t) (iblk m c 5 t) d9 (scrNext (grid0.coords t) (iblk m c 1 t) (iblk m c 3 t) d10))
  add : ∀ (t : Fin cfg0.N) (h2 : cond0_2 (grid0.coords t)), 1 ≤ t.val / 2 % 6 → ∀ d9 d10, P t.val d10 →
    Rl ⟨t.val - 1, Nat.lt_of_le_of_lt (Nat.sub_le _ _) t.isLt⟩ d9 →
    P (t.val + 1) (scrNext (grid0.coords t) (iblk m c 1 t) (iblk m c 3 t) d10)
      ∧ Rl t (outAdd (grid0.coords t) h2 (iblk m c 4 t) (iblk m c 5 t) d9 (scrNext (grid0.coords t) (iblk m c 1 t) (iblk m c 3 t) d10))

/-- The window held to a predicate: the output. -/
def forgets0 : Fin 7 → Bool := fun w => w.val == 6

/-- The proof data: the arrays as the region finds them, each input's buffer at its block, the scratch held to `P`. -/
def dats (P : (c : Dev nD) → ℕ → Vec F S2x2560x1024 .bf16 → Prop) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ n := iprop((∃ d, ⌜P c n.val d⌝ ∗ owns (c : Thread nD τ) scM0_0 fullShare d) ∗ (∃ r, prngReg c r))
  q w := Pipeline.shareOf spec0 w
  owed _ := 0

variable (P : (c : Dev nD) → ℕ → Vec F S2x2560x1024 .bf16 → Prop) (Rl : (c : Dev nD) → Fin cfg0.N → Vec F S2560x1024 .f32 → Prop)

/-- The predicate on each window's buffer: `Rl` on the output. -/
def relW (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun t X => Rl c t X

/-- The proof data's arrays are the region-entry contents. -/
theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem after0_1 (c : Dev nD) (t : Fin cfg0.N) : (dats m P 0 c).after 1 t = iblk m c 1 t := by dsimp only [dats]
theorem after0_2 (c : Dev nD) (t : Fin cfg0.N) : (dats m P 0 c).after 2 t = iblk m c 2 t := by dsimp only [dats]
theorem after0_3 (c : Dev nD) (t : Fin cfg0.N) : (dats m P 0 c).after 3 t = iblk m c 3 t := by dsimp only [dats]
theorem after0_4 (c : Dev nD) (t : Fin cfg0.N) : (dats m P 0 c).after 4 t = iblk m c 4 t := by dsimp only [dats]
theorem after0_5 (c : Dev nD) (t : Fin cfg0.N) : (dats m P 0 c).after 5 t = iblk m c 5 t := by dsimp only [dats]
theorem before0_0 (c : Dev nD) (t : Fin cfg0.N) (d) : (dats m P 0 c).before 0 t d = iblk m c 0 t :=
  before0_0_of m (dats m P 0 c) (A_eq m P c 0) (after0_0 m P c) t d
theorem before0_1 (c : Dev nD) (t : Fin cfg0.N) (d) : (dats m P 0 c).before 1 t d = iblk m c 1 t :=
  before0_1_of m (dats m P 0 c) (A_eq m P c 1) (after0_1 m P c) t d
theorem before0_2 (c : Dev nD) (t : Fin cfg0.N) (d) : (dats m P 0 c).before 2 t d = iblk m c 2 t :=
  before0_2_of m (dats m P 0 c) (A_eq m P c 2) (after0_2 m P c) t d
theorem before0_3 (c : Dev nD) (t : Fin cfg0.N) (d) : (dats m P 0 c).before 3 t d = iblk m c 3 t :=
  before0_3_of m (dats m P 0 c) (A_eq m P c 3) (after0_3 m P c) t d
theorem before0_4 (c : Dev nD) (t : Fin cfg0.N) (d) : (dats m P 0 c).before 4 t d = iblk m c 4 t :=
  before0_4_of m (dats m P 0 c) (A_eq m P c 4) (after0_4 m P c) t d
theorem before0_5 (c : Dev nD) (t : Fin cfg0.N) (d) : (dats m P 0 c).before 5 t d = iblk m c 5 t :=
  before0_5_of m (dats m P 0 c) (A_eq m P c 5) (after0_5 m P c) t d

/-- The relational proof data of the call. -/
abbrev rdats (c : Dev nD) : Pipeline.RDat τ (Elt F) Unit ℕ (UR sig nD τ) ℕ cfg0 c := (dats m P 0 c).toRRel forgets0 (relW Rl c)

/-- The output's window is never fetched into. -/
theorem fetch0_6 (t : Fin cfg0.N) : (cfg0.win 6).fetch t = false := rfl

/-- Off a block's first point the output block is found as the point before left it. -/
theorem finds6 (c : Dev nD) (t : Fin cfg0.N) (h : t.val % 12 ≠ 0) (Y : Vec F S2560x1024 .f32) (hY : (rdats m P Rl c).Finds 6 t Y) :
    Rl c ⟨t.val - 1, Nat.lt_of_le_of_lt (Nat.sub_le _ _) t.isLt⟩ Y := by
  rcases ((rdats m P Rl c).finds_of_pos (fetch0_6 t) (by omega) Y).mp hY with hf | hl
  · exfalso
    have := (flush0_6 _).mp hf
    have hp : t.val ≠ 0 := by omega
    simp only at this
    omega
  · exact Dat.toRRel_leaves (dats m P 0 c) (fgt := forgets0) (Rl := relW Rl c) (w := 6) rfl hl

/-- What the body is called with at point `t`, the windows one by one, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ d, owns (c : Thread nD τ) (ms0_3 t) fullShare ((dats m P 0 c).before 3 t d))
    ∗ (∃ d, owns (c : Thread nD τ) (ms0_4 t) fullShare ((dats m P 0 c).before 4 t d))
    ∗ (∃ d, owns (c : Thread nD τ) (ms0_5 t) fullShare ((dats m P 0 c).before 5 t d))
    ∗ (∃ Y, ⌜(rdats m P Rl c).Finds 6 t Y⌝ ∗ owns (c : Thread nD τ) (ms0_6 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ owns (c : Thread nD τ) (ms0_1 t) fullShare ((dats m P 0 c).after 1 t)
    ∗ owns (c : Thread nD τ) (ms0_2 t) fullShare ((dats m P 0 c).after 2 t)
    ∗ owns (c : Thread nD τ) (ms0_3 t) fullShare ((dats m P 0 c).after 3 t)
    ∗ owns (c : Thread nD τ) (ms0_4 t) fullShare ((dats m P 0 c).after 4 t)
    ∗ owns (c : Thread nD τ) (ms0_5 t) fullShare ((dats m P 0 c).after 5 t)
    ∗ (∃ X, ⌜Rl c t X⌝ ∗ owns (c : Thread nD τ) (ms0_6 t) fullShare X))

variable (hS : ∀ c, Steps m c (P c) (Rl c))
include hS

set_option maxHeartbeats 2400000 in
/-- The body at any point keeps the invariants. -/
theorem sound_body (c : Dev nD) (t : Fin cfg0.N) :
    bodyPre m P Rl c t ⊢ wp frame (wpE (defs₀ (F := F)) Variants.none c none) Set.univ (bodyAt0 t) (fun _ => bodyPost m P Rl c t) := by
  unfold bodyPre bodyPost bodyAt0
  simp only [before0_0, before0_1, before0_2, before0_3, before0_4, before0_5, after0_0, after0_1, after0_2, after0_3, after0_4, after0_5]
  rw [show (dats m P 0 c).owesAt () t.succ = (dats m P 0 c).owesAt () t.castSucc from rfl]
  rw [show (dats m P 0 c).Φ t.castSucc = iprop((∃ d, ⌜P c t.val d⌝ ∗ owns (c : Thread nD τ) scM0_0 fullShare d) ∗ (∃ r, prngReg c r)) from rfl,
    show (dats m P 0 c).Φ t.succ = iprop((∃ d, ⌜P c (t.val + 1) d⌝ ∗ owns (c : Thread nD τ) scM0_0 fullShare d) ∗ (∃ r, prngReg c r)) from rfl]
  have hN : t.val < 120 := lt_of_lt_of_eq t.isLt (show cfg0.N = 120 from N_0)
  iintro ⟨⟨⟨%d10, %hP, HS0⟩, Hg⟩, Ho, ⟨%d0, H0⟩, ⟨%d1, H1⟩, ⟨%d2, H2⟩, ⟨%d3, H3⟩, ⟨%d4, H4⟩, ⟨%d5, H5⟩, ⟨%d9, %hF, H6⟩⟩
  by_cases h0 : t.val % 120 = 0
  · have hst := (hS c).first t ((hcond0_1 t).mpr (by omega)) (by omega) d9 d10
    iapply (run_A c (grid0.coords t) _ _ _ _ _ _ _ _ _ _ _ _ _ _ _ _ ((hcond0_0 t).mpr h0) ((hcond0_1 t).mpr (by omega)) (fun h => by have := (hcond0_2 t).mp h; omega) (iblk m c 0 t) (iblk m c 1 t) (iblk m c 2 t) (iblk m c 3 t) (iblk m c 4 t) (iblk m c 5 t) d9 d10 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists _; isplitr; · ipureintro; exact hst.1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr; · ipureintro; exact hst.2
    iexact H6
  · by_cases h1 : t.val / 2 % 6 = 0
    · have hst := (hS c).set t ((hcond0_1 t).mpr h1) (by omega) h1 d9 d10 hP (fun h => finds6 m P Rl c t h d9 hF)
      iapply (run_B c (grid0.coords t) _ _ _ _ _ _ _ _ _ _ _ _ _ _ _ _ (fun h => h0 ((hcond0_0 t).mp h)) ((hcond0_1 t).mpr h1) (fun h => by have := (hcond0_2 t).mp h; omega) (iblk m c 0 t) (iblk m c 1 t) (iblk m c 2 t) (iblk m c 3 t) (iblk m c 4 t) (iblk m c 5 t) d9 d10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexists _; isplitr; · ipureintro; exact hst.1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr; · ipureintro; exact hst.2
      iexact H6
    · have hst := (hS c).add t ((hcond0_2 t).mpr (by omega)) (by omega) d9 d10 hP (finds6 m P Rl c t (by omega) d9 hF)
      iapply (run_C c (grid0.coords t) _ _ _ _ _ _ _ _ _ _ _ _ _ _ _ _ (fun h => h0 ((hcond0_0 t).mp h)) (fun h => h1 ((hcond0_1 t).mp h)) ((hcond0_2 t).mpr (by omega)) (iblk m c 0 t) (iblk m c 1 t) (iblk m c 2 t) (iblk m c 3 t) (iblk m c 4 t) (iblk m c 5 t) d9 d10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexists _; isplitr; · ipureintro; exact hst.1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; isplitr; · ipureintro; exact hst.2
      iexact H6

omit hS in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m P 0 c) (defs₀ (F := F)) Variants.none () Set.univ forgets0 (relW Rl c) := fun t => by
  rw [bigSep_W0, bigSep_W0, defs₀_row]
  exact triple_restated (sound_body m P Rl hS c t) rfl .rfl fun _ => .rfl

omit hS in
/-- The region is entered with the scratch at any contents: `P 0` holds of them all. -/
theorem Phi_in (h0 : ∀ c X, P c 0 X) (c : Dev nD) : (Pipeline.ΦA spec0 c : sProp 𝕄) ⊢ (dats m P 0 c).Φ 0 := by
  rw [PhiA0_eq]
  show _ ⊢ iprop((∃ d, ⌜P c 0 d⌝ ∗ owns (c : Thread nD τ) scM0_0 fullShare d) ∗ (∃ r, prngReg c r))
  iintro ⟨⟨%d, H⟩, Hg⟩
  isplitl [H]
  · iexists d; isplitr; · ipureintro; exact h0 c d
    iexact H
  iexact Hg

omit hS in
/-- The region is left with the scratch at some contents. -/
theorem Phi_out (c : Dev nD) : (dats m P 0 c).Φ (Fin.last cfg0.N) ⊢ (Pipeline.ΦA spec0 c : sProp 𝕄) := by
  rw [PhiA0_eq]
  show iprop((∃ d, ⌜P c _ d⌝ ∗ owns (c : Thread nD τ) scM0_0 fullShare d) ∗ (∃ r, prngReg c r)) ⊢ _
  iintro ⟨⟨%d, %hd, H⟩, Hg⟩
  isplitl [H]
  · iexists d; iexact H
  iexact Hg

set_option backward.isDefEq.respectTransparency.types false in
/-- The launch: every fair execution ends, at arrays the relational proof data allow, with every counter at zero. -/
theorem run_main_quiescent : θ_run defs (onTc (τ := τ) (main (F := F))) (s₀ m ρ) (fun r => (Pipeline.RDat.FramePost (cfgs 0) (rdats m P Rl) (V m)) r ∧ r.2.sem = fun _ => 0) :=
  Pipeline.RDat.θ_run_frame_track_shared (Q' := _) cfgs (0 : Fin 1) launch₀0 defs₀ Variants.none (rdats m P Rl) m ρ main
    (hbody := fun c => (body_obligation m P Rl hS c).toRRel) (hq := fun _ _ _ => rfl)
    (howed := fun _ _ => rfl) (V := V m) (hmain := hmain m Variants.none) (hA := A_eq m P) (hin := Phi_in m P fun c X => (hS c).zero X) (hout := Phi_out m P)
    (hQ' := fun _ h => h)

/-- What a final state holds: at each flushing point some contents that meet `Rl`, and the result array as those contents
    written back; the arguments as launched; every counter at zero. -/
theorem run_main : θ_run defs (onTc (τ := τ) (main (F := F))) ⟨m, fun _ => 0, ρ⟩ (fun r => ((∀ c : Dev nD,
      (∃ after : (w' : Fin cfg0.W) → Fin cfg0.N → (cfg0.win w').block.Idx → Elt F (cfg0.win w').elt,
        (∀ u : Fin cfg0.N, (cfg0.win 6).flush u = true → Rl c u (after 6 u))
          ∧ r.2.mem ((cfg0.spec 6).arr.view.loc (c.tc : Thread nD τ)) = ((rdats m P Rl c).withAfter after).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) := by
  refine (θ_run defs _ _).mono (fun r h => ⟨fun c => ⟨?_, ?_⟩, h.2⟩) (run_main_quiescent m ρ P Rl hS)
  · haveI : ∀ e, Nonempty (Elt F e) := fun e => inferInstance
    obtain ⟨after, hL, hA⟩ := Pipeline.RDat.FramePost.exists_exact h.1 c
    exact ⟨after, fun u hu => Dat.toRRel_leaves (dats m P 0 c) (fgt := forgets0) (Rl := relW Rl c) (w := 6) rfl (hL 6 u hu), hA 6⟩
  · have h := h.1
    exact ⟨(Pipeline.RDat.FramePost.arr_in h c 4 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 5 rfl).trans (V_main_arg3 m c)⟩

end Cert.Rhs.BitsFrame

end
-- ==== Proof.RhsBits.Frame.lean ====
/- The frame of the call over the machine's floats: it runs, its arguments are unchanged, its semaphores end at zero. -/
module

public import proofs.«01_k».proof.Proof.RhsBits.Data
public import proofs.«01_k».proof.Defs

@[expose] public section

noncomputable section

namespace Cert.Rhs.BitsFrame

open Cert.Rhs Cert.Rhs.Gen Idealize.ShloMosaic Idealize.ShloMosaic.TcCoe Idealize.SL.Sem

/-- Invariants that say nothing are kept by every point. -/
theorem steps_true {F : FTy → Type} [FloatOps F] (m : (ℓ : Loc nD τ sig) → Buf (Elt F) ℓ) (c : Dev nD) :
    Steps m c (fun _ _ => True) (fun _ _ => True) where
  zero := fun _ => trivial
  first := fun _ _ _ _ _ => ⟨trivial, trivial⟩
  set := fun _ _ _ _ _ _ _ _ => ⟨trivial, trivial⟩
  add := fun _ _ _ _ _ _ _ => ⟨trivial, trivial⟩

/-- The frame. -/
theorem frame : Cert.quiescent_Rhs (hRhs := Cert.Rhs.Gen.facts) := fun m ρ _ =>
  (θ_run defs _ _).mono (fun r h => ⟨fun c => (h.1 c).2, h.2⟩) (run_main m ρ (fun _ _ _ => True) (fun _ _ _ => True) (steps_true m))

end Cert.Rhs.BitsFrame

end
-- ==== Proof.Solve.Runs.lean ====
/- What the runs of the kernel's body share: when its conditional is taken, as arithmetic of the grid point, and the
   memrefs the body is handed. -/
module

public import proofs.«01_k».proof.Proof.Gen.SolveIdeal.Frame
public import proofs.«01_k».proof.Proof.Gen.SolveIdeal.Skeleton
public import Idealize.ShloMosaic.Lib.Pipeline.Value
public import Idealize.ShloMosaic.Lib.Pipeline.DatRel

@[expose] public section

-- membership in a rectangle of production extents (`View.cover_of_tiled`): the elaborator's structural look
-- recurses once per coordinate of the long axes
set_option maxRecDepth 16384

noncomputable section

namespace Cert.SolveIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if`, from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl

/-- Each window's current staging memref at point `t`, spelled as the pipeline passes it (`bodyAt0`). -/
abbrev ms0_0 (t : Fin cfg0.N) : Memref sig .tc .vmem S2560x7680 .bf16 := win0_0.stage (cfg0.slots t 0)
abbrev ms0_1 (t : Fin cfg0.N) : Memref sig .tc .vmem S2560x256 .f32 := win0_1.stage (cfg0.slots t 1)
abbrev ms0_2 (t : Fin cfg0.N) : Memref sig .tc .vmem S2560x256 .f32 := win0_2.stage (cfg0.slots t 2)
abbrev ms0_3 (t : Fin cfg0.N) : Memref sig .tc .vmem S2560x256 .bf16 := win0_3.stage (cfg0.slots t 3)
/-- The scratch operand: a whole scoped buffer of the kernel's own, passed beside the windows. -/
abbrev scM0_0 : Memref sig .tc .vmem S2x7680x256 .bf16 := Memref.whole cc0_scratch0

/-- The invariant of the frame with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.SolveIdeal.Gen

end
-- ==== Proof.Solve.Loop.lean ====
/- The counted loop of the body: trip `k` stores rows `256 k … 256 k + 255` of the output block. -/
module

public import proofs.«01_k».proof.Proof.Solve.Runs
public import proofs.«01_k».proof.Proof.Overlay

@[expose] public section

-- membership in a rectangle of production extents (`View.cover_of_tiled`): the elaborator's structural look
-- recurses once per coordinate of the long axes
set_option maxRecDepth 16384

noncomputable section

namespace Cert.SolveIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What trip `k` stores: the sum of the three products of its rows of the parts with the scratch slot. -/
def tripPay (i : grid0.Coords) (x1 : Vec F S2560x7680 .bf16) (X : Vec F S2x7680x256 .bf16) (k : Fin k0_t1_loop.trips) : FVec F S256x256 .bf16 :=
  k0_pay13 (View.ld (Val := Elt F) (e' := .bf16) x1 (Rect.unit (s := S2560x7680) (k0_off4 k) S256x7680.size (k0_off4_inb k)))
    (View.ld (Val := Elt F) (e' := .bf16) X (Rect.unit (s := S2x7680x256) (k0_off5 i) S1x7680x256.size (k0_off5_inb i)))
    (View.ld (Val := Elt F) (e' := .bf16) x1 (Rect.unit (s := S2560x7680) (k0_off6 k) S256x5120.size (k0_off6_inb k)))
    (View.ld (Val := Elt F) (e' := .bf16) X (Rect.unit (s := S2x7680x256) (k0_off7 i) S1x5120x256.size (k0_off7_inb i)))
    (View.ld (Val := Elt F) (e' := .bf16) x1 (Rect.unit (s := S2560x7680) (k0_off8 k) S256x2560.size (k0_off8_inb k)))
    (View.ld (Val := Elt F) (e' := .bf16) X (Rect.unit (s := S2x7680x256) (k0_off9 i) S1x2560x256.size (k0_off9_inb i)))

/-- The output block after the trips before `n`. -/
def outN (i : grid0.Coords) (x1 : Vec F S2560x7680 .bf16) (X : Vec F S2x7680x256 .bf16) (Y : Vec F S2560x256 .bf16) : ℕ → Vec F S2560x256 .bf16
  | 0 => Y
  | n + 1 => if h : n < k0_t1_loop.trips then
      (Rect.unit (s := S2560x256) (k0_off10 ⟨n, h⟩) S256x256.size (k0_off10_inb ⟨n, h⟩)).overlay (outN i x1 X Y n) (tripPay i x1 X ⟨n, h⟩)
    else outN i x1 X Y n

/-- The loop's invariant before trip `k`: the parts and the scratch as they were, the output block at `outN k`. -/
def loopI (c : Dev nD) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (f1 : arg1.view.ty.Contents (Elt F)) (f5 : arg5.view.ty.Contents (Elt F)) (Y : Vec F S2560x256 .bf16) (k : Nat) (_ : Unit) : sProp 𝕄 :=
  iprop((arg1.view.loc (c : Thread nD τ) ↦[arg1.view.set]{fullShare} f1) ∗ (arg5.view.loc (c : Thread nD τ) ↦[arg5.view.set]{fullShare} f5)
    ∗ (∃ f4 : arg4.view.ty.Contents (Elt F), ⌜arg4.view.read (Elt F) f4 = outN i (arg1.view.read (Elt F) f1) (arg5.view.read (Elt F) f5) Y k⌝ ∗ arg4.view.loc (c : Thread nD τ) ↦[arg4.view.set]{fullShare} f4))

set_option maxHeartbeats 1000000 in
/-- One trip keeps the invariant. -/
theorem loop_step (c : Dev nD) (E : Set ℕ) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (f1 : arg1.view.ty.Contents (Elt F)) (f5 : arg5.view.ty.Contents (Elt F)) (Y : Vec F S2560x256 .bf16) (k : Fin k0_t1_loop.trips) (acc : Unit) :
    loopI c i arg1 harg1 arg2 harg2 arg3 harg3 arg4 harg4 arg5 harg5 f1 f5 Y k.val acc ⊢ wp frame (wpE (defs₀ (F := F)) Variants.none c none) E (k0_t1_body i arg1 harg1 arg2 harg2 arg3 harg3 arg4 harg4 arg5 harg5 k acc)
      (loopI c i arg1 harg1 arg2 harg2 arg3 harg3 arg4 harg4 arg5 harg5 f1 f5 Y (k.val + 1)) := by
  unfold loopI k0_t1_body
  iintro ⟨H1, H5, ⟨%f4, %h4, H4⟩⟩
  sl_exec
  sl_step
  isplitl [H1]; · iexact H1
  isplitl [H5]; · iexact H5
  iexists _; isplitr; swap; · iexact H4
  ipureintro
  simp only [View.readAt_eq_ld, Cert.Kit.read_writes_cons_overlay, View.writes_nil, h4]
  rw [outN, dif_pos k.isLt]
  rfl

/-- The loop, run from its invariant at the first trip to its invariant after the last. -/
@[sl_loop, reducible] def loopInv (c : Dev nD) (E : Set ℕ) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (f1 : arg1.view.ty.Contents (Elt F)) (f5 : arg5.view.ty.Contents (Elt F)) (Y : Vec F S2560x256 .bf16) :
    LoopInv (M := 𝕄) frame (wpE (defs₀ (F := F)) Variants.none c none) E k0_t1_loop.lb k0_t1_loop.ub k0_t1_loop.st k0_t1_ok ⟨⟩
      (k0_t1_body (F := F) i arg1 harg1 arg2 harg2 arg3 harg3 arg4 harg4 arg5 harg5) where
  inv := loopI c i arg1 harg1 arg2 harg2 arg3 harg3 arg4 harg4 arg5 harg5 f1 f5 Y
  step := loop_step c E i arg1 harg1 arg2 harg2 arg3 harg3 arg4 harg4 arg5 harg5 f1 f5 Y

end Cert.SolveIdeal.Gen

end
-- ==== Proof.Solve.Run.lean ====
/- The kernel's body run once: from its operands at given contents to the output block and the scratch at named contents. -/
module

public import proofs.«01_k».proof.Proof.Solve.Loop
public import proofs.«01_k».proof.Proof.Overlay

@[expose] public section

-- membership in a rectangle of production extents (`View.cover_of_tiled`): the elaborator's structural look
-- recurses once per coordinate of the long axes
set_option maxRecDepth 16384

noncomputable section

namespace Cert.SolveIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the first point's store of the first block's three parts into slot 0. -/
def scrFirst (x1 : Vec F S2560x256 .f32) (d5 : Vec F S2x7680x256 .bf16) : Vec F S2x7680x256 .bf16 :=
  (Rect.unit (s := S2x7680x256) ![0, 5120, 0] S1x2560x256.size inb_S2x7680x256_S1x2560x256_0_5120_0).overlay
    ((Rect.unit (s := S2x7680x256) ![0, 2560, 0] S1x2560x256.size inb_S2x7680x256_S1x2560x256_0_2560_0).overlay
      ((Rect.unit (s := S2x7680x256) ![0, 0, 0] S1x2560x256.size inb_S2x7680x256_S1x2560x256_0_0_0).overlay d5 (k0_pay4 x1)) (k0_pay5 x1)) (k0_pay6 x1)

/-- The scratch after a point's store of the next block's three parts into the other slot. -/
def scrNext (i : grid0.Coords) (x2 : Vec F S2560x256 .f32) (d5 : Vec F S2x7680x256 .bf16) : Vec F S2x7680x256 .bf16 :=
  (Rect.unit (s := S2x7680x256) (k0_off3 i) S1x2560x256.size (k0_off3_inb i)).overlay
    ((Rect.unit (s := S2x7680x256) (k0_off2 i) S1x2560x256.size (k0_off2_inb i)).overlay
      ((Rect.unit (s := S2x7680x256) (k0_off1 i) S1x2560x256.size (k0_off1_inb i)).overlay d5 (k0_pay10 x2)) (k0_pay11 x2)) (k0_pay12 x2)

set_option maxHeartbeats 1000000 in
/-- The body at the first point: the first block is split into slot 0, the next into slot 1, and the rows are stored. -/
theorem run_A (c : Dev nD) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (hc0 : cond0_0 i) (x0 : Vec F S2560x7680 .bf16) (x1 : Vec F S2560x256 .f32) (x2 : Vec F S2560x256 .f32) (d4 : Vec F S2560x256 .bf16) (d5 : Vec F S2x7680x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare x2 ∗ owns (c : Thread nD τ) arg4 fullShare (outN i x0 (scrNext i x2 (scrFirst x1 d5)) d4 10) ∗ owns (c : Thread nD τ) arg5 fullShare (scrNext i x2 (scrFirst x1 d5))) -∗ K ⟨⟩))
          ⊢ wp frame (wpE (defs₀ (F := F)) Variants.none c none) E (cc0_solve i arg1 harg1 arg2 harg2 arg3 harg3 arg4 harg4 arg5 harg5) K := by
    intro E K
    simp only [cc0_solve_eq_skeleton]; unfold cc0_solve_skel
    unfold owns
    iintro ⟨⟨%f0, %hf0, H0⟩, ⟨%f1, %hf1, H1⟩, ⟨%f2, %hf2, H2⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf4; obtain rfl := harg5.eq_unread hf5
    sl_exec (disch := first | sl_exact hc0)
    sl_step
    have h0 : (![0, 0] : Fin 2 → Nat) = fun _ => 0 := by decide
    have e1 : View.ld (Val := Elt F) (e' := .f32) x1 (Rect.unit (s := S2560x256) ![0, 0] S2560x256.size inb_S2560x256_S2560x256_0_0) = x1 := View.ld_unit_zero (S := S2560x256) h0 _ x1
    have e2 : View.ld (Val := Elt F) (e' := .f32) x2 (Rect.unit (s := S2560x256) ![0, 0] S2560x256.size inb_S2560x256_S2560x256_0_0) = x2 := View.ld_unit_zero (S := S2560x256) h0 _ x2
    iapply Hk
    have hS : View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩,
        ⟨Rect.unit (s := S2x7680x256) ![0, 5120, 0] S1x2560x256.size inb_S2x7680x256_S1x2560x256_0_5120_0, k0_pay6 (View.readAt (Elt F) arg2.view (Rect.unit (s := S2560x256) ![0, 0] S2560x256.size inb_S2560x256_S2560x256_0_0).toLoadRect (harg2.unread x1))⟩,
        ⟨Rect.unit (s := S2x7680x256) ![0, 2560, 0] S1x2560x256.size inb_S2x7680x256_S1x2560x256_0_2560_0, k0_pay5 (View.readAt (Elt F) arg2.view (Rect.unit (s := S2560x256) ![0, 0] S2560x256.size inb_S2560x256_S2560x256_0_0).toLoadRect (harg2.unread x1))⟩,
        ⟨Rect.unit (s := S2x7680x256) ![0, 0, 0] S1x2560x256.size inb_S2x7680x256_S1x2560x256_0_0_0, k0_pay4 (View.readAt (Elt F) arg2.view (Rect.unit (s := S2560x256) ![0, 0] S2560x256.size inb_S2560x256_S2560x256_0_0).toLoadRect (harg2.unread x1))⟩]) = scrNext i x2 (scrFirst x1 d5) := by
      unfold scrNext scrFirst
      simp only [View.readAt_eq_ld, Cert.Kit.read_writes_cons_overlay, View.writes_nil, hf1, hf2, hf5]
      erw [e1, e2]
    have hO : ∀ Z, Z = outN i (View.read (Elt F) arg1.view (harg1.unread x0)) (View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩,
        ⟨Rect.unit (s := S2x7680x256) ![0, 5120, 0] S1x2560x256.size inb_S2x7680x256_S1x2560x256_0_5120_0, k0_pay6 (View.readAt (Elt F) arg2.view (Rect.unit (s := S2560x256) ![0, 0] S2560x256.size inb_S2560x256_S2560x256_0_0).toLoadRect (harg2.unread x1))⟩,
        ⟨Rect.unit (s := S2x7680x256) ![0, 2560, 0] S1x2560x256.size inb_S2x7680x256_S1x2560x256_0_2560_0, k0_pay5 (View.readAt (Elt F) arg2.view (Rect.unit (s := S2560x256) ![0, 0] S2560x256.size inb_S2560x256_S2560x256_0_0).toLoadRect (harg2.unread x1))⟩,
        ⟨Rect.unit (s := S2x7680x256) ![0, 0, 0] S1x2560x256.size inb_S2x7680x256_S1x2560x256_0_0_0, k0_pay4 (View.readAt (Elt F) arg2.view (Rect.unit (s := S2560x256) ![0, 0] S2560x256.size inb_S2560x256_S2560x256_0_0).toLoadRect (harg2.unread x1))⟩])) (View.read (Elt F) arg4.view (harg4.unread d4)) 10 → Z = outN i x0 (scrNext i x2 (scrFirst x1 d5)) d4 10 := by
      intro Z hZ
      rw [hS, hf0, hf4] at hZ
      exact hZ
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; swap; · iexact H4
      ipureintro
      exact hO _ (by assumption)
    iexists _; isplitr; swap; · iexact H5
    ipureintro
    exact hS

set_option maxHeartbeats 1000000 in
/-- The body at a later point: the next block is split into the other slot, and the rows are stored. -/
theorem run_B (c : Dev nD) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (hc0 : ¬cond0_0 i) (x0 : Vec F S2560x7680 .bf16) (x1 : Vec F S2560x256 .f32) (x2 : Vec F S2560x256 .f32) (d4 : Vec F S2560x256 .bf16) (d5 : Vec F S2x7680x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare x2 ∗ owns (c : Thread nD τ) arg4 fullShare (outN i x0 (scrNext i x2 d5) d4 10) ∗ owns (c : Thread nD τ) arg5 fullShare (scrNext i x2 d5)) -∗ K ⟨⟩))
          ⊢ wp frame (wpE (defs₀ (F := F)) Variants.none c none) E (cc0_solve i arg1 harg1 arg2 harg2 arg3 harg3 arg4 harg4 arg5 harg5) K := by
    intro E K
    simp only [cc0_solve_eq_skeleton]; unfold cc0_solve_skel
    unfold owns
    iintro ⟨⟨%f0, %hf0, H0⟩, ⟨%f1, %hf1, H1⟩, ⟨%f2, %hf2, H2⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf4; obtain rfl := harg5.eq_unread hf5
    sl_exec (disch := first | sl_exact hc0)
    sl_step
    have h0 : (![0, 0] : Fin 2 → Nat) = fun _ => 0 := by decide
    have e1 : View.ld (Val := Elt F) (e' := .f32) x1 (Rect.unit (s := S2560x256) ![0, 0] S2560x256.size inb_S2560x256_S2560x256_0_0) = x1 := View.ld_unit_zero (S := S2560x256) h0 _ x1
    have e2 : View.ld (Val := Elt F) (e' := .f32) x2 (Rect.unit (s := S2560x256) ![0, 0] S2560x256.size inb_S2560x256_S2560x256_0_0) = x2 := View.ld_unit_zero (S := S2560x256) h0 _ x2
    iapply Hk
    have hS : View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩]) = scrNext i x2 d5 := by
      unfold scrNext
      simp only [View.readAt_eq_ld, Cert.Kit.read_writes_cons_overlay, View.writes_nil, hf1, hf2, hf5]
      erw [e2]
    have hO : ∀ Z, Z = outN i (View.read (Elt F) arg1.view (harg1.unread x0)) (View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩])) (View.read (Elt F) arg4.view (harg4.unread d4)) 10 → Z = outN i x0 (scrNext i x2 d5) d4 10 := by
      intro Z hZ
      rw [hS, hf0, hf4] at hZ
      exact hZ
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; swap; · iexact H4
      ipureintro
      exact hO _ (by assumption)
    iexists _; isplitr; swap; · iexact H5
    ipureintro
    exact hS

end Cert.SolveIdeal.Gen

end
-- ==== Proof.Solve.Data.lean ====
/- The run of the call from a pair of invariants: `P n` holds of the scratch when `n` points have run, `Rl t` of the output
   block when point `t` has. What a point does to them (`Steps`) is pure; this module turns it into the run. -/
module

public import proofs.«01_k».proof.Proof.Solve.Run
public import Idealize.ShloMosaic.Lib.Pipeline.ArrRel

@[expose] public section

set_option maxRecDepth 16384

noncomputable section

namespace Cert.SolveIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point of the grid does to the invariants: `P n` of the scratch after `n` points and `Rl t` of the output block
    after point `t`. -/
structure Steps (c : Dev nD) (P : ℕ → Vec F S2x7680x256 .bf16 → Prop) (Rl : Fin cfg0.N → Vec F S2560x256 .bf16 → Prop) : Prop where
  zero : ∀ X, P 0 X
  first : ∀ (t : Fin cfg0.N), t.val = 0 → ∀ d4 d5,
    P (t.val + 1) (scrNext (grid0.coords t) (iblk m c 2 t) (scrFirst (iblk m c 1 t) d5))
      ∧ Rl t (outN (grid0.coords t) (iblk m c 0 t) (scrNext (grid0.coords t) (iblk m c 2 t) (scrFirst (iblk m c 1 t) d5)) d4 10)
  next : ∀ (t : Fin cfg0.N), t.val ≠ 0 → ∀ d4 d5, P t.val d5 →
    P (t.val + 1) (scrNext (grid0.coords t) (iblk m c 2 t) d5)
      ∧ Rl t (outN (grid0.coords t) (iblk m c 0 t) (scrNext (grid0.coords t) (iblk m c 2 t) d5) d4 10)

/-- The window held to a predicate: the output. -/
def forgets0 : Fin 4 → Bool := fun w => w.val == 3

/-- The proof data: the arrays as the region finds them, each input's buffer at its block, the scratch held to `P`. -/
def dats (P : (c : Dev nD) → ℕ → Vec F S2x7680x256 .bf16 → Prop) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ n := iprop((∃ d, ⌜P c n.val d⌝ ∗ owns (c : Thread nD τ) scM0_0 fullShare d) ∗ (∃ r, prngReg c r))
  q w := Pipeline.shareOf spec0 w
  owed _ := 0

variable (P : (c : Dev nD) → ℕ → Vec F S2x7680x256 .bf16 → Prop) (Rl : (c : Dev nD) → Fin cfg0.N → Vec F S2560x256 .bf16 → Prop)

/-- The predicate on each window's buffer: `Rl` on the output. -/
def relW (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun t X => Rl c t X

/-- The proof data's arrays are the region-entry contents. -/
theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem after0_1 (c : Dev nD) (t : Fin cfg0.N) : (dats m P 0 c).after 1 t = iblk m c 1 t := by dsimp only [dats]
theorem after0_2 (c : Dev nD) (t : Fin cfg0.N) : (dats m P 0 c).after 2 t = iblk m c 2 t := by dsimp only [dats]
theorem before0_0 (c : Dev nD) (t : Fin cfg0.N) (d) : (dats m P 0 c).before 0 t d = iblk m c 0 t :=
  before0_0_of m (dats m P 0 c) (A_eq m P c 0) (after0_0 m P c) t d
theorem before0_1 (c : Dev nD) (t : Fin cfg0.N) (d) : (dats m P 0 c).before 1 t d = iblk m c 1 t :=
  before0_1_of m (dats m P 0 c) (A_eq m P c 1) (after0_1 m P c) t d
theorem before0_2 (c : Dev nD) (t : Fin cfg0.N) (d) : (dats m P 0 c).before 2 t d = iblk m c 2 t :=
  before0_2_of m (dats m P 0 c) (A_eq m P c 2) (after0_2 m P c) t d

/-- The relational proof data of the call. -/
abbrev rdats (c : Dev nD) : Pipeline.RDat τ (Elt F) Unit ℕ (UR sig nD τ) ℕ cfg0 c := (dats m P 0 c).toRRel forgets0 (relW Rl c)

/-- What the body is called with at point `t`, the windows one by one, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ Y, ⌜(rdats m P Rl c).Finds 3 t Y⌝ ∗ owns (c : Thread nD τ) (ms0_3 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ owns (c : Thread nD τ) (ms0_1 t) fullShare ((dats m P 0 c).after 1 t)
    ∗ owns (c : Thread nD τ) (ms0_2 t) fullShare ((dats m P 0 c).after 2 t)
    ∗ (∃ X, ⌜Rl c t X⌝ ∗ owns (c : Thread nD τ) (ms0_3 t) fullShare X))

variable (hS : ∀ c, Steps m c (P c) (Rl c))
include hS

set_option maxHeartbeats 2400000 in
/-- The body at any point keeps the invariants. -/
theorem sound_body (c : Dev nD) (t : Fin cfg0.N) :
    bodyPre m P Rl c t ⊢ wp frame (wpE (defs₀ (F := F)) Variants.none c none) Set.univ (bodyAt0 t) (fun _ => bodyPost m P Rl c t) := by
  unfold bodyPre bodyPost bodyAt0
  simp only [before0_0, before0_1, before0_2, after0_0, after0_1, after0_2]
  rw [show (dats m P 0 c).owesAt () t.succ = (dats m P 0 c).owesAt () t.castSucc from rfl]
  rw [show (dats m P 0 c).Φ t.castSucc = iprop((∃ d, ⌜P c t.val d⌝ ∗ owns (c : Thread nD τ) scM0_0 fullShare d) ∗ (∃ r, prngReg c r)) from rfl,
    show (dats m P 0 c).Φ t.succ = iprop((∃ d, ⌜P c (t.val + 1) d⌝ ∗ owns (c : Thread nD τ) scM0_0 fullShare d) ∗ (∃ r, prngReg c r)) from rfl]
  iintro ⟨⟨⟨%d5, %hP, HS0⟩, Hg⟩, Ho, ⟨%d0, H0⟩, ⟨%d1, H1⟩, ⟨%d2, H2⟩, ⟨%d4, %hF, H3⟩⟩
  by_cases h0 : t.val = 0
  · have hst := (hS c).first t h0 d4 d5
    iapply (run_A c (grid0.coords t) _ _ _ _ _ _ _ _ _ _ ((hcond0_0 t).mpr h0) (iblk m c 0 t) (iblk m c 1 t) (iblk m c 2 t) d4 d5 Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact hst.1
        iexact HS0
      iexact Hg
    isplitl [Ho]; · iexact Ho
    isplitl [H0]; · iexact H0
    isplitl [H1]; · iexact H1
    isplitl [H2]; · iexact H2
    iexists _; isplitr; · ipureintro; exact hst.2
    iexact H3
  · have hst := (hS c).next t h0 d4 d5 hP
    iapply (run_B c (grid0.coords t) _ _ _ _ _ _ _ _ _ _ (fun h => h0 ((hcond0_0 t).mp h)) (iblk m c 0 t) (iblk m c 1 t) (iblk m c 2 t) d4 d5 Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact hst.1
        iexact HS0
      iexact Hg
    isplitl [Ho]; · iexact Ho
    isplitl [H0]; · iexact H0
    isplitl [H1]; · iexact H1
    isplitl [H2]; · iexact H2
    iexists _; isplitr; · ipureintro; exact hst.2
    iexact H3

omit hS in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m P 0 c) (defs₀ (F := F)) Variants.none () Set.univ forgets0 (relW Rl c) := fun t => by
  rw [bigSep_W0, bigSep_W0, defs₀_row]
  exact triple_restated (sound_body m P Rl hS c t) rfl .rfl fun _ => .rfl

omit hS in
/-- The region is entered with the scratch at any contents: `P 0` holds of them all. -/
theorem Phi_in (h0 : ∀ c X, P c 0 X) (c : Dev nD) : (Pipeline.ΦA spec0 c : sProp 𝕄) ⊢ (dats m P 0 c).Φ 0 := by
  rw [PhiA0_eq]
  show _ ⊢ iprop((∃ d, ⌜P c 0 d⌝ ∗ owns (c : Thread nD τ) scM0_0 fullShare d) ∗ (∃ r, prngReg c r))
  iintro ⟨⟨%d, H⟩, Hg⟩
  isplitl [H]
  · iexists d; isplitr; · ipureintro; exact h0 c d
    iexact H
  iexact Hg

omit hS in
/-- The region is left with the scratch at some contents. -/
theorem Phi_out (c : Dev nD) : (dats m P 0 c).Φ (Fin.last cfg0.N) ⊢ (Pipeline.ΦA spec0 c : sProp 𝕄) := by
  rw [PhiA0_eq]
  show iprop((∃ d, ⌜P c _ d⌝ ∗ owns (c : Thread nD τ) scM0_0 fullShare d) ∗ (∃ r, prngReg c r)) ⊢ _
  iintro ⟨⟨%d, %hd, H⟩, Hg⟩
  isplitl [H]
  · iexists d; iexact H
  iexact Hg

set_option backward.isDefEq.respectTransparency.types false in
/-- The launch: every fair execution ends, at arrays the relational proof data allow, with every counter at zero. -/
theorem run_main_quiescent : θ_run defs (onTc (τ := τ) (main (F := F))) (s₀ m ρ) (fun r => (Pipeline.RDat.FramePost (cfgs 0) (rdats m P Rl) (V m)) r ∧ r.2.sem = fun _ => 0) :=
  Pipeline.RDat.θ_run_frame_track_shared (Q' := _) cfgs (0 : Fin 1) launch₀0 defs₀ Variants.none (rdats m P Rl) m ρ main
    (hbody := fun c => (body_obligation m P Rl hS c).toRRel) (hq := fun _ _ _ => rfl)
    (howed := fun _ _ => rfl) (V := V m) (hmain := hmain m Variants.none) (hA := A_eq m P) (hin := Phi_in m P fun c X => (hS c).zero X) (hout := Phi_out m P)
    (hQ' := fun _ h => h)

/-- What a final state holds: at each flushing point some contents that meet `Rl`, and the result array as those contents
    written back; the arguments as launched; every counter at zero. -/
theorem run_main : θ_run defs (onTc (τ := τ) (main (F := F))) ⟨m, fun _ => 0, ρ⟩ (fun r => ((∀ c : Dev nD,
      (∃ after : (w' : Fin cfg0.W) → Fin cfg0.N → (cfg0.win w').block.Idx → Elt F (cfg0.win w').elt,
        (∀ u : Fin cfg0.N, (cfg0.win 3).flush u = true → Rl c u (after 3 u))
          ∧ r.2.mem ((cfg0.spec 3).arr.view.loc (c.tc : Thread nD τ)) = ((rdats m P Rl c).withAfter after).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)))
      ∧ r.2.sem = fun _ => 0) := by
  refine (θ_run defs _ _).mono (fun r h => ⟨fun c => ⟨?_, ?_⟩, h.2⟩) (run_main_quiescent m ρ P Rl hS)
  · haveI : ∀ e, Nonempty (Elt F e) := fun e => inferInstance
    obtain ⟨after, hL, hA⟩ := Pipeline.RDat.FramePost.exists_exact h.1 c
    exact ⟨after, fun u hu => Dat.toRRel_leaves (dats m P 0 c) (fgt := forgets0) (Rl := relW Rl c) (w := 3) rfl (hL 3 u hu), hA 3⟩
  · have h := h.1
    exact ⟨(Pipeline.RDat.FramePost.arr_in h c 0 rfl).trans (V_main_arg0 m c),
      (Pipeline.RDat.FramePost.arr_in h c 2 rfl).trans (V_main_arg1 m c)⟩

end Cert.SolveIdeal.Gen

end
-- ==== Proof.Solve.Pays.lean ====
/- The kernel's stored values read at an index, over the extended reals. -/
module

public import proofs.«01_k».proof.Proof.Gen.SolveIdeal.Skeleton
public import Idealize.ShloMosaic.Lib.Pointwise

@[expose] public section

set_option maxRecDepth 16384

noncomputable section

namespace Cert.SolveIdeal.Pays

open Cert.SolveIdeal Cert.SolveIdeal.Gen Idealize.ShloMosaic Idealize.ShloMosaic.TcCoe

/-- A real number less itself is zero. -/
theorem sub_self_of_real {x : EReal} (h : ∃ r : ℝ, x = (r : EReal)) : x - x = 0 := by
  obtain ⟨r, rfl⟩ := h
  rw [← EReal.coe_sub, sub_self, EReal.coe_zero]

/-- The low part of the first block's split: zero where the element is a real number. -/
theorem pay4_apply (x : Vec Ideal S2560x256 .f32) (r : Fin 2560) (l : Fin 256) (h : ∃ q : ℝ, x (ix2 r l) = (q : EReal)) :
    k0_pay4 (F := Ideal) x (ix3 0 r l) = 0 := by
  have e : k0_pay4 (F := Ideal) x (ix3 0 r l) = (x (ix2 r l) - x (ix2 r l)) - (x (ix2 r l) - x (ix2 r l)) := by
    unfold k0_pay4 k0_pay3 k0_pay2 k0_pay1
    pointwise
  rw [e, sub_self_of_real h]; simp

/-- The middle part of the first block's split: zero too. -/
theorem pay5_apply (x : Vec Ideal S2560x256 .f32) (r : Fin 2560) (l : Fin 256) (h : ∃ q : ℝ, x (ix2 r l) = (q : EReal)) :
    k0_pay5 (F := Ideal) x (ix3 0 r l) = 0 := by
  have e : k0_pay5 (F := Ideal) x (ix3 0 r l) = x (ix2 r l) - x (ix2 r l) := by
    unfold k0_pay5 k0_pay3 k0_pay2 k0_pay1
    pointwise
  rw [e, sub_self_of_real h]

/-- The high part of the first block's split: the element. -/
theorem pay6_apply (x : Vec Ideal S2560x256 .f32) (r : Fin 2560) (l : Fin 256) :
    k0_pay6 (F := Ideal) x (ix3 0 r l) = x (ix2 r l) := by
  unfold k0_pay6 k0_pay1
  pointwise

/-- The low part of the next block's split: zero where the element is a real number. -/
theorem pay10_apply (x : Vec Ideal S2560x256 .f32) (r : Fin 2560) (l : Fin 256) (h : ∃ q : ℝ, x (ix2 r l) = (q : EReal)) :
    k0_pay10 (F := Ideal) x (ix3 0 r l) = 0 := by
  have e : k0_pay10 (F := Ideal) x (ix3 0 r l) = (x (ix2 r l) - x (ix2 r l)) - (x (ix2 r l) - x (ix2 r l)) := by
    unfold k0_pay10 k0_pay9 k0_pay8 k0_pay7
    pointwise
  rw [e, sub_self_of_real h]; simp

/-- The middle part of the next block's split: zero too. -/
theorem pay11_apply (x : Vec Ideal S2560x256 .f32) (r : Fin 2560) (l : Fin 256) (h : ∃ q : ℝ, x (ix2 r l) = (q : EReal)) :
    k0_pay11 (F := Ideal) x (ix3 0 r l) = 0 := by
  have e : k0_pay11 (F := Ideal) x (ix3 0 r l) = x (ix2 r l) - x (ix2 r l) := by
    unfold k0_pay11 k0_pay9 k0_pay8 k0_pay7
    pointwise
  rw [e, sub_self_of_real h]

/-- The high part of the next block's split: the element. -/
theorem pay12_apply (x : Vec Ideal S2560x256 .f32) (r : Fin 2560) (l : Fin 256) :
    k0_pay12 (F := Ideal) x (ix3 0 r l) = x (ix2 r l) := by
  unfold k0_pay12 k0_pay7
  pointwise

/-- What a trip stores: the sum of its three products. -/
theorem pay13_apply (a : Vec Ideal S256x7680 .bf16) (a' : Vec Ideal S1x7680x256 .bf16) (b : Vec Ideal S256x5120 .bf16) (b' : Vec Ideal S1x5120x256 .bf16)
    (d : Vec Ideal S256x2560 .bf16) (d' : Vec Ideal S1x2560x256 .bf16) (r : Fin 256) (l : Fin 256) :
    k0_pay13 (F := Ideal) a a' b b' d d' (ix2 r l)
      = (∑ j : Fin 7680, a (ix2 r j) * a' (ix3 0 j l)) + (∑ j : Fin 5120, b (ix2 r j) * b' (ix3 0 j l)) + (∑ j : Fin 2560, d (ix2 r j) * d' (ix3 0 j l)) := by
  unfold k0_pay13
  pointwise

end Cert.SolveIdeal.Pays

end
-- ==== Proof.Solve.Blocks.lean ====
/- What each input block of the kernel holds, as elements of the argument arrays. -/
module

public import proofs.«01_k».proof.Proof.Gen.SolveIdeal.Frame
public import Idealize.ShloMosaic.Lib.Pointwise
public import Idealize.ShloMosaic.Lib.Claim
public import Idealize.ShloMosaic.Lib.Pipeline.ValueKit

@[expose] public section

set_option maxRecDepth 16384

noncomputable section

namespace Cert.SolveIdeal.Blocks

open Cert.SolveIdeal Cert.SolveIdeal.Gen Idealize.ShloMosaic Idealize.ShloMosaic.TcCoe

variable (m : (ℓ : Loc nD τ sig) → Buf (Elt Ideal) ℓ) (c : Dev nD)

/-- The inverse's three parts, side by side: high, middle, low. -/
abbrev aP : Vec Ideal S2560x7680 .bf16 := m ((c.tc : Thread nD τ).loc main_arg0)
/-- The right-hand side. -/
abbrev aR : Vec Ideal S2560x10240 .f32 := m ((c.tc : Thread nD τ).loc main_arg1)

/-- Column `l` of column block `s`. -/
def cS (s : ℕ) (l : Fin 256) : Fin 10240 := ⟨(256 * s + l.val) % 10240, Nat.mod_lt _ (by decide)⟩

/-- The windows' blocks, point by point. -/
theorem idx : ∀ t : Fin cfg0.N, (cfg0.win 0).index t = ![0, 0]
    ∧ (cfg0.win 1).index t = ![0, 0]
    ∧ (cfg0.win 2).index t = ![0, min (t.val + 1) 39]
    ∧ (cfg0.win 3).index t = ![0, t.val] := by decide +kernel

/-- A point of the grid is below 40. -/
theorem lt40 (t : Fin cfg0.N) : t.val < 40 := t.isLt

theorem blk0 (t : Fin cfg0.N) (r : Fin 2560) (j : Fin 7680) :
    iblk m c 0 t (ix2 r j) = aP m c (ix2 r j) := by
  blk_ext [iblk, V, idx t]

theorem blk1 (t : Fin cfg0.N) (r : Fin 2560) (l : Fin 256) :
    iblk m c 1 t (ix2 r l) = aR m c (ix2 r (cS 0 l)) := by
  blk_ext [iblk, V, idx t, cS]

theorem blk2 (t : Fin cfg0.N) (r : Fin 2560) (l : Fin 256) :
    iblk m c 2 t (ix2 r l) = aR m c (ix2 r (cS (min (t.val + 1) 39) l)) := by
  have := lt40 t
  blk_ext [iblk, V, idx t, cS]

end Cert.SolveIdeal.Blocks

end
-- ==== Proof.Solve.Sums.lean ====
/- Finite sums over the extended reals of the shapes the kernel's products take. -/
module

public import Idealize.ShloMosaic.Lib.Pointwise

@[expose] public section

noncomputable section

namespace Cert.Kit

/-- A sum of products whose second factors vanish below `a` is the sum from `a` on. -/
theorem sum_mul_of_zero_below {N a n : ℕ} (hN : N = a + n) (f g : Fin N → EReal) (h : ∀ j : Fin N, j.val < a → g j = 0) :
    ∑ j : Fin N, f j * g j = ∑ i : Fin n, f ⟨a + i.val, by have := i.isLt; omega⟩ * g ⟨a + i.val, by have := i.isLt; omega⟩ := by
  subst hN
  rw [Fin.sum_univ_add]
  rw [Finset.sum_eq_zero fun i _ => by rw [h _ (by simp), mul_zero], zero_add]
  rfl

/-- Three sums of products of real numbers with one family of real factors are one sum of the sums' products. -/
theorem sum_mul_three {n : ℕ} (u v w x : Fin n → EReal) (hu : ∀ i, ∃ r : ℝ, u i = (r : EReal)) (hv : ∀ i, ∃ r : ℝ, v i = (r : EReal))
    (hw : ∀ i, ∃ r : ℝ, w i = (r : EReal)) (hx : ∀ i, ∃ r : ℝ, x i = (r : EReal)) :
    (∑ i, w i * x i) + (∑ i, v i * x i) + (∑ i, u i * x i) = ∑ i, (u i + v i + w i) * x i := by
  rw [← Finset.sum_add_distrib, ← Finset.sum_add_distrib]
  refine Finset.sum_congr rfl fun i _ => ?_
  obtain ⟨a, ha⟩ := hu i
  obtain ⟨b, hb⟩ := hv i
  obtain ⟨d, hd⟩ := hw i
  obtain ⟨y, hy⟩ := hx i
  rw [ha, hb, hd, hy]
  norm_cast
  ring

end Cert.Kit

end
-- ==== Proof.Solve.Steps.lean ====
/- The kernel's invariants over the extended reals, kept by every point where the right-hand side and the inverse's parts are
   real numbers: the scratch slot in use holds the current column block's low, middle and high part one below the other, of
   which the first two are zero; the output block holds the product of the inverse with the column block. -/
module

public import proofs.«01_k».proof.Proof.Solve.Data
public import proofs.«01_k».proof.Proof.Solve.Pays
public import proofs.«01_k».proof.Proof.Solve.Blocks
public import proofs.«01_k».proof.Proof.Solve.Sums

@[expose] public section

set_option maxRecDepth 16384

noncomputable section

namespace Cert.SolveIdeal.Steps

open Cert.SolveIdeal Cert.SolveIdeal.Gen Idealize.ShloMosaic Idealize.ShloMosaic.TcCoe
open Cert.SolveIdeal.Pays Cert.SolveIdeal.Blocks Cert.Kit

variable (m : (ℓ : Loc nD τ sig) → Buf (Elt Ideal) ℓ) (c : Dev nD)

/-- The arguments are real numbers, element by element. -/
structure Real : Prop where
  parts : ∀ (i : Fin 2560) (j : Fin 7680), ∃ r : ℝ, aP m c (ix2 i j) = (r : EReal)
  rhs : ∀ (i : Fin 2560) (col : Fin 10240), ∃ r : ℝ, aR m c (ix2 i col) = (r : EReal)

/-- What a scratch slot holds for column block `s`: zeros in the low and the middle part, the block in the high part. -/
def b (s : ℕ) (j : Fin 7680) (l : Fin 256) : EReal :=
  if h : j.val < 5120 then 0 else aR m c (ix2 ⟨j.val - 5120, by have := j.isLt; omega⟩ (cS s l))

/-- The result: the sum of the inverse's three parts, times the right-hand side. -/
def out : Vec Ideal S2560x10240 .bf16 := fun y =>
  ∑ j : Fin 2560, (aP m c (ix2 (y 0) ⟨j.val, by omega⟩) + aP m c (ix2 (y 0) ⟨2560 + j.val, by omega⟩) + aP m c (ix2 (y 0) ⟨5120 + j.val, by omega⟩)) * aR m c (ix2 j (y 1))

/-- The scratch slot of column block `s`. -/
def sl (s : ℕ) : Fin 2 := ⟨s % 2, Nat.mod_lt _ (by decide)⟩

/-- What point `t` finds in the scratch slot in use. -/
def Cur (t : ℕ) (X : Vec Ideal S2x7680x256 .bf16) : Prop :=
  ∀ (j : Fin 7680) (l : Fin 256), X (ix3 (sl t) j l) = b m c t j l

/-- The scratch invariant after `n` points. -/
def P (n : ℕ) (X : Vec Ideal S2x7680x256 .bf16) : Prop := 1 ≤ n → n < 40 → Cur m c n X

/-- The output invariant after point `t`: the result's column block `t`. -/
def Rl (t : Fin cfg0.N) (X : Vec Ideal S2560x256 .bf16) : Prop :=
  ∀ (i : Fin 2560) (l : Fin 256), X (ix2 i l) = out m c (ix2 i (cS t.val l))

/-- The body's offsets, point by point. -/
theorem off1 : ∀ t : Fin cfg0.N, k0_off1 (grid0.coords t) = ![(t.val + 1) % 2, 0, 0] := by decide +kernel
theorem off2 : ∀ t : Fin cfg0.N, k0_off2 (grid0.coords t) = ![(t.val + 1) % 2, 2560, 0] := by decide +kernel
theorem off3 : ∀ t : Fin cfg0.N, k0_off3 (grid0.coords t) = ![(t.val + 1) % 2, 5120, 0] := by decide +kernel
theorem off5 : ∀ t : Fin cfg0.N, k0_off5 (grid0.coords t) = ![t.val % 2, 0, 0] := by decide +kernel
theorem off7 : ∀ t : Fin cfg0.N, k0_off7 (grid0.coords t) = ![t.val % 2, 2560, 0] := by decide +kernel
theorem off9 : ∀ t : Fin cfg0.N, k0_off9 (grid0.coords t) = ![t.val % 2, 5120, 0] := by decide +kernel

variable (hR : Real m c)
include hR

/-- What a point stores in the other slot is there afterwards. -/
theorem scrNext_in (t : Fin cfg0.N) (d : Vec Ideal S2x7680x256 .bf16) (j : Fin 7680) (l : Fin 256) :
    scrNext (grid0.coords t) (iblk m c 2 t) d (ix3 (sl (t.val + 1)) j l) = b m c (min (t.val + 1) 39) j l := by
  have hreal : ∀ i : Fin 2560, ∃ q : ℝ, iblk m c 2 t (ix2 i l) = (q : EReal) := fun i => by rw [blk2]; exact hR.rhs _ _
  unfold scrNext
  have hj := j.isLt
  by_cases h3 : 5120 ≤ j.val
  · have hr : j.val - 5120 < 2560 := by omega
    refine (overlay_unit_in (k0_off3_inb _) _ _ _ (ix3 0 ⟨j.val - 5120, hr⟩ l) ?_).trans ?_
    · refine fun a => Eq.trans ?_ (congrArg (· + _) (congrFun (off3 t) a).symm)
      fin_cases a
      · rfl
      · show j.val = 5120 + (j.val - 5120); omega
      · show l.val = 0 + l.val; omega
    · refine (pay12_apply _ _ _).trans ?_
      rw [blk2, b, dif_neg (by omega)]
  · have hb : b m c (min (t.val + 1) 39) j l = 0 := by rw [b, dif_pos (by omega)]
    rw [hb]
    refine (overlay_unit_out (k0_off3_inb _) _ _ _ (1 : Fin 3) ?_).trans ?_
    · rw [off3 t]; left; show j.val < 5120; omega
    by_cases h2 : 2560 ≤ j.val
    · have hr : j.val - 2560 < 2560 := by omega
      refine (overlay_unit_in (k0_off2_inb _) _ _ _ (ix3 0 ⟨j.val - 2560, hr⟩ l) ?_).trans ?_
      · refine fun a => Eq.trans ?_ (congrArg (· + _) (congrFun (off2 t) a).symm)
        fin_cases a
        · rfl
        · show j.val = 2560 + (j.val - 2560); omega
        · show l.val = 0 + l.val; omega
      · exact pay11_apply _ _ _ (hreal _)
    · refine (overlay_unit_out (k0_off2_inb _) _ _ _ (1 : Fin 3) ?_).trans ?_
      · rw [off2 t]; left; show j.val < 2560; omega
      refine (overlay_unit_in (k0_off1_inb _) _ _ _ (ix3 0 ⟨j.val, by omega⟩ l) ?_).trans ?_
      · refine fun a => Eq.trans ?_ (congrArg (· + _) (congrFun (off1 t) a).symm)
        fin_cases a
        · rfl
        · show j.val = 0 + j.val; omega
        · show l.val = 0 + l.val; omega
      · exact pay10_apply _ _ _ (hreal _)

omit hR in
/-- The slot in use is untouched by it. -/
theorem scrNext_cur (t : Fin cfg0.N) (d : Vec Ideal S2x7680x256 .bf16) (j : Fin 7680) (l : Fin 256) :
    scrNext (grid0.coords t) (iblk m c 2 t) d (ix3 (sl t.val) j l) = d (ix3 (sl t.val) j l) := by
  unfold scrNext
  refine (overlay_unit_out (k0_off3_inb _) _ _ _ (0 : Fin 3) ?_).trans ((overlay_unit_out (k0_off2_inb _) _ _ _ (0 : Fin 3) ?_).trans
    (overlay_unit_out (k0_off1_inb _) _ _ _ (0 : Fin 3) ?_))
  · rw [off3 t]; show t.val % 2 < (t.val + 1) % 2 ∨ (t.val + 1) % 2 + 1 ≤ t.val % 2; omega
  · rw [off2 t]; show t.val % 2 < (t.val + 1) % 2 ∨ (t.val + 1) % 2 + 1 ≤ t.val % 2; omega
  · rw [off1 t]; show t.val % 2 < (t.val + 1) % 2 ∨ (t.val + 1) % 2 + 1 ≤ t.val % 2; omega

omit hR in
/-- The slot in use holds the current block after the point's stores too. -/
theorem cur_after (t : Fin cfg0.N) (d : Vec Ideal S2x7680x256 .bf16) (h : Cur m c t.val d) :
    Cur m c t.val (scrNext (grid0.coords t) (iblk m c 2 t) d) := fun j l =>
  (scrNext_cur m c t d j l).trans (h j l)

/-- A point hands on the scratch as the next point wants it. -/
theorem next_P (t : Fin cfg0.N) (d : Vec Ideal S2x7680x256 .bf16) :
    P m c (t.val + 1) (scrNext (grid0.coords t) (iblk m c 2 t) d) := by
  intro _ hlt j l
  rw [scrNext_in m c hR t d j l, show min (t.val + 1) 39 = t.val + 1 by omega]

/-- The first point's stores fill slot 0 with the first block. -/
theorem first_cur (t : Fin cfg0.N) (h0 : t.val = 0) (d : Vec Ideal S2x7680x256 .bf16) :
    Cur m c t.val (scrFirst (iblk m c 1 t) d) := by
  intro j l
  have hreal : ∀ i : Fin 2560, ∃ q : ℝ, iblk m c 1 t (ix2 i l) = (q : EReal) := fun i => by rw [blk1]; exact hR.rhs _ _
  unfold scrFirst
  rw [h0]
  have hj := j.isLt
  by_cases h3 : 5120 ≤ j.val
  · have hr : j.val - 5120 < 2560 := by omega
    refine (overlay_unit_in (s := S2x7680x256) inb_S2x7680x256_S1x2560x256_0_5120_0 _ _ _ (ix3 0 ⟨j.val - 5120, hr⟩ l) ?_).trans ?_
    · intro a
      fin_cases a
      · rfl
      · show j.val = 5120 + (j.val - 5120); omega
      · show l.val = 0 + l.val; omega
    · refine (pay6_apply _ _ _).trans ?_
      rw [blk1, b, dif_neg (by omega)]
  · have hb : b m c 0 j l = 0 := by rw [b, dif_pos (by omega)]
    rw [hb]
    refine (overlay_unit_out (s := S2x7680x256) inb_S2x7680x256_S1x2560x256_0_5120_0 _ _ _ (1 : Fin 3) ?_).trans ?_
    · left; show j.val < 5120; omega
    by_cases h2 : 2560 ≤ j.val
    · have hr : j.val - 2560 < 2560 := by omega
      refine (overlay_unit_in (s := S2x7680x256) inb_S2x7680x256_S1x2560x256_0_2560_0 _ _ _ (ix3 0 ⟨j.val - 2560, hr⟩ l) ?_).trans ?_
      · intro a
        fin_cases a
        · rfl
        · show j.val = 2560 + (j.val - 2560); omega
        · show l.val = 0 + l.val; omega
      · exact pay5_apply _ _ _ (hreal _)
    · refine (overlay_unit_out (s := S2x7680x256) inb_S2x7680x256_S1x2560x256_0_2560_0 _ _ _ (1 : Fin 3) ?_).trans ?_
      · left; show j.val < 2560; omega
      refine (overlay_unit_in (s := S2x7680x256) inb_S2x7680x256_S1x2560x256_0_0_0 _ _ _ (ix3 0 ⟨j.val, by omega⟩ l) ?_).trans ?_
      · intro a
        fin_cases a
        · rfl
        · show j.val = 0 + j.val; omega
        · show l.val = 0 + l.val; omega
      · exact pay4_apply _ _ _ (hreal _)

omit hR in
/-- There are ten trips. -/
theorem trips_eq : k0_t1_loop.trips = 10 := by decide +kernel

/-- What a trip stores: its rows of the result. -/
theorem tripPay_apply (t : Fin cfg0.N) (X : Vec Ideal S2x7680x256 .bf16) (hX : Cur m c t.val X) (k : Fin k0_t1_loop.trips) (r l : Fin 256) (i : Fin 2560)
    (hi : i.val = 256 * k.val + r.val) :
    tripPay (grid0.coords t) (iblk m c 0 t) X k (ix2 r l) = out m c (ix2 i (cS t.val l)) := by
  refine (pay13_apply _ _ _ _ _ _ r l).trans ?_
  have e1 : ∀ j : Fin 7680, (View.ld (Val := Elt Ideal) (e' := .bf16) (iblk m c 0 t) (Rect.unit (s := S2560x7680) (k0_off4 k) S256x7680.size (k0_off4_inb k))) (ix2 r j)
      = aP m c (ix2 i j) := fun j => by
    refine (ld_unit_apply (k0_off4_inb k) _ _ (ix2 i j) ?_).trans (blk0 m c t i j)
    refine fun a => Eq.trans ?_ (congrArg (· + _) (congrFun (k0_off4_eq k) a).symm)
    fin_cases a
    · exact hi
    · show j.val = 0 + j.val; omega
  have e2 : ∀ j : Fin 5120, (View.ld (Val := Elt Ideal) (e' := .bf16) (iblk m c 0 t) (Rect.unit (s := S2560x7680) (k0_off6 k) S256x5120.size (k0_off6_inb k))) (ix2 r j)
      = aP m c (ix2 i ⟨j.val, by omega⟩) := fun j => by
    refine (ld_unit_apply (k0_off6_inb k) _ _ (ix2 i ⟨j.val, by omega⟩) ?_).trans (blk0 m c t i _)
    refine fun a => Eq.trans ?_ (congrArg (· + _) (congrFun (k0_off6_eq k) a).symm)
    fin_cases a
    · exact hi
    · show j.val = 0 + j.val; omega
  have e3 : ∀ j : Fin 2560, (View.ld (Val := Elt Ideal) (e' := .bf16) (iblk m c 0 t) (Rect.unit (s := S2560x7680) (k0_off8 k) S256x2560.size (k0_off8_inb k))) (ix2 r j)
      = aP m c (ix2 i ⟨j.val, by omega⟩) := fun j => by
    refine (ld_unit_apply (k0_off8_inb k) _ _ (ix2 i ⟨j.val, by omega⟩) ?_).trans (blk0 m c t i _)
    refine fun a => Eq.trans ?_ (congrArg (· + _) (congrFun (k0_off8_eq k) a).symm)
    fin_cases a
    · exact hi
    · show j.val = 0 + j.val; omega
  have f1 : ∀ j : Fin 7680, (View.ld (Val := Elt Ideal) (e' := .bf16) X (Rect.unit (s := S2x7680x256) (k0_off5 (grid0.coords t)) S1x7680x256.size (k0_off5_inb _))) (ix3 0 j l)
      = b m c t.val j l := fun j => by
    refine (ld_unit_apply (k0_off5_inb _) X _ (ix3 (sl t.val) j l) ?_).trans (hX j l)
    refine fun a => Eq.trans ?_ (congrArg (· + _) (congrFun (off5 t) a).symm)
    fin_cases a
    · rfl
    · show j.val = 0 + j.val; omega
    · show l.val = 0 + l.val; omega
  have f2 : ∀ j : Fin 5120, (View.ld (Val := Elt Ideal) (e' := .bf16) X (Rect.unit (s := S2x7680x256) (k0_off7 (grid0.coords t)) S1x5120x256.size (k0_off7_inb _))) (ix3 0 j l)
      = b m c t.val ⟨2560 + j.val, by omega⟩ l := fun j => by
    refine (ld_unit_apply (k0_off7_inb _) X _ (ix3 (sl t.val) ⟨2560 + j.val, by omega⟩ l) ?_).trans (hX _ l)
    refine fun a => Eq.trans ?_ (congrArg (· + _) (congrFun (off7 t) a).symm)
    fin_cases a
    · rfl
    · rfl
    · show l.val = 0 + l.val; omega
  have f3 : ∀ j : Fin 2560, (View.ld (Val := Elt Ideal) (e' := .bf16) X (Rect.unit (s := S2x7680x256) (k0_off9 (grid0.coords t)) S1x2560x256.size (k0_off9_inb _))) (ix3 0 j l)
      = b m c t.val ⟨5120 + j.val, by omega⟩ l := fun j => by
    refine (ld_unit_apply (k0_off9_inb _) X _ (ix3 (sl t.val) ⟨5120 + j.val, by omega⟩ l) ?_).trans (hX _ l)
    refine fun a => Eq.trans ?_ (congrArg (· + _) (congrFun (off9 t) a).symm)
    fin_cases a
    · rfl
    · rfl
    · show l.val = 0 + l.val; omega
  have hb : ∀ j : Fin 2560, b m c t.val ⟨5120 + j.val, by omega⟩ l = aR m c (ix2 j (cS t.val l)) := fun j => by
    rw [b, dif_neg (by simp)]
    refine congrArg (fun q => aR m c (ix2 q (cS t.val l))) (Fin.ext ?_)
    show 5120 + j.val - 5120 = j.val; omega
  have hz : ∀ j : Fin 7680, j.val < 5120 → b m c t.val j l = 0 := fun j h => by rw [b, dif_pos h]
  refine (congrArg₂ (· + ·) (congrArg₂ (· + ·)
    ((Finset.sum_congr rfl fun j _ => congrArg₂ (· * ·) (e1 j) (f1 j)).trans
      (sum_mul_of_zero_below (a := 5120) (n := 2560) (by norm_num) (fun j => aP m c (ix2 i j)) (fun j => b m c t.val j l) hz))
    ((Finset.sum_congr rfl fun j _ => congrArg₂ (· * ·) (e2 j) (f2 j)).trans
      (sum_mul_of_zero_below (a := 2560) (n := 2560) (by norm_num) (fun j : Fin 5120 => aP m c (ix2 i ⟨j.val, by omega⟩)) (fun j : Fin 5120 => b m c t.val ⟨2560 + j.val, by omega⟩ l)
        fun j h => hz _ (by show 2560 + j.val < 5120; omega))))
    (Finset.sum_congr rfl fun j _ => congrArg₂ (· * ·) (e3 j) (f3 j))).trans ?_
  refine Eq.trans ?_ (sum_mul_three (fun j : Fin 2560 => aP m c (ix2 i ⟨j.val, by omega⟩)) (fun j : Fin 2560 => aP m c (ix2 i ⟨2560 + j.val, by omega⟩))
    (fun j : Fin 2560 => aP m c (ix2 i ⟨5120 + j.val, by omega⟩)) (fun j : Fin 2560 => aR m c (ix2 j (cS t.val l)))
    (fun _ => hR.parts _ _) (fun _ => hR.parts _ _) (fun _ => hR.parts _ _) (fun _ => hR.rhs _ _))
  refine congrArg₂ (· + ·) (congrArg₂ (· + ·) ?_ ?_) ?_
  · exact Finset.sum_congr rfl fun j _ => congrArg (_ * ·) (hb j)
  · refine Finset.sum_congr rfl fun j _ => congrArg (_ * ·) (Eq.trans ?_ (hb j))
    refine congrArg (fun q => b m c t.val q l) (Fin.ext ?_)
    show 2560 + (2560 + j.val) = 5120 + j.val; omega
  · exact Finset.sum_congr rfl fun j _ => congrArg (_ * ·) (hb j)

/-- The output block after the trips before `n`: its first `256 n` rows are the result's. -/
theorem outN_apply (t : Fin cfg0.N) (X : Vec Ideal S2x7680x256 .bf16) (hX : Cur m c t.val X) (Y : Vec Ideal S2560x256 .bf16) :
    ∀ n, n ≤ 10 → ∀ (i : Fin 2560) (l : Fin 256), i.val < 256 * n →
      outN (grid0.coords t) (iblk m c 0 t) X Y n (ix2 i l) = out m c (ix2 i (cS t.val l)) := by
  intro n
  induction n with
  | zero => intro _ i l h; omega
  | succ n ih =>
    intro hn i l hi
    have hlt : n < k0_t1_loop.trips := by rw [trips_eq]; omega
    rw [outN, dif_pos hlt]
    by_cases h : 256 * n ≤ i.val
    · have hr : i.val - 256 * n < 256 := by omega
      refine (overlay_unit_in (k0_off10_inb ⟨n, hlt⟩) _ _ _ (ix2 ⟨i.val - 256 * n, hr⟩ l) ?_).trans ?_
      · refine fun a => Eq.trans ?_ (congrArg (· + _) (congrFun (k0_off10_eq ⟨n, hlt⟩) a).symm)
        fin_cases a
        · show i.val = 256 * n + (i.val - 256 * n); omega
        · show l.val = 0 + l.val; omega
      · exact tripPay_apply m c hR t X hX ⟨n, hlt⟩ _ l i (by show i.val = 256 * n + (i.val - 256 * n); omega)
    · refine (overlay_unit_out (k0_off10_inb ⟨n, hlt⟩) _ _ _ (0 : Fin 2) ?_).trans (ih (by omega) i l (by omega))
      rw [k0_off10_eq]; left; show i.val < 256 * n; omega

/-- A point leaves the result's column block. -/
theorem point_Rl (t : Fin cfg0.N) (X : Vec Ideal S2x7680x256 .bf16) (hX : Cur m c t.val X) (Y : Vec Ideal S2560x256 .bf16) :
    Rl m c t (outN (grid0.coords t) (iblk m c 0 t) X Y 10) := fun i l =>
  outN_apply m c hR t X hX Y 10 le_rfl i l (by have := i.isLt; omega)

/-- Every point keeps the invariants. -/
theorem steps : Cert.SolveIdeal.Gen.Steps m c (P m c) (Rl m c) where
  zero := fun X h => by omega
  first := fun t h0 d4 d5 => by
    have hc := first_cur m c hR t h0 d5
    exact ⟨next_P m c hR t _, point_Rl m c hR t _ (cur_after m c t _ hc) d4⟩
  next := fun t h0 d4 d5 hP => by
    have hc : Cur m c t.val d5 := hP (by omega) (lt40 t)
    exact ⟨next_P m c hR t _, point_Rl m c hR t _ (cur_after m c t _ hc) d4⟩

end Cert.SolveIdeal.Steps

end
-- ==== Proof.Solve.Finite.lean ====
/- The precondition, read: where it holds, every element of both arguments is a real number. -/
module

public import proofs.«01_k».proof.Defs
public import proofs.«01_k».proof.Proof.Gen.Pre_finite
public import proofs.«01_k».proof.Proof.Solve.Steps
public import Idealize.ShloMosaic.Lib.ReduceAll

@[expose] public section

noncomputable section

namespace Cert.SolveIdeal.Finite

open Cert.SolveIdeal Idealize.ShloMosaic Idealize.ShloMosaic.TcCoe

/-- The comparison's right operand is plus infinity. -/
theorem inf_eq : Ideal.ofBits .f32 0x7F800000#32 = ⊤ := by simp [Ideal.ofBits, Ideal.ieee]

/-- An extended real whose absolute value is below plus infinity is a real number. -/
theorem real_of_abs_lt (x : EReal) (h : Ideal.cmp .olt (max x (-x)) ⊤ = 1#1) : ∃ r : ℝ, x = (r : EReal) := by
  induction x with
  | bot => simp [Ideal.cmp] at h
  | coe r => exact ⟨r, rfl⟩
  | top => simp [Ideal.cmp] at h

/-- Where the predicate is true, every element of both arguments is a real number. -/
theorem reals (A : FVec Ideal Cert.Pre_finite.S2560x7680 .bf16) (B : FVec Ideal Cert.Pre_finite.S2560x10240 .f32)
    (h : Cert.Pre_finite.fn (F := Ideal) A B = fun _ => 1#1) : (∀ i, ∃ r : ℝ, A i = (r : EReal)) ∧ (∀ i, ∃ r : ℝ, B i = (r : EReal)) := by
  have h0 := congrFun h (fun a => a.elim0)
  haveI : Subsingleton Cert.Pre_finite.S_.Idx := ⟨fun a b => funext fun i => i.elim0⟩
  obtain ⟨hA, hB⟩ := IntOp.andi_eq_one.1 h0
  constructor
  · intro i
    refine real_of_abs_lt _ ?_
    rw [← inf_eq]
    exact Host.reduce_andi_all _ _ _ _ _ hA i
  · intro i
    refine real_of_abs_lt _ ?_
    rw [← inf_eq]
    exact Host.reduce_andi_all _ _ _ _ _ hB i

/-- The precondition gives what the invariants need. -/
theorem real_of_pre (m : (ℓ : Loc nD τ sig) → Buf (Elt Ideal) ℓ) (h : Cert.Pre_SolveIdeal_finite (hPre_finite := Cert.Pre_finite.Gen.facts) m) (c : Dev nD) :
    Steps.Real m c :=
  have hc := reals _ _ (h c)
  ⟨fun i j => hc.1 (ix2 i j), fun i col => hc.2 (ix2 i col)⟩

end Cert.SolveIdeal.Finite

end
-- ==== Proof.Solve.Ref.lean ====
/- The reference's result at an index, over the extended reals. -/
module

public import proofs.«01_k».proof.Proof.Gen.SolveRefIdeal.Run
public import Idealize.ShloMosaic.Lib.Pointwise

@[expose] public section

set_option maxRecDepth 16384

noncomputable section

namespace Cert.SolveRefIdeal.RefValue

open Cert.SolveRefIdeal Cert.SolveRefIdeal.Gen Idealize.ShloMosaic Idealize.ShloMosaic.TcCoe

/-- The reference's result: the three parts summed, times the right-hand side. -/
def res (A : Vec Ideal S2560x7680 .bf16) (B : Vec Ideal S2560x10240 .f32) : Vec Ideal S2560x10240 .bf16 :=
  truncf .bf16 (Host.dotGeneral (F := Ideal) (φ₂ := .f32) dot_S2560x2560_S2560x10240_S2560x10240_1_0_0_1_n_n none (addf (addf (extf .f32 (extractStridedSlice S2560x2560 ![0, 0] A slices_S2560x7680_S2560x2560_0_0) bitsLt_bf16_f32) (extf .f32 (extractStridedSlice S2560x2560 ![0, 2560] A slices_S2560x7680_S2560x2560_0_2560) bitsLt_bf16_f32)) (extf .f32 (extractStridedSlice S2560x2560 ![0, 5120] A slices_S2560x7680_S2560x2560_0_5120) bitsLt_bf16_f32)) B) bitsLt_bf16_f32

/-- … element by element. -/
theorem res_apply (A : Vec Ideal S2560x7680 .bf16) (B : Vec Ideal S2560x10240 .f32) (i : Fin 2560) (col : Fin 10240) :
    res A B (ix2 i col)
      = ∑ j : Fin 2560, (A (ix2 i ⟨j.val, by omega⟩) + A (ix2 i ⟨2560 + j.val, by omega⟩) + A (ix2 i ⟨5120 + j.val, by omega⟩)) * B (ix2 j col) := by
  unfold res
  pointwise

end Cert.SolveRefIdeal.RefValue

end
-- ==== Proof.Solve.Final.lean ====
/- The solve's result is the reference's, element by element over the extended reals, wherever the arguments are finite. -/
module

public import proofs.«01_k».proof.Proof.Solve.Steps
public import proofs.«01_k».proof.Proof.Solve.Finite
public import proofs.«01_k».proof.Proof.Solve.Ref
public import proofs.«01_k».proof.Defs
public import Idealize.ShloMosaic.Lib.Quiescent

@[expose] public section

set_option maxRecDepth 16384

noncomputable section

namespace Cert.SolveIdeal.Final

open Cert.SolveIdeal Cert.SolveIdeal.Gen Idealize.ShloMosaic Idealize.ShloMosaic.TcCoe Idealize.SL.Sem
open Cert.SolveIdeal.Blocks Cert.SolveIdeal.Steps

variable (m : (ℓ : Loc nD τ sig) → Buf (Elt Ideal) ℓ) (c : Dev nD)

/-- The output array, whatever each point leaves as long as it keeps the invariant. -/
theorem final (after : (w' : Fin cfg0.W) → Fin cfg0.N → (cfg0.win w').block.Idx → Elt Ideal (cfg0.win w').elt)
    (h : ∀ u : Fin cfg0.N, (cfg0.win 3).flush u = true → Rl m c u (after 3 u)) :
    ((rdats m (P m) (Rl m) c).withAfter after).arrAt 3 cfg0.N = out m c := by
  refine ((rdats m (P m) (Rl m) c).withAfter after).arrAt_eq_of_covers 3 _ (by decide +kernel) fun t hf y => ?_
  have ht := lt40 t
  have hr := h t hf
  idx_vars y
  have hv := hr y0 y1
  blk_simp
  refine hv.trans ?_
  have e : ((cfg0.win 3).blk t).view.emb (ix2 y0 y1) = ix2 y0 (cS t.val y1) := by
    have i3 := (idx t).2.2.2
    blk_ext [i3, cS]
  exact (congrArg (out m c) e).symm

/-- The reference's result is the same product. -/
theorem ref_eq (A : Vec Ideal S2560x7680 .bf16) (B : Vec Ideal S2560x10240 .f32) (hA : A = aP m c) (hB : B = aR m c) :
    Cert.SolveRefIdeal.RefValue.res A B = out m c := by
  subst hA hB
  funext y
  idx_vars y
  exact Cert.SolveRefIdeal.RefValue.res_apply _ _ y0 y1

/-- Invariants that say nothing are kept by every point. -/
theorem steps_true : Cert.SolveIdeal.Gen.Steps m c (fun _ _ => True) (fun _ _ => True) where
  zero := fun _ => trivial
  first := fun _ _ _ _ => ⟨trivial, trivial⟩
  next := fun _ _ _ _ _ => ⟨trivial, trivial⟩

/-- The frame of the call over the extended reals, of every launch. -/
theorem frame : Cert.quiescent_SolveIdeal (hSolveIdeal := Cert.SolveIdeal.Gen.facts) := fun m ρ _ =>
  (θ_run defs _ _).mono (fun r h => ⟨fun c => (h.1 c).2, h.2⟩) (run_main m ρ (fun _ _ _ => True) (fun _ _ _ => True) (steps_true m))

/-- The frame of the reference, of every launch. -/
theorem ref_frame : Cert.quiescent_SolveRefIdeal (hSolveRefIdeal := Cert.SolveRefIdeal.Gen.facts) := fun m ρ _ =>
  (θ_run Cert.SolveRefIdeal.defs _ _).mono (fun r h => ⟨fun c => (h c).2, sem_eq_zero_of_no_sems (by decide) r.2⟩) (Cert.SolveRefIdeal.Value.run m ρ)

/-- Both run and end with equal results. -/
theorem algebraic : Cert.algebraic_SolveIdeal_SolveRefIdeal_pre_finite (hSolveIdeal := Cert.SolveIdeal.Gen.facts) (hSolveRefIdeal := Cert.SolveRefIdeal.Gen.facts)
    (hPre_finite := Cert.Pre_finite.Gen.facts) :=
  fun m g m' g' hpre hargs => ⟨fun c => out m c,
    (θ_run defs _ _).mono (fun r h c => by
      obtain ⟨⟨after, hL, hA⟩, hk⟩ := h.1 c
      exact ⟨hA.trans (final m c after hL), hk⟩) (run_main m g (P m) (Rl m) fun c => steps m c (Finite.real_of_pre m hpre c)),
    (θ_run Cert.SolveRefIdeal.defs _ _).mono (fun r h c => ⟨(h c).1.trans
      (ref_eq m c _ _ (hargs c).1 (hargs c).2), (h c).2⟩) (Cert.SolveRefIdeal.Value.run m' g')⟩

end Cert.SolveIdeal.Final

end
-- ==== Proof.SolveBits.Runs.lean ====
/- What the runs of the kernel's body share: when its conditional is taken, as arithmetic of the grid point, and the
   memrefs the body is handed. -/
module

public import proofs.«01_k».proof.Proof.Gen.Solve.Frame
public import proofs.«01_k».proof.Proof.Gen.Solve.Skeleton
public import Idealize.ShloMosaic.Lib.Pipeline.Value
public import Idealize.ShloMosaic.Lib.Pipeline.DatRel

@[expose] public section

-- membership in a rectangle of production extents (`View.cover_of_tiled`): the elaborator's structural look
-- recurses once per coordinate of the long axes
set_option maxRecDepth 16384

noncomputable section

namespace Cert.Solve.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if`, from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl

/-- Each window's current staging memref at point `t`, spelled as the pipeline passes it (`bodyAt0`). -/
abbrev ms0_0 (t : Fin cfg0.N) : Memref sig .tc .vmem S2560x7680 .bf16 := win0_0.stage (cfg0.slots t 0)
abbrev ms0_1 (t : Fin cfg0.N) : Memref sig .tc .vmem S2560x256 .f32 := win0_1.stage (cfg0.slots t 1)
abbrev ms0_2 (t : Fin cfg0.N) : Memref sig .tc .vmem S2560x256 .f32 := win0_2.stage (cfg0.slots t 2)
abbrev ms0_3 (t : Fin cfg0.N) : Memref sig .tc .vmem S2560x256 .bf16 := win0_3.stage (cfg0.slots t 3)
/-- The scratch operand: a whole scoped buffer of the kernel's own, passed beside the windows. -/
abbrev scM0_0 : Memref sig .tc .vmem S2x7680x256 .bf16 := Memref.whole cc0_scratch0

/-- The invariant of the frame with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Solve.Gen

end
-- ==== Proof.SolveBits.Loop.lean ====
/- The counted loop of the body: trip `k` stores rows `256 k … 256 k + 255` of the output block. -/
module

public import proofs.«01_k».proof.Proof.SolveBits.Runs
public import proofs.«01_k».proof.Proof.Overlay

@[expose] public section

-- membership in a rectangle of production extents (`View.cover_of_tiled`): the elaborator's structural look
-- recurses once per coordinate of the long axes
set_option maxRecDepth 16384

noncomputable section

namespace Cert.Solve.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What trip `k` stores: the sum of the three products of its rows of the parts with the scratch slot. -/
def tripPay (i : grid0.Coords) (x1 : Vec F S2560x7680 .bf16) (X : Vec F S2x7680x256 .bf16) (k : Fin k0_t1_loop.trips) : FVec F S256x256 .bf16 :=
  k0_pay13 (View.ld (Val := Elt F) (e' := .bf16) x1 (Rect.unit (s := S2560x7680) (k0_off4 k) S256x7680.size (k0_off4_inb k)))
    (View.ld (Val := Elt F) (e' := .bf16) X (Rect.unit (s := S2x7680x256) (k0_off5 i) S1x7680x256.size (k0_off5_inb i)))
    (View.ld (Val := Elt F) (e' := .bf16) x1 (Rect.unit (s := S2560x7680) (k0_off6 k) S256x5120.size (k0_off6_inb k)))
    (View.ld (Val := Elt F) (e' := .bf16) X (Rect.unit (s := S2x7680x256) (k0_off7 i) S1x5120x256.size (k0_off7_inb i)))
    (View.ld (Val := Elt F) (e' := .bf16) x1 (Rect.unit (s := S2560x7680) (k0_off8 k) S256x2560.size (k0_off8_inb k)))
    (View.ld (Val := Elt F) (e' := .bf16) X (Rect.unit (s := S2x7680x256) (k0_off9 i) S1x2560x256.size (k0_off9_inb i)))

/-- The output block after the trips before `n`. -/
def outN (i : grid0.Coords) (x1 : Vec F S2560x7680 .bf16) (X : Vec F S2x7680x256 .bf16) (Y : Vec F S2560x256 .bf16) : ℕ → Vec F S2560x256 .bf16
  | 0 => Y
  | n + 1 => if h : n < k0_t1_loop.trips then
      (Rect.unit (s := S2560x256) (k0_off10 ⟨n, h⟩) S256x256.size (k0_off10_inb ⟨n, h⟩)).overlay (outN i x1 X Y n) (tripPay i x1 X ⟨n, h⟩)
    else outN i x1 X Y n

/-- The loop's invariant before trip `k`: the parts and the scratch as they were, the output block at `outN k`. -/
def loopI (c : Dev nD) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (f1 : arg1.view.ty.Contents (Elt F)) (f5 : arg5.view.ty.Contents (Elt F)) (Y : Vec F S2560x256 .bf16) (k : Nat) (_ : Unit) : sProp 𝕄 :=
  iprop((arg1.view.loc (c : Thread nD τ) ↦[arg1.view.set]{fullShare} f1) ∗ (arg5.view.loc (c : Thread nD τ) ↦[arg5.view.set]{fullShare} f5)
    ∗ (∃ f4 : arg4.view.ty.Contents (Elt F), ⌜arg4.view.read (Elt F) f4 = outN i (arg1.view.read (Elt F) f1) (arg5.view.read (Elt F) f5) Y k⌝ ∗ arg4.view.loc (c : Thread nD τ) ↦[arg4.view.set]{fullShare} f4))

set_option maxHeartbeats 1000000 in
/-- One trip keeps the invariant. -/
theorem loop_step (c : Dev nD) (E : Set ℕ) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (f1 : arg1.view.ty.Contents (Elt F)) (f5 : arg5.view.ty.Contents (Elt F)) (Y : Vec F S2560x256 .bf16) (k : Fin k0_t1_loop.trips) (acc : Unit) :
    loopI c i arg1 harg1 arg2 harg2 arg3 harg3 arg4 harg4 arg5 harg5 f1 f5 Y k.val acc ⊢ wp frame (wpE (defs₀ (F := F)) Variants.none c none) E (k0_t1_body i arg1 harg1 arg2 harg2 arg3 harg3 arg4 harg4 arg5 harg5 k acc)
      (loopI c i arg1 harg1 arg2 harg2 arg3 harg3 arg4 harg4 arg5 harg5 f1 f5 Y (k.val + 1)) := by
  unfold loopI k0_t1_body
  iintro ⟨H1, H5, ⟨%f4, %h4, H4⟩⟩
  sl_exec
  sl_step
  isplitl [H1]; · iexact H1
  isplitl [H5]; · iexact H5
  iexists _; isplitr; swap; · iexact H4
  ipureintro
  simp only [View.readAt_eq_ld, Cert.Kit.read_writes_cons_overlay, View.writes_nil, h4]
  rw [outN, dif_pos k.isLt]
  rfl

/-- The loop, run from its invariant at the first trip to its invariant after the last. -/
@[sl_loop, reducible] def loopInv (c : Dev nD) (E : Set ℕ) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (f1 : arg1.view.ty.Contents (Elt F)) (f5 : arg5.view.ty.Contents (Elt F)) (Y : Vec F S2560x256 .bf16) :
    LoopInv (M := 𝕄) frame (wpE (defs₀ (F := F)) Variants.none c none) E k0_t1_loop.lb k0_t1_loop.ub k0_t1_loop.st k0_t1_ok ⟨⟩
      (k0_t1_body (F := F) i arg1 harg1 arg2 harg2 arg3 harg3 arg4 harg4 arg5 harg5) where
  inv := loopI c i arg1 harg1 arg2 harg2 arg3 harg3 arg4 harg4 arg5 harg5 f1 f5 Y
  step := loop_step c E i arg1 harg1 arg2 harg2 arg3 harg3 arg4 harg4 arg5 harg5 f1 f5 Y

end Cert.Solve.Gen

end
-- ==== Proof.SolveBits.Run.lean ====
/- The kernel's body run once: from its operands at given contents to the output block and the scratch at named contents. -/
module

public import proofs.«01_k».proof.Proof.SolveBits.Loop
public import proofs.«01_k».proof.Proof.Overlay

@[expose] public section

-- membership in a rectangle of production extents (`View.cover_of_tiled`): the elaborator's structural look
-- recurses once per coordinate of the long axes
set_option maxRecDepth 16384

noncomputable section

namespace Cert.Solve.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the first point's store of the first block's three parts into slot 0. -/
def scrFirst (x1 : Vec F S2560x256 .f32) (d5 : Vec F S2x7680x256 .bf16) : Vec F S2x7680x256 .bf16 :=
  (Rect.unit (s := S2x7680x256) ![0, 5120, 0] S1x2560x256.size inb_S2x7680x256_S1x2560x256_0_5120_0).overlay
    ((Rect.unit (s := S2x7680x256) ![0, 2560, 0] S1x2560x256.size inb_S2x7680x256_S1x2560x256_0_2560_0).overlay
      ((Rect.unit (s := S2x7680x256) ![0, 0, 0] S1x2560x256.size inb_S2x7680x256_S1x2560x256_0_0_0).overlay d5 (k0_pay4 x1)) (k0_pay5 x1)) (k0_pay6 x1)

/-- The scratch after a point's store of the next block's three parts into the other slot. -/
def scrNext (i : grid0.Coords) (x2 : Vec F S2560x256 .f32) (d5 : Vec F S2x7680x256 .bf16) : Vec F S2x7680x256 .bf16 :=
  (Rect.unit (s := S2x7680x256) (k0_off3 i) S1x2560x256.size (k0_off3_inb i)).overlay
    ((Rect.unit (s := S2x7680x256) (k0_off2 i) S1x2560x256.size (k0_off2_inb i)).overlay
      ((Rect.unit (s := S2x7680x256) (k0_off1 i) S1x2560x256.size (k0_off1_inb i)).overlay d5 (k0_pay10 x2)) (k0_pay11 x2)) (k0_pay12 x2)

set_option maxHeartbeats 1000000 in
/-- The body at the first point: the first block is split into slot 0, the next into slot 1, and the rows are stored. -/
theorem run_A (c : Dev nD) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (hc0 : cond0_0 i) (x0 : Vec F S2560x7680 .bf16) (x1 : Vec F S2560x256 .f32) (x2 : Vec F S2560x256 .f32) (d4 : Vec F S2560x256 .bf16) (d5 : Vec F S2x7680x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare x2 ∗ owns (c : Thread nD τ) arg4 fullShare (outN i x0 (scrNext i x2 (scrFirst x1 d5)) d4 10) ∗ owns (c : Thread nD τ) arg5 fullShare (scrNext i x2 (scrFirst x1 d5))) -∗ K ⟨⟩))
          ⊢ wp frame (wpE (defs₀ (F := F)) Variants.none c none) E (cc0_solve i arg1 harg1 arg2 harg2 arg3 harg3 arg4 harg4 arg5 harg5) K := by
    intro E K
    simp only [cc0_solve_eq_skeleton]; unfold cc0_solve_skel
    unfold owns
    iintro ⟨⟨%f0, %hf0, H0⟩, ⟨%f1, %hf1, H1⟩, ⟨%f2, %hf2, H2⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf4; obtain rfl := harg5.eq_unread hf5
    sl_exec (disch := first | sl_exact hc0)
    sl_step
    have h0 : (![0, 0] : Fin 2 → Nat) = fun _ => 0 := by decide
    have e1 : View.ld (Val := Elt F) (e' := .f32) x1 (Rect.unit (s := S2560x256) ![0, 0] S2560x256.size inb_S2560x256_S2560x256_0_0) = x1 := View.ld_unit_zero (S := S2560x256) h0 _ x1
    have e2 : View.ld (Val := Elt F) (e' := .f32) x2 (Rect.unit (s := S2560x256) ![0, 0] S2560x256.size inb_S2560x256_S2560x256_0_0) = x2 := View.ld_unit_zero (S := S2560x256) h0 _ x2
    iapply Hk
    have hS : View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩,
        ⟨Rect.unit (s := S2x7680x256) ![0, 5120, 0] S1x2560x256.size inb_S2x7680x256_S1x2560x256_0_5120_0, k0_pay6 (View.readAt (Elt F) arg2.view (Rect.unit (s := S2560x256) ![0, 0] S2560x256.size inb_S2560x256_S2560x256_0_0).toLoadRect (harg2.unread x1))⟩,
        ⟨Rect.unit (s := S2x7680x256) ![0, 2560, 0] S1x2560x256.size inb_S2x7680x256_S1x2560x256_0_2560_0, k0_pay5 (View.readAt (Elt F) arg2.view (Rect.unit (s := S2560x256) ![0, 0] S2560x256.size inb_S2560x256_S2560x256_0_0).toLoadRect (harg2.unread x1))⟩,
        ⟨Rect.unit (s := S2x7680x256) ![0, 0, 0] S1x2560x256.size inb_S2x7680x256_S1x2560x256_0_0_0, k0_pay4 (View.readAt (Elt F) arg2.view (Rect.unit (s := S2560x256) ![0, 0] S2560x256.size inb_S2560x256_S2560x256_0_0).toLoadRect (harg2.unread x1))⟩]) = scrNext i x2 (scrFirst x1 d5) := by
      unfold scrNext scrFirst
      simp only [View.readAt_eq_ld, Cert.Kit.read_writes_cons_overlay, View.writes_nil, hf1, hf2, hf5]
      erw [e1, e2]
    have hO : ∀ Z, Z = outN i (View.read (Elt F) arg1.view (harg1.unread x0)) (View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩,
        ⟨Rect.unit (s := S2x7680x256) ![0, 5120, 0] S1x2560x256.size inb_S2x7680x256_S1x2560x256_0_5120_0, k0_pay6 (View.readAt (Elt F) arg2.view (Rect.unit (s := S2560x256) ![0, 0] S2560x256.size inb_S2560x256_S2560x256_0_0).toLoadRect (harg2.unread x1))⟩,
        ⟨Rect.unit (s := S2x7680x256) ![0, 2560, 0] S1x2560x256.size inb_S2x7680x256_S1x2560x256_0_2560_0, k0_pay5 (View.readAt (Elt F) arg2.view (Rect.unit (s := S2560x256) ![0, 0] S2560x256.size inb_S2560x256_S2560x256_0_0).toLoadRect (harg2.unread x1))⟩,
        ⟨Rect.unit (s := S2x7680x256) ![0, 0, 0] S1x2560x256.size inb_S2x7680x256_S1x2560x256_0_0_0, k0_pay4 (View.readAt (Elt F) arg2.view (Rect.unit (s := S2560x256) ![0, 0] S2560x256.size inb_S2560x256_S2560x256_0_0).toLoadRect (harg2.unread x1))⟩])) (View.read (Elt F) arg4.view (harg4.unread d4)) 10 → Z = outN i x0 (scrNext i x2 (scrFirst x1 d5)) d4 10 := by
      intro Z hZ
      rw [hS, hf0, hf4] at hZ
      exact hZ
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; swap; · iexact H4
      ipureintro
      exact hO _ (by assumption)
    iexists _; isplitr; swap; · iexact H5
    ipureintro
    exact hS

set_option maxHeartbeats 1000000 in
/-- The body at a later point: the next block is split into the other slot, and the rows are stored. -/
theorem run_B (c : Dev nD) (i : grid0.Coords) (arg1 : Memref sig .tc .vmem S2560x7680 .bf16) (harg1 : arg1.IsWhole) (arg2 : Memref sig .tc .vmem S2560x256 .f32) (harg2 : arg2.IsWhole) (arg3 : Memref sig .tc .vmem S2560x256 .f32) (harg3 : arg3.IsWhole) (arg4 : Memref sig .tc .vmem S2560x256 .bf16) (harg4 : arg4.IsWhole) (arg5 : Memref sig .tc .vmem S2x7680x256 .bf16) (harg5 : arg5.IsWhole) (hc0 : ¬cond0_0 i) (x0 : Vec F S2560x7680 .bf16) (x1 : Vec F S2560x256 .f32) (x2 : Vec F S2560x256 .f32) (d4 : Vec F S2560x256 .bf16) (d5 : Vec F S2x7680x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare x2 ∗ owns (c : Thread nD τ) arg4 fullShare (outN i x0 (scrNext i x2 d5) d4 10) ∗ owns (c : Thread nD τ) arg5 fullShare (scrNext i x2 d5)) -∗ K ⟨⟩))
          ⊢ wp frame (wpE (defs₀ (F := F)) Variants.none c none) E (cc0_solve i arg1 harg1 arg2 harg2 arg3 harg3 arg4 harg4 arg5 harg5) K := by
    intro E K
    simp only [cc0_solve_eq_skeleton]; unfold cc0_solve_skel
    unfold owns
    iintro ⟨⟨%f0, %hf0, H0⟩, ⟨%f1, %hf1, H1⟩, ⟨%f2, %hf2, H2⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf4; obtain rfl := harg5.eq_unread hf5
    sl_exec (disch := first | sl_exact hc0)
    sl_step
    have h0 : (![0, 0] : Fin 2 → Nat) = fun _ => 0 := by decide
    have e1 : View.ld (Val := Elt F) (e' := .f32) x1 (Rect.unit (s := S2560x256) ![0, 0] S2560x256.size inb_S2560x256_S2560x256_0_0) = x1 := View.ld_unit_zero (S := S2560x256) h0 _ x1
    have e2 : View.ld (Val := Elt F) (e' := .f32) x2 (Rect.unit (s := S2560x256) ![0, 0] S2560x256.size inb_S2560x256_S2560x256_0_0) = x2 := View.ld_unit_zero (S := S2560x256) h0 _ x2
    iapply Hk
    have hS : View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩]) = scrNext i x2 d5 := by
      unfold scrNext
      simp only [View.readAt_eq_ld, Cert.Kit.read_writes_cons_overlay, View.writes_nil, hf1, hf2, hf5]
      erw [e2]
    have hO : ∀ Z, Z = outN i (View.read (Elt F) arg1.view (harg1.unread x0)) (View.read (Elt F) arg5.view (arg5.view.writes (Elt F) (harg5.unread d5)
        [⟨Rect.unit (s := S2x7680x256) (k0_off3 i) S1x2560x256.size (k0_off3_inb i), k0_pay12 (View.readAt (Elt F) arg3.view (Rect.unit (s := S2560x256) ![0, 0] S2560x256.size inb_S2560x256_S2560x256_0_0).toLoadRect (harg3.unread x2))⟩,
        ⟨Rect.unit (s := S2x7680x256) (k0_off2 i) S1x2560x256.size (k0_off2_inb i), k0_pay11 (View.readAt (Elt F) arg3.view (Rect.unit (s := S2560x256) ![0, 0] S2560x256.size inb_S2560x256_S2560x256_0_0).toLoadRect (harg3.unread x2))⟩,
        ⟨Rect.unit (s := S2x7680x256) (k0_off1 i) S1x2560x256.size (k0_off1_inb i), k0_pay10 (View.readAt (Elt F) arg3.view (Rect.unit (s := S2560x256) ![0, 0] S2560x256.size inb_S2560x256_S2560x256_0_0).toLoadRect (harg3.unread x2))⟩])) (View.read (Elt F) arg4.view (harg4.unread d4)) 10 → Z = outN i x0 (scrNext i x2 d5) d4 10 := by
      intro Z hZ
      rw [hS, hf0, hf4] at hZ
      exact hZ
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; swap; · iexact H4
      ipureintro
      exact hO _ (by assumption)
    iexists _; isplitr; swap; · iexact H5
    ipureintro
    exact hS

end Cert.Solve.Gen

end
-- ==== Proof.SolveBits.Data.lean ====
/- The run of the call from a pair of invariants: `P n` holds of the scratch when `n` points have run, `Rl t` of the output
   block when point `t` has. What a point does to them (`Steps`) is pure; this module turns it into the run. -/
module

public import proofs.«01_k».proof.Proof.SolveBits.Run
public import Idealize.ShloMosaic.Lib.Pipeline.ArrRel

@[expose] public section

set_option maxRecDepth 16384

noncomputable section

namespace Cert.Solve.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point of the grid does to the invariants: `P n` of the scratch after `n` points and `Rl t` of the output block
    after point `t`. -/
structure Steps (c : Dev nD) (P : ℕ → Vec F S2x7680x256 .bf16 → Prop) (Rl : Fin cfg0.N → Vec F S2560x256 .bf16 → Prop) : Prop where
  zero : ∀ X, P 0 X
  first : ∀ (t : Fin cfg0.N), t.val = 0 → ∀ d4 d5,
    P (t.val + 1) (scrNext (grid0.coords t) (iblk m c 2 t) (scrFirst (iblk m c 1 t) d5))
      ∧ Rl t (outN (grid0.coords t) (iblk m c 0 t) (scrNext (grid0.coords t) (iblk m c 2 t) (scrFirst (iblk m c 1 t) d5)) d4 10)
  next : ∀ (t : Fin cfg0.N), t.val ≠ 0 → ∀ d4 d5, P t.val d5 →
    P (t.val + 1) (scrNext (grid0.coords t) (iblk m c 2 t) d5)
      ∧ Rl t (outN (grid0.coords t) (iblk m c 0 t) (scrNext (grid0.coords t) (iblk m c 2 t) d5) d4 10)

/-- The window held to a predicate: the output. -/
def forgets0 : Fin 4 → Bool := fun w => w.val == 3

/-- The proof data: the arrays as the region finds them, each input's buffer at its block, the scratch held to `P`. -/
def dats (P : (c : Dev nD) → ℕ → Vec F S2x7680x256 .bf16 → Prop) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ n := iprop((∃ d, ⌜P c n.val d⌝ ∗ owns (c : Thread nD τ) scM0_0 fullShare d) ∗ (∃ r, prngReg c r))
  q w := Pipeline.shareOf spec0 w
  owed _ := 0

variable (P : (c : Dev nD) → ℕ → Vec F S2x7680x256 .bf16 → Prop) (Rl : (c : Dev nD) → Fin cfg0.N → Vec F S2560x256 .bf16 → Prop)

/-- The predicate on each window's buffer: `Rl` on the output. -/
def relW (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun t X => Rl c t X

/-- The proof data's arrays are the region-entry contents. -/
theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem after0_1 (c : Dev nD) (t : Fin cfg0.N) : (dats m P 0 c).after 1 t = iblk m c 1 t := by dsimp only [dats]
theorem after0_2 (c : Dev nD) (t : Fin cfg0.N) : (dats m P 0 c).after 2 t = iblk m c 2 t := by dsimp only [dats]
theorem before0_0 (c : Dev nD) (t : Fin cfg0.N) (d) : (dats m P 0 c).before 0 t d = iblk m c 0 t :=
  before0_0_of m (dats m P 0 c) (A_eq m P c 0) (after0_0 m P c) t d
theorem before0_1 (c : Dev nD) (t : Fin cfg0.N) (d) : (dats m P 0 c).before 1 t d = iblk m c 1 t :=
  before0_1_of m (dats m P 0 c) (A_eq m P c 1) (after0_1 m P c) t d
theorem before0_2 (c : Dev nD) (t : Fin cfg0.N) (d) : (dats m P 0 c).before 2 t d = iblk m c 2 t :=
  before0_2_of m (dats m P 0 c) (A_eq m P c 2) (after0_2 m P c) t d

/-- The relational proof data of the call. -/
abbrev rdats (c : Dev nD) : Pipeline.RDat τ (Elt F) Unit ℕ (UR sig nD τ) ℕ cfg0 c := (dats m P 0 c).toRRel forgets0 (relW Rl c)

/-- What the body is called with at point `t`, the windows one by one, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ Y, ⌜(rdats m P Rl c).Finds 3 t Y⌝ ∗ owns (c : Thread nD τ) (ms0_3 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ owns (c : Thread nD τ) (ms0_1 t) fullShare ((dats m P 0 c).after 1 t)
    ∗ owns (c : Thread nD τ) (ms0_2 t) fullShare ((dats m P 0 c).after 2 t)
    ∗ (∃ X, ⌜Rl c t X⌝ ∗ owns (c : Thread nD τ) (ms0_3 t) fullShare X))

variable (hS : ∀ c, Steps m c (P c) (Rl c))
include hS

set_option maxHeartbeats 2400000 in
/-- The body at any point keeps the invariants. -/
theorem sound_body (c : Dev nD) (t : Fin cfg0.N) :
    bodyPre m P Rl c t ⊢ wp frame (wpE (defs₀ (F := F)) Variants.none c none) Set.univ (bodyAt0 t) (fun _ => bodyPost m P Rl c t) := by
  unfold bodyPre bodyPost bodyAt0
  simp only [before0_0, before0_1, before0_2, after0_0, after0_1, after0_2]
  rw [show (dats m P 0 c).owesAt () t.succ = (dats m P 0 c).owesAt () t.castSucc from rfl]
  rw [show (dats m P 0 c).Φ t.castSucc = iprop((∃ d, ⌜P c t.val d⌝ ∗ owns (c : Thread nD τ) scM0_0 fullShare d) ∗ (∃ r, prngReg c r)) from rfl,
    show (dats m P 0 c).Φ t.succ = iprop((∃ d, ⌜P c (t.val + 1) d⌝ ∗ owns (c : Thread nD τ) scM0_0 fullShare d) ∗ (∃ r, prngReg c r)) from rfl]
  iintro ⟨⟨⟨%d5, %hP, HS0⟩, Hg⟩, Ho, ⟨%d0, H0⟩, ⟨%d1, H1⟩, ⟨%d2, H2⟩, ⟨%d4, %hF, H3⟩⟩
  by_cases h0 : t.val = 0
  · have hst := (hS c).first t h0 d4 d5
    iapply (run_A c (grid0.coords t) _ _ _ _ _ _ _ _ _ _ ((hcond0_0 t).mpr h0) (iblk m c 0 t) (iblk m c 1 t) (iblk m c 2 t) d4 d5 Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact hst.1
        iexact HS0
      iexact Hg
    isplitl [Ho]; · iexact Ho
    isplitl [H0]; · iexact H0
    isplitl [H1]; · iexact H1
    isplitl [H2]; · iexact H2
    iexists _; isplitr; · ipureintro; exact hst.2
    iexact H3
  · have hst := (hS c).next t h0 d4 d5 hP
    iapply (run_B c (grid0.coords t) _ _ _ _ _ _ _ _ _ _ (fun h => h0 ((hcond0_0 t).mp h)) (iblk m c 0 t) (iblk m c 1 t) (iblk m c 2 t) d4 d5 Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; · ipureintro; exact hst.1
        iexact HS0
      iexact Hg
    isplitl [Ho]; · iexact Ho
    isplitl [H0]; · iexact H0
    isplitl [H1]; · iexact H1
    isplitl [H2]; · iexact H2
    iexists _; isplitr; · ipureintro; exact hst.2
    iexact H3

omit hS in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m P 0 c) (defs₀ (F := F)) Variants.none () Set.univ forgets0 (relW Rl c) := fun t => by
  rw [bigSep_W0, bigSep_W0, defs₀_row]
  exact triple_restated (sound_body m P Rl hS c t) rfl .rfl fun _ => .rfl

omit hS in
/-- The region is entered with the scratch at any contents: `P 0` holds of them all. -/
theorem Phi_in (h0 : ∀ c X, P c 0 X) (c : Dev nD) : (Pipeline.ΦA spec0 c : sProp 𝕄) ⊢ (dats m P 0 c).Φ 0 := by
  rw [PhiA0_eq]
  show _ ⊢ iprop((∃ d, ⌜P c 0 d⌝ ∗ owns (c : Thread nD τ) scM0_0 fullShare d) ∗ (∃ r, prngReg c r))
  iintro ⟨⟨%d, H⟩, Hg⟩
  isplitl [H]
  · iexists d; isplitr; · ipureintro; exact h0 c d
    iexact H
  iexact Hg

omit hS in
/-- The region is left with the scratch at some contents. -/
theorem Phi_out (c : Dev nD) : (dats m P 0 c).Φ (Fin.last cfg0.N) ⊢ (Pipeline.ΦA spec0 c : sProp 𝕄) := by
  rw [PhiA0_eq]
  show iprop((∃ d, ⌜P c _ d⌝ ∗ owns (c : Thread nD τ) scM0_0 fullShare d) ∗ (∃ r, prngReg c r)) ⊢ _
  iintro ⟨⟨%d, %hd, H⟩, Hg⟩
  isplitl [H]
  · iexists d; iexact H
  iexact Hg

set_option backward.isDefEq.respectTransparency.types false in
/-- The launch: every fair execution ends, at arrays the relational proof data allow, with every counter at zero. -/
theorem run_main_quiescent : θ_run defs (onTc (τ := τ) (main (F := F))) (s₀ m ρ) (fun r => (Pipeline.RDat.FramePost (cfgs 0) (rdats m P Rl) (V m)) r ∧ r.2.sem = fun _ => 0) :=
  Pipeline.RDat.θ_run_frame_track_shared (Q' := _) cfgs (0 : Fin 1) launch₀0 defs₀ Variants.none (rdats m P Rl) m ρ main
    (hbody := fun c => (body_obligation m P Rl hS c).toRRel) (hq := fun _ _ _ => rfl)
    (howed := fun _ _ => rfl) (V := V m) (hmain := hmain m Variants.none) (hA := A_eq m P) (hin := Phi_in m P fun c X => (hS c).zero X) (hout := Phi_out m P)
    (hQ' := fun _ h => h)

/-- What a final state holds: at each flushing point some contents that meet `Rl`, and the result array as those contents
    written back; the arguments as launched; every counter at zero. -/
theorem run_main : θ_run defs (onTc (τ := τ) (main (F := F))) ⟨m, fun _ => 0, ρ⟩ (fun r => ((∀ c : Dev nD,
      (∃ after : (w' : Fin cfg0.W) → Fin cfg0.N → (cfg0.win w').block.Idx → Elt F (cfg0.win w').elt,
        (∀ u : Fin cfg0.N, (cfg0.win 3).flush u = true → Rl c u (after 3 u))
          ∧ r.2.mem ((cfg0.spec 3).arr.view.loc (c.tc : Thread nD τ)) = ((rdats m P Rl c).withAfter after).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)))
      ∧ r.2.sem = fun _ => 0) := by
  refine (θ_run defs _ _).mono (fun r h => ⟨fun c => ⟨?_, ?_⟩, h.2⟩) (run_main_quiescent m ρ P Rl hS)
  · haveI : ∀ e, Nonempty (Elt F e) := fun e => inferInstance
    obtain ⟨after, hL, hA⟩ := Pipeline.RDat.FramePost.exists_exact h.1 c
    exact ⟨after, fun u hu => Dat.toRRel_leaves (dats m P 0 c) (fgt := forgets0) (Rl := relW Rl c) (w := 3) rfl (hL 3 u hu), hA 3⟩
  · have h := h.1
    exact ⟨(Pipeline.RDat.FramePost.arr_in h c 0 rfl).trans (V_main_arg0 m c),
      (Pipeline.RDat.FramePost.arr_in h c 2 rfl).trans (V_main_arg1 m c)⟩

end Cert.Solve.Gen

end
-- ==== Proof.SolveBits.Frame.lean ====
/- The frame of the solve call over the machine's floats: it runs, its arguments are unchanged, its semaphores end at zero. -/
module

public import proofs.«01_k».proof.Proof.SolveBits.Data
public import proofs.«01_k».proof.Defs

@[expose] public section

noncomputable section

namespace Cert.Solve.BitsFrame

open Cert.Solve Cert.Solve.Gen Idealize.ShloMosaic Idealize.ShloMosaic.TcCoe Idealize.SL.Sem

/-- Invariants that say nothing are kept by every point. -/
theorem steps_true {F : FTy → Type} [FloatOps F] (m : (ℓ : Loc nD τ sig) → Buf (Elt F) ℓ) (c : Dev nD) :
    Steps m c (fun _ _ => True) (fun _ _ => True) where
  zero := fun _ => trivial
  first := fun _ _ _ _ => ⟨trivial, trivial⟩
  next := fun _ _ _ _ _ => ⟨trivial, trivial⟩

/-- The frame. -/
theorem frame : Cert.quiescent_Solve (hSolve := Cert.Solve.Gen.facts) := fun m ρ _ =>
  (θ_run defs _ _).mono (fun r h => ⟨fun c => (h.1 c).2, h.2⟩) (run_main m ρ (fun _ _ _ => True) (fun _ _ _ => True) (steps_true m))

end Cert.Solve.BitsFrame

end
-- ==== Proof.Inverse.Runs.lean ====
/- What the runs of the kernel's body share: when its three conditionals are taken, as arithmetic of the grid point, and the
   memrefs the body is handed. -/
module

public import proofs.«01_k».proof.Proof.Gen.InverseIdeal.Frame
public import proofs.«01_k».proof.Proof.Gen.InverseIdeal.Skeleton
public import proofs.«01_k».proof.Proof.Overlay
public import Idealize.ShloMosaic.Lib.Pipeline.Value
public import Idealize.ShloMosaic.Lib.Pipeline.DatRel

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional is taken at the points before 20: the matrix is read. -/
theorem hcond1 : ∀ t : Fin cfg0.N, k0_cond1 (grid0.coords t) = 1#1 ↔ t.val < 20 :=
  (by decide +kernel : ∀ t : Fin grid0.N, k0_cond1 (grid0.coords t) = 1#1 ↔ t.val < 20)
/-- The second is taken at the points from 20 to 29: a block is swept. -/
theorem hcond2 : ∀ t : Fin cfg0.N, k0_cond2 (grid0.coords t) = 1#1 ↔ 20 ≤ t.val ∧ t.val < 30 :=
  (by decide +kernel : ∀ t : Fin grid0.N, k0_cond2 (grid0.coords t) = 1#1 ↔ 20 ≤ t.val ∧ t.val < 30)
/-- The third is taken at the points from 30 on: the inverse is written out. -/
theorem hcond3 : ∀ t : Fin cfg0.N, k0_cond3 (grid0.coords t) = 1#1 ↔ 30 ≤ t.val :=
  (by decide +kernel : ∀ t : Fin grid0.N, k0_cond3 (grid0.coords t) = 1#1 ↔ 30 ≤ t.val)

/-- An overlay over the whole shape is the payload. -/
theorem overlay_whole {s : Shape} {α : Type} {off : Fin s.rank → Nat} (h : off = fun _ => 0) (inb : ∀ a, off a + s.size a ≤ s.size a) (X : s.Idx → α) (G : s.Idx → α) :
    (Rect.unit (s := s) off s.size inb).overlay X G = G := by
  funext y
  exact Cert.Kit.overlay_unit_in inb X G y y fun a => by have := congrFun h a; omega

/-- Each window's current staging memref at point `t`, spelled as the pipeline passes it (`bodyAt0`). -/
abbrev ms0_0 (t : Fin cfg0.N) : Memref sig .tc .vmem S6x128x2560 .bf16 := win0_0.stage (cfg0.slots t 0)
abbrev ms0_1 (t : Fin cfg0.N) : Memref sig .tc .vmem S128x128 .f32 := win0_1.stage (cfg0.slots t 1)
abbrev ms0_2 (t : Fin cfg0.N) : Memref sig .tc .vmem S128x7680 .bf16 := win0_2.stage (cfg0.slots t 2)
/-- The scratch operands: whole scoped buffers of the kernel's own, passed beside the windows. -/
abbrev scM0_0 : Memref sig .tc .vmem S2560x2560 .f32 := Memref.whole cc0_scratch0
abbrev scM0_1 : Memref sig .tc .vmem S256x256 .f32 := Memref.whole cc0_scratch1
abbrev scM0_2 : Memref sig .tc .vmem S2560x1536 .bf16 := Memref.whole cc0_scratch2
abbrev scM0_3 : Memref sig .tc .vmem S1536x2560 .bf16 := Memref.whole cc0_scratch3

/-- The invariant of the frame with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.InverseIdeal.Gen

end
-- ==== Proof.Inverse.RunA.lean ====
/- The kernel's body at a point that reads rows of the Gram matrices. -/
module

public import proofs.«01_k».proof.Proof.Inverse.Runs
public import proofs.«01_k».proof.Proof.Overlay

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix after the point's first store: the rows of the scaled sum. -/
def rowsA (i : grid0.Coords) (h1 : k0_cond1 i = 1#1) (x0 : Vec F S6x128x2560 .bf16) (d4 : Vec F S2560x2560 .f32) : Vec F S2560x2560 .f32 :=
  (Rect.unit (s := S2560x2560) (k0_off1 i) S128x2560.size (k0_off1_inb i h1)).overlay d4
    (k0_pay13 (View.ld (Val := Elt F) (e' := .bf16) x0 (Rect.unit (s := S6x128x2560) ![0, 0, 0] S1x128x2560.size inb_S6x128x2560_S1x128x2560_0_0_0)) (View.ld (Val := Elt F) (e' := .bf16) x0 (Rect.unit (s := S6x128x2560) ![1, 0, 0] S1x128x2560.size inb_S6x128x2560_S1x128x2560_1_0_0)) (View.ld (Val := Elt F) (e' := .bf16) x0 (Rect.unit (s := S6x128x2560) ![2, 0, 0] S1x128x2560.size inb_S6x128x2560_S1x128x2560_2_0_0)) (View.ld (Val := Elt F) (e' := .bf16) x0 (Rect.unit (s := S6x128x2560) ![3, 0, 0] S1x128x2560.size inb_S6x128x2560_S1x128x2560_3_0_0)) (View.ld (Val := Elt F) (e' := .bf16) x0 (Rect.unit (s := S6x128x2560) ![4, 0, 0] S1x128x2560.size inb_S6x128x2560_S1x128x2560_4_0_0)) (View.ld (Val := Elt F) (e' := .bf16) x0 (Rect.unit (s := S6x128x2560) ![5, 0, 0] S1x128x2560.size inb_S6x128x2560_S1x128x2560_5_0_0)))

/-- The sum of the diagonal blocks, off their diagonals zero. -/
def dsumA (i : grid0.Coords) (h1 : k0_cond1 i = 1#1) (x0 : Vec F S6x128x2560 .bf16) : FVec F S128x128 .f32 :=
  k0_pay24 k0_pay14 (k0_pay19 k0_pay14 (Scalar.ofBits .f32 0x00000000#32) (View.ld (Val := Elt F) (e' := .bf16) x0 (Rect.unit (s := S6x128x2560) (k0_off2 i) S1x128x128.size (k0_off2_inb i h1))) (View.ld (Val := Elt F) (e' := .bf16) x0 (Rect.unit (s := S6x128x2560) (k0_off3 i) S1x128x128.size (k0_off3_inb i h1))) (View.ld (Val := Elt F) (e' := .bf16) x0 (Rect.unit (s := S6x128x2560) (k0_off4 i) S1x128x128.size (k0_off4_inb i h1)))) (View.ld (Val := Elt F) (e' := .bf16) x0 (Rect.unit (s := S6x128x2560) (k0_off5 i) S1x128x128.size (k0_off5_inb i h1))) (View.ld (Val := Elt F) (e' := .bf16) x0 (Rect.unit (s := S6x128x2560) (k0_off6 i) S1x128x128.size (k0_off6_inb i h1))) (View.ld (Val := Elt F) (e' := .bf16) x0 (Rect.unit (s := S6x128x2560) (k0_off7 i) S1x128x128.size (k0_off7_inb i h1)))

/-- The block of diagonals: column `k` is the diagonal of matrix `k`. -/
def diagA (i : grid0.Coords) (h1 : k0_cond1 i = 1#1) (x0 : Vec F S6x128x2560 .bf16) : FVec F S128x128 .f32 :=
  k0_pay25 k0_pay14 (iota .tc S128x128 32 [1] iota_S128x128_d1_w32) (k0_pay20 k0_pay14 (iota .tc S128x128 32 [1] iota_S128x128_d1_w32) (k0_pay15 (F := F)) (View.ld (Val := Elt F) (e' := .bf16) x0 (Rect.unit (s := S6x128x2560) (k0_off2 i) S1x128x128.size (k0_off2_inb i h1))) (View.ld (Val := Elt F) (e' := .bf16) x0 (Rect.unit (s := S6x128x2560) (k0_off3 i) S1x128x128.size (k0_off3_inb i h1))) (View.ld (Val := Elt F) (e' := .bf16) x0 (Rect.unit (s := S6x128x2560) (k0_off4 i) S1x128x128.size (k0_off4_inb i h1)))) (View.ld (Val := Elt F) (e' := .bf16) x0 (Rect.unit (s := S6x128x2560) (k0_off5 i) S1x128x128.size (k0_off5_inb i h1))) (View.ld (Val := Elt F) (e' := .bf16) x0 (Rect.unit (s := S6x128x2560) (k0_off6 i) S1x128x128.size (k0_off6_inb i h1))) (View.ld (Val := Elt F) (e' := .bf16) x0 (Rect.unit (s := S6x128x2560) (k0_off7 i) S1x128x128.size (k0_off7_inb i h1)))

/-- The matrix after the point. -/
def matA (i : grid0.Coords) (h1 : k0_cond1 i = 1#1) (x0 : Vec F S6x128x2560 .bf16) (d4 : Vec F S2560x2560 .f32) : Vec F S2560x2560 .f32 :=
  (Rect.unit (s := S2560x2560) (k0_off8 i) S128x128.size (k0_off8_inb i h1)).overlay (rowsA i h1 x0 d4)
    (k0_pay1 (dsumA i h1 x0) (View.ld (Val := Elt F) (e' := .f32) (rowsA i h1 x0 d4) (Rect.unit (s := S2560x2560) (k0_off8 i) S128x128.size (k0_off8_inb i h1))) (k0_pay26 (F := F)))

set_option maxHeartbeats 1000000 in
/-- The body at a point that reads: the rows of the matrix and the block of diagonals are stored. -/
theorem run_A (c : Dev nD) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h1 : k0_cond1 i = 1#1) (h2 : ¬ k0_cond2 i = 1#1) (h3 : ¬ k0_cond3 i = 1#1) (x0 : Vec F S6x128x2560 .bf16) (d2 : Vec F S128x128 .f32) (d3 : Vec F S128x7680 .bf16) (d4 : Vec F S2560x2560 .f32) (d5 : Vec F S256x256 .f32) (d6 : Vec F S2560x1536 .bf16) (d7 : Vec F S1536x2560 .bf16) :
      ∀ (E : Set ℕ) (K : PUnit → sProp 𝕄),
        iprop(owns (c : Thread nD τ) arg1 fullShare x0 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
            ∗ (iprop(owns (c : Thread nD τ) arg1 fullShare x0 ∗ owns (c : Thread nD τ) arg2 fullShare (diagA i h1 x0) ∗ owns (c : Thread nD τ) arg3 fullShare d3 ∗ owns (c : Thread nD τ) arg4 fullShare (matA i h1 x0 d4) ∗ owns (c : Thread nD τ) arg5 fullShare d5 ∗ owns (c : Thread nD τ) arg6 fullShare d6 ∗ owns (c : Thread nD τ) arg7 fullShare d7) -∗ K ⟨⟩))
          ⊢ wp frame (wpE (defs₀ (F := F)) Variants.none c none) E (cc0_gram_inverse i arg1 harg1 arg2 harg2 arg3 harg3 arg4 harg4 arg5 harg5 arg6 harg6 arg7 harg7) K := by
    intro E K
    simp only [cc0_gram_inverse_eq_skeleton]; unfold cc0_gram_inverse_skel
    simp only [k0_part1_eq_skeleton, k0_part2_eq_skeleton, k0_part3_eq_skeleton]; unfold k0_part1_skel k0_part2_skel k0_part3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2 | sl_exact h3)
    sl_step
    have h0 : (![0, 0] : Fin 2 → Nat) = fun _ => 0 := by decide
    iapply Hk
    isplitl [H1]
    · iexists _; isplitr; · ipureintro; exact harg1.read_unread _
      iexact H1
    isplitl [H2]
    · iexists _; isplitr; swap; · iexact H2
      ipureintro
      simp only [View.readAt_eq_ld, Cert.Kit.read_writes_cons_overlay, View.writes_nil, hf1, hf2]
      rw [overlay_whole h0]
      rfl
    isplitl [H3]
    · iexists _; isplitr; · ipureintro; exact harg3.read_unread _
      iexact H3
    isplitl [H4]
    · iexists _; isplitr; swap; · iexact H4
      ipureintro
      unfold run_A.sl.H4_1 matA rowsA dsumA
      simp only [View.readAt_eq_ld, Cert.Kit.read_writes_cons_overlay, View.writes_nil, hf1, hf4]
      rfl
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.InverseIdeal.Gen

end
-- ==== Proof.Inverse.Loop1.lean ====
/- The sweep of a block: trip `k` of the loop sweeps coordinate `k`. -/
module

public import proofs.«01_k».proof.Proof.Inverse.Runs
public import proofs.«01_k».proof.Proof.Overlay

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block after the sweeps of the coordinates before `n`. -/
def sweepN (i : grid0.Coords) (h2 : k0_cond2 i = 1#1) (D : Vec F S256x256 .f32) : ℕ → Vec F S256x256 .f32
  | 0 => D
  | n + 1 => if h : n < k0_t1_loop.trips then
      k0_pay28 ⟨n, h⟩ (sweepN i h2 D n) (View.ld (Val := Elt F) (e' := .f32) (sweepN i h2 D n) (Rect.unit (s := S256x256) (k0_off10 ⟨n, h⟩) S1x256.size (k0_off10_inb i ⟨n, h⟩ h2)))
    else sweepN i h2 D n

/-- The loop's invariant before trip `k`. -/
def loop1I (c : Dev nD) (i : grid0.Coords) (h2 : k0_cond2 i = 1#1) (arg5 : Memref sig .tc .vmem S256x256 .f32) (D : Vec F S256x256 .f32) (k : Nat) (_ : Unit) : sProp 𝕄 :=
  iprop(∃ f5 : arg5.view.ty.Contents (Elt F), ⌜arg5.view.read (Elt F) f5 = sweepN i h2 D k⌝ ∗ arg5.view.loc (c : Thread nD τ) ↦[arg5.view.set]{fullShare} f5)

set_option maxHeartbeats 1000000 in
/-- One trip keeps the invariant. -/
theorem loop1_step (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (arg0 : BitVec 32) (h2 : k0_cond2 i = 1#1) (D : Vec F S256x256 .f32) (k : Fin k0_t1_loop.trips) (acc : Unit) :
    loop1I c i h2 arg5 D k.val acc ⊢ wp frame (wpE (defs₀ (F := F)) Variants.none c none) E (k0_t1_body i arg1 harg1 arg2 harg2 arg3 harg3 arg4 harg4 arg5 harg5 arg6 harg6 arg7 harg7 arg0 h2 k acc)
      (loop1I c i h2 arg5 D (k.val + 1)) := by
  unfold loop1I k0_t1_body
  iintro ⟨%f5, %h5, H5⟩
  sl_exec
  sl_step
  have h0 : (![0, 0] : Fin 2 → Nat) = fun _ => 0 := by decide
  have e5 : ∀ X : Vec F S256x256 .f32, View.ld (Val := Elt F) (e' := .f32) X (Rect.unit (s := S256x256) ![0, 0] S256x256.size inb_S256x256_S256x256_0_0) = X := fun X => View.ld_unit_zero (S := S256x256) h0 _ X
  iexists _; isplitr; swap; · iexact H5
  ipureintro
  simp only [View.readAt_eq_ld, Cert.Kit.read_writes_cons_overlay, View.writes_nil, h5]
  rw [sweepN, dif_pos k.isLt]
  erw [overlay_whole h0, e5]

/-- The loop, run from its invariant at the first trip to its invariant after the last. -/
@[sl_loop, reducible] def loop1Inv (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (arg0 : BitVec 32) (h2 : k0_cond2 i = 1#1) (D : Vec F S256x256 .f32) :
    LoopInv (M := 𝕄) frame (wpE (defs₀ (F := F)) Variants.none c none) E k0_t1_loop.lb k0_t1_loop.ub k0_t1_loop.st (k0_t1_ok i h2) ⟨⟩
      (k0_t1_body (F := F) i arg1 harg1 arg2 harg2 arg3 harg3 arg4 harg4 arg5 harg5 arg6 harg6 arg7 harg7 arg0 h2) where
  inv := loop1I c i h2 arg5 D
  step := loop1_step c E i arg1 harg1 arg2 harg2 arg3 harg3 arg4 harg4 arg5 harg5 arg6 harg6 arg7 harg7 arg0 h2 D

end Cert.InverseIdeal.Gen

end
-- ==== Proof.Inverse.Loop2.lean ====
/- The panel of a block: trip `k` of the loop multiplies rows `256 k … 256 k + 255` of the block's columns by the inverse of the block. -/
module

public import proofs.«01_k».proof.Proof.Inverse.Runs
public import proofs.«01_k».proof.Proof.Overlay

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix after the trips before `n`. -/
def panelN (i : grid0.Coords) (h2 : k0_cond2 i = 1#1) (v48 : Vec F S256x256 .f32) (z : F .f32) (A : Vec F S2560x2560 .f32) : ℕ → Vec F S2560x2560 .f32
  | 0 => A
  | n + 1 => if h : n < k0_t2_loop.trips then
      (Rect.unit (s := S2560x2560) (k0_off12 i ⟨n, h⟩) S256x256.size (k0_off12_inb i ⟨n, h⟩ h2)).overlay (panelN i h2 v48 z A n)
        (k0_pay4 v48 z (View.ld (Val := Elt F) (e' := .f32) (panelN i h2 v48 z A n) (Rect.unit (s := S2560x2560) (k0_off12 i ⟨n, h⟩) S256x256.size (k0_off12_inb i ⟨n, h⟩ h2))))
    else panelN i h2 v48 z A n

/-- The panel's parts after the trips before `n`. -/
def wcatN (i : grid0.Coords) (h2 : k0_cond2 i = 1#1) (v48 : Vec F S256x256 .f32) (z : F .f32) (A : Vec F S2560x2560 .f32) (W : Vec F S2560x1536 .bf16) : ℕ → Vec F S2560x1536 .bf16
  | 0 => W
  | n + 1 => if h : n < k0_t2_loop.trips then
      (Rect.unit (s := S2560x1536) (k0_off13 ⟨n, h⟩) S256x1536.size (k0_off13_inb i ⟨n, h⟩ h2)).overlay (wcatN i h2 v48 z A W n)
        (k0_pay3 v48 z (View.ld (Val := Elt F) (e' := .f32) (panelN i h2 v48 z A n) (Rect.unit (s := S2560x2560) (k0_off12 i ⟨n, h⟩) S256x256.size (k0_off12_inb i ⟨n, h⟩ h2))))
    else wcatN i h2 v48 z A W n

/-- The loop's invariant before trip `k`. -/
def loop2I (c : Dev nD) (i : grid0.Coords) (h2 : k0_cond2 i = 1#1) (arg4 : Memref sig .tc .vmem S2560x2560 .f32) (arg6 : Memref sig .tc .vmem S2560x1536 .bf16) (v48 : Vec F S256x256 .f32) (z : F .f32) (A : Vec F S2560x2560 .f32) (W : Vec F S2560x1536 .bf16) (k : Nat) (_ : Unit) : sProp 𝕄 :=
  iprop((∃ f4 : arg4.view.ty.Contents (Elt F), ⌜arg4.view.read (Elt F) f4 = panelN i h2 v48 z A k⌝ ∗ arg4.view.loc (c : Thread nD τ) ↦[arg4.view.set]{fullShare} f4)
    ∗ (∃ f6 : arg6.view.ty.Contents (Elt F), ⌜arg6.view.read (Elt F) f6 = wcatN i h2 v48 z A W k⌝ ∗ arg6.view.loc (c : Thread nD τ) ↦[arg6.view.set]{fullShare} f6))

set_option maxHeartbeats 1000000 in
/-- One trip keeps the invariant. -/
theorem loop2_step (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (v48 : Vec F S256x256 .f32) (z : F .f32) (A : Vec F S2560x2560 .f32) (W : Vec F S2560x1536 .bf16) (k : Fin k0_t2_loop.trips) (acc : Unit) :
    loop2I c i h2 arg4 arg6 v48 z A W k.val acc ⊢ wp frame (wpE (defs₀ (F := F)) Variants.none c none) E (k0_t2_body i arg1 harg1 arg2 harg2 arg3 harg3 arg4 harg4 arg5 harg5 arg6 harg6 arg7 harg7 h2 v48 z k acc)
      (loop2I c i h2 arg4 arg6 v48 z A W (k.val + 1)) := by
  unfold loop2I k0_t2_body
  iintro ⟨⟨%f4, %h4, H4⟩, ⟨%f6, %h6, H6⟩⟩
  sl_exec
  sl_step
  isplitl [H4]
  · iexists _; isplitr; swap; · iexact H4
    ipureintro
    simp only [View.readAt_eq_ld, Cert.Kit.read_writes_cons_overlay, View.writes_nil, h4, h6]
    rw [panelN, dif_pos k.isLt]
  iexists _; isplitr; swap; · iexact H6
  ipureintro
  simp only [View.readAt_eq_ld, Cert.Kit.read_writes_cons_overlay, View.writes_nil, h4, h6]
  rw [wcatN, dif_pos k.isLt]

/-- The loop, run from its invariant at the first trip to its invariant after the last. -/
@[sl_loop, reducible] def loop2Inv (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (v48 : Vec F S256x256 .f32) (z : F .f32) (A : Vec F S2560x2560 .f32) (W : Vec F S2560x1536 .bf16) :
    LoopInv (M := 𝕄) frame (wpE (defs₀ (F := F)) Variants.none c none) E k0_t2_loop.lb k0_t2_loop.ub k0_t2_loop.st (k0_t2_ok i h2) ⟨⟩
      (k0_t2_body (F := F) i arg1 harg1 arg2 harg2 arg3 harg3 arg4 harg4 arg5 harg5 arg6 harg6 arg7 harg7 h2 v48 z) where
  inv := loop2I c i h2 arg4 arg6 v48 z A W
  step := loop2_step c E i arg1 harg1 arg2 harg2 arg3 harg3 arg4 harg4 arg5 harg5 arg6 harg6 arg7 harg7 h2 v48 z A W

end Cert.InverseIdeal.Gen

end
-- ==== Proof.Inverse.Loop3.lean ====
/- The trailing update: trip `k` of the loop subtracts from rows `256 k … 256 k + 255` of the matrix the product of the panel and the block's rows. -/
module

public import proofs.«01_k».proof.Proof.Inverse.Runs
public import proofs.«01_k».proof.Proof.Overlay

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix after the trips before `n`. -/
def trailN (i : grid0.Coords) (h2 : k0_cond2 i = 1#1) (W : Vec F S2560x1536 .bf16) (R : Vec F S1536x2560 .bf16) (A : Vec F S2560x2560 .f32) : ℕ → Vec F S2560x2560 .f32
  | 0 => A
  | n + 1 => if h : n < k0_t3_loop.trips then
      (Rect.unit (s := S2560x2560) (k0_off15 ⟨n, h⟩) S256x2560.size (k0_off15_inb i ⟨n, h⟩ h2)).overlay (trailN i h2 W R A n)
        (k0_pay6 (View.ld (Val := Elt F) (e' := .f32) (trailN i h2 W R A n) (Rect.unit (s := S2560x2560) (k0_off15 ⟨n, h⟩) S256x2560.size (k0_off15_inb i ⟨n, h⟩ h2)))
          (View.ld (Val := Elt F) (e' := .bf16) W (Rect.unit (s := S2560x1536) (k0_off16 ⟨n, h⟩) S256x1536.size (k0_off16_inb i ⟨n, h⟩ h2))) R)
    else trailN i h2 W R A n

/-- The loop's invariant before trip `k`. -/
def loop3I (c : Dev nD) (i : grid0.Coords) (h2 : k0_cond2 i = 1#1) (arg4 : Memref sig .tc .vmem S2560x2560 .f32) (arg6 : Memref sig .tc .vmem S2560x1536 .bf16) (arg7 : Memref sig .tc .vmem S1536x2560 .bf16) (f6 : arg6.view.ty.Contents (Elt F)) (f7 : arg7.view.ty.Contents (Elt F)) (A : Vec F S2560x2560 .f32) (k : Nat) (_ : Unit) : sProp 𝕄 :=
  iprop((arg6.view.loc (c : Thread nD τ) ↦[arg6.view.set]{fullShare} f6) ∗ (arg7.view.loc (c : Thread nD τ) ↦[arg7.view.set]{fullShare} f7)
    ∗ (∃ f4 : arg4.view.ty.Contents (Elt F), ⌜arg4.view.read (Elt F) f4 = trailN i h2 (arg6.view.read (Elt F) f6) (arg7.view.read (Elt F) f7) A k⌝ ∗ arg4.view.loc (c : Thread nD τ) ↦[arg4.view.set]{fullShare} f4))

set_option maxHeartbeats 1000000 in
/-- One trip keeps the invariant. -/
theorem loop3_step (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (f6 : arg6.view.ty.Contents (Elt F)) (f7 : arg7.view.ty.Contents (Elt F)) (A : Vec F S2560x2560 .f32) (k : Fin k0_t3_loop.trips) (acc : Unit) :
    loop3I c i h2 arg4 arg6 arg7 f6 f7 A k.val acc ⊢ wp frame (wpE (defs₀ (F := F)) Variants.none c none) E (k0_t3_body i arg1 harg1 arg2 harg2 arg3 harg3 arg4 harg4 arg5 harg5 arg6 harg6 arg7 harg7 h2 k acc)
      (loop3I c i h2 arg4 arg6 arg7 f6 f7 A (k.val + 1)) := by
  unfold loop3I k0_t3_body
  iintro ⟨H6, H7, ⟨%f4, %h4, H4⟩⟩
  sl_exec
  sl_step
  have h0 : (![0, 0] : Fin 2 → Nat) = fun _ => 0 := by decide
  have e7 : ∀ X : Vec F S1536x2560 .bf16, View.ld (Val := Elt F) (e' := .bf16) X (Rect.unit (s := S1536x2560) ![0, 0] S1536x2560.size inb_S1536x2560_S1536x2560_0_0) = X := fun X => View.ld_unit_zero (S := S1536x2560) h0 _ X
  isplitl [H6]; · iexact H6
  isplitl [H7]; · iexact H7
  iexists _; isplitr; swap; · iexact H4
  ipureintro
  simp only [View.readAt_eq_ld, Cert.Kit.read_writes_cons_overlay, View.writes_nil, h4]
  rw [trailN, dif_pos k.isLt]
  erw [e7]

/-- The loop, run from its invariant at the first trip to its invariant after the last. -/
@[sl_loop, reducible] def loop3Inv (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (f6 : arg6.view.ty.Contents (Elt F)) (f7 : arg7.view.ty.Contents (Elt F)) (A : Vec F S2560x2560 .f32) :
    LoopInv (M := 𝕄) frame (wpE (defs₀ (F := F)) Variants.none c none) E k0_t3_loop.lb k0_t3_loop.ub k0_t3_loop.st (k0_t3_ok i h2) ⟨⟩
      (k0_t3_body (F := F) i arg1 harg1 arg2 harg2 arg3 harg3 arg4 harg4 arg5 harg5 arg6 harg6 arg7 harg7 h2) where
  inv := loop3I c i h2 arg4 arg6 arg7 f6 f7 A
  step := loop3_step c E i arg1 harg1 arg2 harg2 arg3 harg3 arg4 harg4 arg5 harg5 arg6 harg6 arg7 harg7 h2 f6 f7 A

end Cert.InverseIdeal.Gen

end
-- ==== Proof.Inverse.RunB.lean ====
/- The kernel's body at a point that sweeps a block. -/
module

public import proofs.«01_k».proof.Proof.Inverse.Loop1
public import proofs.«01_k».proof.Proof.Inverse.Loop2
public import proofs.«01_k».proof.Proof.Inverse.Loop3

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block swept. -/
def blkB (i : grid0.Coords) (h2 : k0_cond2 i = 1#1) (d4 : Vec F S2560x2560 .f32) : Vec F S256x256 .f32 :=
  sweepN i h2 (k0_pay27 (View.ld (Val := Elt F) (e' := .f32) d4 (Rect.unit (s := S2560x2560) (k0_off9 i) S256x256.size (k0_off9_inb i h2)))) 256

/-- The matrix with the block set to zero. -/
def holeB (i : grid0.Coords) (h2 : k0_cond2 i = 1#1) (d4 : Vec F S2560x2560 .f32) : Vec F S2560x2560 .f32 :=
  (Rect.unit (s := S2560x2560) (k0_off9 i) S256x256.size (k0_off9_inb i h2)).overlay d4 (k0_pay29 (F := F))

/-- The parts of the block's rows. -/
def rcatB (i : grid0.Coords) (h2 : k0_cond2 i = 1#1) (d4 : Vec F S2560x2560 .f32) : FVec F S1536x2560 .bf16 :=
  k0_pay30 (View.ld (Val := Elt F) (e' := .f32) (holeB i h2 d4) (Rect.unit (s := S2560x2560) (k0_off11 i) S256x2560.size (k0_off11_inb i h2)))

/-- The matrix with the block's rows set to zero. -/
def gapB (i : grid0.Coords) (h2 : k0_cond2 i = 1#1) (d4 : Vec F S2560x2560 .f32) : Vec F S2560x2560 .f32 :=
  (Rect.unit (s := S2560x2560) (k0_off11 i) S256x2560.size (k0_off11_inb i h2)).overlay (holeB i h2 d4) (k0_pay31 (F := F))

/-- The parts of the panel, the block's own rows those of the swept block. -/
def wcatB (i : grid0.Coords) (h2 : k0_cond2 i = 1#1) (d4 : Vec F S2560x2560 .f32) (d6 : Vec F S2560x1536 .bf16) : Vec F S2560x1536 .bf16 :=
  (Rect.unit (s := S2560x1536) (k0_off14 i) S256x1536.size (k0_off14_inb i h2)).overlay
    (wcatN i h2 (blkB i h2 d4) (Scalar.ofBits .f32 0x00000000#32) (gapB i h2 d4) d6 10) (k0_pay5 (blkB i h2 d4))

/-- The matrix after the point. -/
def matB (i : grid0.Coords) (h2 : k0_cond2 i = 1#1) (d4 : Vec F S2560x2560 .f32) (d6 : Vec F S2560x1536 .bf16) : Vec F S2560x2560 .f32 :=
  (Rect.unit (s := S2560x2560) (k0_off9 i) S256x256.size (k0_off9_inb i h2)).overlay
    (trailN i h2 (wcatB i h2 d4 d6) (rcatB i h2 d4) (panelN i h2 (blkB i h2 d4) (Scalar.ofBits .f32 0x00000000#32) (gapB i h2 d4) 10) 10)
    (k0_pay7 (blkB i h2 d4))

/-- The block's first row. -/
def rowJ (i : grid0.Coords) : ℕ := k0_off9 i 0

instance closed9 (i : grid0.Coords) : ClosedOff (k0_off9 i) := ⟨![rowJ i, rowJ i], rfl⟩
instance closed11 (i : grid0.Coords) : ClosedOff (k0_off11 i) := ⟨![rowJ i, 0], rfl⟩

set_option maxHeartbeats 1000000 in
/-- The body at a point that sweeps: the block's coordinates are swept in the whole matrix. -/
theorem run_B (c : Dev nD) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h1 : ¬ k0_cond1 i = 1#1) (h2 : k0_cond2 i = 1#1) (h3 : ¬ k0_cond3 i = 1#1) (x0 : Vec F S6x128x2560 .bf16) (d2 : Vec F S128x128 .f32) (d3 : Vec F S128x7680 .bf16) (d4 : Vec F S2560x2560 .f32) (d5 : Vec F S256x256 .f32) (d6 : Vec F S2560x1536 .bf16) (d7 : Vec F S1536x2560 .bf16) :
      ∀ (E : Set ℕ) (K : PUnit → sProp 𝕄),
        iprop(owns (c : Thread nD τ) arg1 fullShare x0 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
            ∗ (iprop(owns (c : Thread nD τ) arg1 fullShare x0 ∗ owns (c : Thread nD τ) arg2 fullShare d2 ∗ owns (c : Thread nD τ) arg3 fullShare d3 ∗ owns (c : Thread nD τ) arg4 fullShare (matB i h2 d4 d6) ∗ owns (c : Thread nD τ) arg5 fullShare (blkB i h2 d4) ∗ owns (c : Thread nD τ) arg6 fullShare (wcatB i h2 d4 d6) ∗ owns (c : Thread nD τ) arg7 fullShare (rcatB i h2 d4)) -∗ K ⟨⟩))
          ⊢ wp frame (wpE (defs₀ (F := F)) Variants.none c none) E (cc0_gram_inverse i arg1 harg1 arg2 harg2 arg3 harg3 arg4 harg4 arg5 harg5 arg6 harg6 arg7 harg7) K := by
    intro E K
    simp only [cc0_gram_inverse_eq_skeleton]; unfold cc0_gram_inverse_skel
    simp only [k0_part4_eq_skeleton]; unfold k0_part4_skel
    simp only [bind_assoc, pure_bind]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2 | sl_exact h3)
    sl_step
    have h0 : (![0, 0] : Fin 2 → Nat) = fun _ => 0 := by decide
    have e5 : ∀ X : Vec F S256x256 .f32, View.ld (Val := Elt F) (e' := .f32) X (Rect.unit (s := S256x256) ![0, 0] S256x256.size inb_S256x256_S256x256_0_0) = X := fun X => View.ld_unit_zero (S := S256x256) h0 _ X
    rw [show Scf.trips k0_t1_loop.lb k0_t1_loop.ub k0_t1_loop.st = 256 from by decide +kernel] at hL0
    rw [show Scf.trips k0_t2_loop.lb k0_t2_loop.ub k0_t2_loop.st = 10 from by decide +kernel] at hL2 hL4
    rw [show Scf.trips k0_t3_loop.lb k0_t3_loop.ub k0_t3_loop.st = 10 from by decide +kernel] at hL8
    have hB : View.read (Elt F) arg5.view f5L0 = blkB i h2 d4 := by
      refine hL0.trans ?_
      change sweepN i h2 (View.read (Elt F) arg5.view (arg5.view.writes (Elt F) arg5.view.junk (run_B.sl.H5_1 c i arg4 harg4 h2 d4))) 256 = _
      unfold run_B.sl.H5_1 run_B.sl.x blkB
      simp only [View.readAt_eq_ld, Cert.Kit.read_writes_cons_overlay, View.writes_nil, hf4]
      rw [overlay_whole h0]
    have hG : View.read (Elt F) arg4.view (arg4.view.writes (Elt F) (harg4.unread d4) (⟨Rect.unit (s := S2560x2560) (k0_off11 i) S256x2560.size (k0_off11_inb i h2), k0_pay31⟩ :: run_B.sl.H4_1 i h2)) = gapB i h2 d4 := by
      unfold run_B.sl.H4_1 gapB holeB
      simp only [Cert.Kit.read_writes_cons_overlay, View.writes_nil, hf4]
    have hb5 : View.readAt (Elt F) arg5.view (Rect.unit (s := S256x256) ![0, 0] S256x256.size inb_S256x256_S256x256_0_0).toLoadRect f5L0 = blkB i h2 d4 := by
      rw [View.readAt_eq_ld, hB]; exact e5 _
    have hP : View.read (Elt F) arg4.view f4L1 = panelN i h2 (blkB i h2 d4) (Scalar.ofBits .f32 0x00000000#32) (gapB i h2 d4) 10 := by
      refine hL2.trans ?_
      change panelN i h2 _ _ (View.read (Elt F) arg4.view (arg4.view.writes (Elt F) (harg4.unread d4) (⟨Rect.unit (s := S2560x2560) (k0_off11 i) S256x2560.size (k0_off11_inb i h2), k0_pay31⟩ :: run_B.sl.H4_1 i h2))) 10 = _
      rw [hG]
      exact congrArg (fun D => panelN i h2 D (Scalar.ofBits .f32 0x00000000#32) (gapB i h2 d4) 10) hb5
    have hW : View.read (Elt F) arg6.view f6L2 = wcatN i h2 (blkB i h2 d4) (Scalar.ofBits .f32 0x00000000#32) (gapB i h2 d4) d6 10 := by
      refine hL4.trans ?_
      change wcatN i h2 _ _ (View.read (Elt F) arg4.view (arg4.view.writes (Elt F) (harg4.unread d4) (⟨Rect.unit (s := S2560x2560) (k0_off11 i) S256x2560.size (k0_off11_inb i h2), k0_pay31⟩ :: run_B.sl.H4_1 i h2))) (View.read (Elt F) arg6.view (harg6.unread d6)) 10 = _
      rw [hG, hf6]
      exact congrArg (fun D => wcatN i h2 D (Scalar.ofBits .f32 0x00000000#32) (gapB i h2 d4) d6 10) hb5
    have hWB : View.read (Elt F) arg6.view (arg6.view.writes (Elt F) f6L2 [⟨Rect.unit (s := S2560x1536) (k0_off14 i) S256x1536.size (k0_off14_inb i h2), k0_pay5 (View.readAt (Elt F) arg5.view (Rect.unit (s := S256x256) ![0, 0] S256x256.size inb_S256x256_S256x256_0_0).toLoadRect f5L0)⟩]) = wcatB i h2 d4 d6 := by
      rw [hb5, Cert.Kit.read_writes_cons_overlay, View.writes_nil, hW]
      rfl
    have hRB : View.read (Elt F) arg7.view (arg7.view.writes (Elt F) arg7.view.junk (run_B.sl.H7_1 c i arg4 harg4 h2 d4)) = rcatB i h2 d4 := by
      unfold run_B.sl.H7_1 run_B.sl.x_1 rcatB holeB
      unfold run_B.sl.H4_1
      simp only [View.readAt_eq_ld, Cert.Kit.read_writes_cons_overlay, View.writes_nil, hf4]
      rw [overlay_whole h0]
    have hT : View.read (Elt F) arg4.view f4L3 = trailN i h2 (wcatB i h2 d4 d6) (rcatB i h2 d4) (panelN i h2 (blkB i h2 d4) (Scalar.ofBits .f32 0x00000000#32) (gapB i h2 d4) 10) 10 := by
      refine hL8.trans ?_
      refine Eq.trans (congrArg (fun W => trailN i h2 W _ _ _) hWB) ?_
      rw [hRB]
      exact congrArg (fun A => trailN i h2 (wcatB i h2 d4 d6) (rcatB i h2 d4) A 10) hP
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      refine Eq.trans (congrArg (fun D => View.read (Elt F) arg4.view (arg4.view.writes (Elt F) f4L3 [⟨Rect.unit (s := S2560x2560) (k0_off9 i) S256x256.size (k0_off9_inb i h2), k0_pay7 D⟩])) hb5) ?_
      rw [Cert.Kit.read_writes_cons_overlay, View.writes_nil, hT]
      rfl
    isplitl [H5]
    · iexists _; isplitr; swap; · iexact H5
      ipureintro
      exact hB
    isplitl [H6]
    · iexists _; isplitr; swap; · iexact H6
      ipureintro
      exact hWB
    iexists _; isplitr; swap; · iexact H7
    ipureintro
    exact hRB

end Cert.InverseIdeal.Gen

end
-- ==== Proof.Inverse.RunC.lean ====
/- The kernel's body at a point that writes out rows of the inverse. -/
module

public import proofs.«01_k».proof.Proof.Inverse.Runs
public import proofs.«01_k».proof.Proof.Overlay

@[expose] public section

-- membership in a rectangle of production extents (`View.cover_of_tiled`): the elaborator's structural look
-- recurses once per coordinate of the long axes
set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block: the three parts of the negated rows of the matrix. -/
def partsC (i : grid0.Coords) (h3 : k0_cond3 i = 1#1) (d3 : Vec F S128x7680 .bf16) (d4 : Vec F S2560x2560 .f32) : Vec F S128x7680 .bf16 :=
  (Rect.unit (s := S128x7680) ![0, 5120] S128x2560.size inb_S128x7680_S128x2560_0_5120).overlay
    ((Rect.unit (s := S128x7680) ![0, 2560] S128x2560.size inb_S128x7680_S128x2560_0_2560).overlay
      ((Rect.unit (s := S128x7680) ![0, 0] S128x2560.size inb_S128x7680_S128x2560_0_0).overlay d3
        (k0_pay9 (View.ld (Val := Elt F) (e' := .f32) d4 (Rect.unit (s := S2560x2560) (k0_off17 i) S128x2560.size (k0_off17_inb i h3)))))
      (k0_pay11 (View.ld (Val := Elt F) (e' := .f32) d4 (Rect.unit (s := S2560x2560) (k0_off17 i) S128x2560.size (k0_off17_inb i h3)))))
    (k0_pay12 (View.ld (Val := Elt F) (e' := .f32) d4 (Rect.unit (s := S2560x2560) (k0_off17 i) S128x2560.size (k0_off17_inb i h3))))

set_option maxHeartbeats 1000000 in
/-- The body at a point that writes out: the rows of the matrix are negated and split into the output block. -/
theorem run_C (c : Dev nD) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h1 : ¬ k0_cond1 i = 1#1) (h2 : ¬ k0_cond2 i = 1#1) (h3 : k0_cond3 i = 1#1) (x0 : Vec F S6x128x2560 .bf16) (d2 : Vec F S128x128 .f32) (d3 : Vec F S128x7680 .bf16) (d4 : Vec F S2560x2560 .f32) (d5 : Vec F S256x256 .f32) (d6 : Vec F S2560x1536 .bf16) (d7 : Vec F S1536x2560 .bf16) :
      ∀ (E : Set ℕ) (K : PUnit → sProp 𝕄),
        iprop(owns (c : Thread nD τ) arg1 fullShare x0 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
            ∗ (iprop(owns (c : Thread nD τ) arg1 fullShare x0 ∗ owns (c : Thread nD τ) arg2 fullShare d2 ∗ owns (c : Thread nD τ) arg3 fullShare (partsC i h3 d3 d4) ∗ owns (c : Thread nD τ) arg4 fullShare d4 ∗ owns (c : Thread nD τ) arg5 fullShare d5 ∗ owns (c : Thread nD τ) arg6 fullShare d6 ∗ owns (c : Thread nD τ) arg7 fullShare d7) -∗ K ⟨⟩))
          ⊢ wp frame (wpE (defs₀ (F := F)) Variants.none c none) E (cc0_gram_inverse i arg1 harg1 arg2 harg2 arg3 harg3 arg4 harg4 arg5 harg5 arg6 harg6 arg7 harg7) K := by
    intro E K
    simp only [cc0_gram_inverse_eq_skeleton]; unfold cc0_gram_inverse_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro
      simp only [View.readAt_eq_ld, Cert.Kit.read_writes_cons_overlay, View.writes_nil, hf3, hf4]
      rfl
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.InverseIdeal.Gen

end
-- ==== Proof.Inverse.Data.lean ====
/- The run of the call from a triple of invariants: `P n` holds of the matrix when `n` points have run, `R1 t` of the block of
   diagonals and `R2 t` of the block of parts when point `t` has. What a point does to them (`Steps`) is pure; this module turns
   it into the run. -/
module

public import proofs.«01_k».proof.Proof.Inverse.RunA
public import proofs.«01_k».proof.Proof.Inverse.RunB
public import proofs.«01_k».proof.Proof.Inverse.RunC
public import Idealize.ShloMosaic.Lib.Pipeline.ArrRel

@[expose] public section

set_option maxRecDepth 16384

noncomputable section

namespace Cert.InverseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point of the grid does to the invariants. -/
structure Steps (c : Dev nD) (P : ℕ → Vec F S2560x2560 .f32 → Prop) (R1 : Fin cfg0.N → Vec F S128x128 .f32 → Prop) (R2 : Fin cfg0.N → Vec F S128x7680 .bf16 → Prop) : Prop where
  zero : ∀ X, P 0 X
  read : ∀ (t : Fin cfg0.N) (h1 : k0_cond1 (grid0.coords t) = 1#1), t.val < 20 → ∀ d4, P t.val d4 →
    P (t.val + 1) (matA (grid0.coords t) h1 (iblk m c 0 t) d4) ∧ R1 t (diagA (grid0.coords t) h1 (iblk m c 0 t))
  sweep : ∀ (t : Fin cfg0.N) (h2 : k0_cond2 (grid0.coords t) = 1#1), 20 ≤ t.val → t.val < 30 → ∀ d4 d6, P t.val d4 →
    P (t.val + 1) (matB (grid0.coords t) h2 d4 d6)
  out : ∀ (t : Fin cfg0.N) (h3 : k0_cond3 (grid0.coords t) = 1#1), 30 ≤ t.val → ∀ d3 d4, P t.val d4 →
    P (t.val + 1) d4 ∧ R2 t (partsC (grid0.coords t) h3 d3 d4)
  keep : ∀ (t u : Fin cfg0.N), 20 ≤ t.val → u.val = t.val - 1 → ∀ X, R1 u X → R1 t X
  before : ∀ (t : Fin cfg0.N), t.val < 30 → ∀ X, R2 t X

/-- The windows held to a predicate: the two outputs. -/
def forgets0 : Fin 3 → Bool := fun w => w.val == 1 || w.val == 2

/-- The proof data: the arrays as the region finds them, the input's buffer at its block, the matrix held to `P`. -/
def dats (P : (c : Dev nD) → ℕ → Vec F S2560x2560 .f32 → Prop) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ n := iprop(((∃ d, ⌜P c n.val d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))
  q w := Pipeline.shareOf spec0 w
  owed _ := 0

variable (P : (c : Dev nD) → ℕ → Vec F S2560x2560 .f32 → Prop) (R1 : (c : Dev nD) → Fin cfg0.N → Vec F S128x128 .f32 → Prop) (R2 : (c : Dev nD) → Fin cfg0.N → Vec F S128x7680 .bf16 → Prop)

/-- The predicate on each window's buffer. -/
def relW (c : Dev nD) : (w : Fin cfg0.W) → Fin cfg0.N → ((cfg0.win w).block.Idx → Elt F (cfg0.win w).elt) → Prop
  | ⟨0, _⟩ => fun _ _ => True
  | ⟨1, _⟩ => fun t X => R1 c t X
  | ⟨2, _⟩ => fun t X => R2 c t X

/-- The proof data's arrays are the region-entry contents. -/
theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem before0_0 (c : Dev nD) (t : Fin cfg0.N) (d) : (dats m P 0 c).before 0 t d = iblk m c 0 t :=
  before0_0_of m (dats m P 0 c) (A_eq m P c 0) (after0_0 m P c) t d

/-- The relational proof data of the call. -/
abbrev rdats (c : Dev nD) : Pipeline.RDat τ (Elt F) Unit ℕ (UR sig nD τ) ℕ cfg0 c := (dats m P 0 c).toRRel forgets0 (relW R1 R2 c)

/-- Every array is held whole. -/
theorem hshare (c : Dev nD) : ∀ w, (rdats m P R1 R2 c).share w = fullShare := by
  intro w; fin_cases w <;> rfl

/-- From point 20 on the block of diagonals is not written back before the last point, and never fetched. -/
theorem flush1 : ∀ t : Fin cfg0.N, 20 ≤ t.val → (cfg0.win 1).flush ⟨t.val - 1, Nat.lt_of_le_of_lt (Nat.sub_le _ _) t.isLt⟩ = false := by decide +kernel
theorem fetch1 : ∀ t : Fin cfg0.N, (cfg0.win 1).fetch t = false := by decide +kernel

/-- From point 20 on the buffer of diagonals holds what the point before left. -/
theorem finds1 (c : Dev nD) (t : Fin cfg0.N) (ht : 20 ≤ t.val) (X : Vec F S128x128 .f32) (h : (rdats m P R1 R2 c).Finds 1 t X) :
    R1 c ⟨t.val - 1, Nat.lt_of_le_of_lt (Nat.sub_le _ _) t.isLt⟩ X := by
  rcases (Pipeline.RDat.finds_of_pos (rdats m P R1 R2 c) (fetch1 t) (by omega) X).mp h with h | h
  · rw [flush1 t ht] at h; exact absurd h Bool.false_ne_true
  · exact Dat.toRRel_leaves (dats m P 0 c) (fgt := forgets0) (Rl := relW R1 R2 c) (w := 1) rfl h

/-- What the body is called with at point `t`, the windows one by one, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ Y, ⌜(rdats m P R1 R2 c).Finds 1 t Y⌝ ∗ owns (c : Thread nD τ) (ms0_1 t) fullShare Y)
    ∗ (∃ Y, ⌜(rdats m P R1 R2 c).Finds 2 t Y⌝ ∗ owns (c : Thread nD τ) (ms0_2 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ (∃ X, ⌜R1 c t X⌝ ∗ owns (c : Thread nD τ) (ms0_1 t) fullShare X)
    ∗ (∃ X, ⌜R2 c t X⌝ ∗ owns (c : Thread nD τ) (ms0_2 t) fullShare X))

variable (hS : ∀ c, Steps m c (P c) (R1 c) (R2 c))
include hS

set_option maxHeartbeats 2400000 in
/-- The body at any point keeps the invariants. -/
theorem sound_body (c : Dev nD) (t : Fin cfg0.N) :
    bodyPre m P R1 R2 c t ⊢ wp frame (wpE (defs₀ (F := F)) Variants.none c none) Set.univ (bodyAt0 t) (fun _ => bodyPost m P R1 R2 c t) := by
  unfold bodyPre bodyPost bodyAt0
  simp only [before0_0, after0_0]
  rw [show (dats m P 0 c).owesAt () t.succ = (dats m P 0 c).owesAt () t.castSucc from rfl]
  rw [show (dats m P 0 c).Φ t.castSucc = iprop(((∃ d, ⌜P c t.val d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) from rfl,
    show (dats m P 0 c).Φ t.succ = iprop(((∃ d, ⌜P c (t.val + 1) d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) from rfl]
  iintro ⟨⟨⟨⟨%d4, %hP, HS0⟩, ⟨%d5, HS1⟩, ⟨%d6, HS2⟩, ⟨%d7, HS3⟩⟩, Hg⟩, Ho, ⟨%d0, H0⟩, ⟨%d2, %hF, H1⟩, ⟨%d3, %hF2, H2⟩⟩
  by_cases t20 : t.val < 20
  · have h1 := (hcond1 t).mpr t20
    have n2 : ¬ k0_cond2 (grid0.coords t) = 1#1 := fun h => absurd ((hcond2 t).mp h) (by omega)
    have n3 : ¬ k0_cond3 (grid0.coords t) = 1#1 := fun h => absurd ((hcond3 t).mp h) (by omega)
    have hst := (hS c).read t h1 t20 d4 hP
    iapply (run_A c (grid0.coords t) _ _ _ _ _ _ _ _ _ _ _ _ _ _ h1 n2 n3 (iblk m c 0 t) d2 d3 d4 d5 d6 d7 Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iintro ⟨H0, H1, H2, HS0, HS1, HS2, HS3⟩
    isplitl [HS0 HS1 HS2 HS3 Hg]
    · isplitl [HS0 HS1 HS2 HS3]
      · isplitl [HS0]
        · iexists _; isplitr; · ipureintro; exact hst.1
          iexact HS0
        isplitl [HS1]; · iexists _; iexact HS1
        isplitl [HS2]; · iexists _; iexact HS2
        iexists _; iexact HS3
      iexact Hg
    isplitl [Ho]; · iexact Ho
    isplitl [H0]; · iexact H0
    isplitl [H1]
    · iexists _; isplitr; swap; · iexact H1
      ipureintro; exact hst.2
    iexists _; isplitr; swap; · iexact H2
    ipureintro; exact ((hS c).before t (by omega) _)
  · by_cases t30 : t.val < 30
    · have h2 := (hcond2 t).mpr ⟨by omega, t30⟩
      have n1 : ¬ k0_cond1 (grid0.coords t) = 1#1 := fun h => absurd ((hcond1 t).mp h) (by omega)
      have n3 : ¬ k0_cond3 (grid0.coords t) = 1#1 := fun h => absurd ((hcond3 t).mp h) (by omega)
      have hst := (hS c).sweep t h2 (by omega) t30 d4 d6 hP
      iapply (run_B c (grid0.coords t) _ _ _ _ _ _ _ _ _ _ _ _ _ _ n1 h2 n3 (iblk m c 0 t) d2 d3 d4 d5 d6 d7 Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]
          · iexists _; isplitr; · ipureintro; exact hst
            iexact HS0
          isplitl [HS1]; · iexists _; iexact HS1
          isplitl [HS2]; · iexists _; iexact HS2
          iexists _; iexact HS3
        iexact Hg
      isplitl [Ho]; · iexact Ho
      isplitl [H0]; · iexact H0
      isplitl [H1]
      · iexists _; isplitr; swap; · iexact H1
        ipureintro; exact ((hS c).keep t _ (by omega) rfl _ (finds1 m P R1 R2 c t (by omega) d2 hF))
      iexists _; isplitr; swap; · iexact H2
      ipureintro; exact ((hS c).before t (by omega) _)
    · have h3 := (hcond3 t).mpr (by omega)
      have n1 : ¬ k0_cond1 (grid0.coords t) = 1#1 := fun h => absurd ((hcond1 t).mp h) (by omega)
      have n2 : ¬ k0_cond2 (grid0.coords t) = 1#1 := fun h => absurd ((hcond2 t).mp h) (by omega)
      have hst := (hS c).out t h3 (by omega) d3 d4 hP
      iapply (run_C c (grid0.coords t) _ _ _ _ _ _ _ _ _ _ _ _ _ _ n1 n2 h3 (iblk m c 0 t) d2 d3 d4 d5 d6 d7 Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]
          · iexists _; isplitr; · ipureintro; exact hst.1
            iexact HS0
          isplitl [HS1]; · iexists _; iexact HS1
          isplitl [HS2]; · iexists _; iexact HS2
          iexists _; iexact HS3
        iexact Hg
      isplitl [Ho]; · iexact Ho
      isplitl [H0]; · iexact H0
      isplitl [H1]
      · iexists _; isplitr; swap; · iexact H1
        ipureintro; exact ((hS c).keep t _ (by omega) rfl _ (finds1 m P R1 R2 c t (by omega) d2 hF))
      iexists _; isplitr; swap; · iexact H2
      ipureintro; exact hst.2

omit hS in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m P 0 c) (defs₀ (F := F)) Variants.none () Set.univ forgets0 (relW R1 R2 c) := fun t => by
  rw [bigSep_W0, bigSep_W0, defs₀_row]
  exact triple_restated (sound_body m P R1 R2 hS c t) rfl .rfl fun _ => .rfl

omit hS in
/-- The region is entered with the scratch at any contents: `P 0` holds of them all. -/
theorem Phi_in (h0 : ∀ c X, P c 0 X) (c : Dev nD) : (Pipeline.ΦA spec0 c : sProp 𝕄) ⊢ (dats m P 0 c).Φ 0 := by
  rw [PhiA0_eq]
  show _ ⊢ iprop(((∃ d, ⌜P c 0 d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))
  iintro ⟨⟨⟨%d, H⟩, Hs⟩, Hg⟩
  isplitl [H Hs]
  · isplitl [H]
    · iexists d; isplitr; · ipureintro; exact h0 c d
      iexact H
    iexact Hs
  iexact Hg

omit hS in
/-- The region is left with the scratch at some contents. -/
theorem Phi_out (c : Dev nD) : (dats m P 0 c).Φ (Fin.last cfg0.N) ⊢ (Pipeline.ΦA spec0 c : sProp 𝕄) := by
  rw [PhiA0_eq]
  show iprop(((∃ d, ⌜P c _ d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ⊢ _
  iintro ⟨⟨⟨%d, %hd, H⟩, Hs⟩, Hg⟩
  isplitl [H Hs]
  · isplitl [H]
    · iexists d; iexact H
    iexact Hs
  iexact Hg

set_option backward.isDefEq.respectTransparency.types false in
/-- The launch: every fair execution ends, at arrays the relational proof data allow, with every counter at zero. -/
theorem run_main_quiescent : θ_run defs (onTc (τ := τ) (main (F := F))) (s₀ m ρ) (fun r => (Pipeline.RDat.FramePost (cfgs 0) (rdats m P R1 R2) (V m)) r ∧ r.2.sem = fun _ => 0) :=
  Pipeline.RDat.θ_run_frame_track (Q' := _) cfgs (0 : Fin 1) launch0 defs₀ Variants.none (rdats m P R1 R2) m ρ main
    (hbody := fun c => (body_obligation m P R1 R2 hS c).toRRel) (hshare := hshare m P R1 R2)
    (howed := fun _ _ => rfl) (V := V m) (hmain := hmain m Variants.none) (hA := A_eq m P) (hin := Phi_in m P fun c X => (hS c).zero X) (hout := Phi_out m P)
    (hQ' := fun _ h => h)

/-- What a final state holds: at each flushing point some contents that meet the predicates, and the result arrays as those
    contents written back; the arguments as launched; every counter at zero. -/
theorem run_main : θ_run defs (onTc (τ := τ) (main (F := F))) ⟨m, fun _ => 0, ρ⟩ (fun r => ((∀ c : Dev nD,
      (∃ after : (w' : Fin cfg0.W) → Fin cfg0.N → (cfg0.win w').block.Idx → Elt F (cfg0.win w').elt,
        (∀ u : Fin cfg0.N, (cfg0.win 1).flush u = true → R1 c u (after 1 u))
          ∧ (∀ u : Fin cfg0.N, (cfg0.win 2).flush u = true → R2 c u (after 2 u))
          ∧ r.2.mem ((cfg0.spec 1).arr.view.loc (c.tc : Thread nD τ)) = ((rdats m P R1 R2 c).withAfter after).arrAt 1 cfg0.N
          ∧ r.2.mem ((cfg0.spec 2).arr.view.loc (c.tc : Thread nD τ)) = ((rdats m P R1 R2 c).withAfter after).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)))
      ∧ r.2.sem = fun _ => 0) := by
  refine (θ_run defs _ _).mono (fun r h => ⟨fun c => ⟨?_, ?_⟩, h.2⟩) (run_main_quiescent m ρ P R1 R2 hS)
  · haveI : ∀ e, Nonempty (Elt F e) := fun e => inferInstance
    obtain ⟨after, hL, hA⟩ := Pipeline.RDat.FramePost.exists_exact h.1 c
    exact ⟨after, fun u hu => Dat.toRRel_leaves (dats m P 0 c) (fgt := forgets0) (Rl := relW R1 R2 c) (w := 1) rfl (hL 1 u hu),
      fun u hu => Dat.toRRel_leaves (dats m P 0 c) (fgt := forgets0) (Rl := relW R1 R2 c) (w := 2) rfl (hL 2 u hu), hA 1, hA 2⟩
  · have h := h.1
    exact ⟨(Pipeline.RDat.FramePost.arr_in h c 0 rfl).trans (V_main_arg0 m c),
      ((h c).2 main_arg1 (Pipeline.mem_restRefs_of main_arg1 (by decide) (by decide))).trans (V_main_arg1 m c)⟩

end Cert.InverseIdeal.Gen

end
-- ==== Proof.Inverse.Sweep.lean ====
/- The sweep of a real matrix, coordinate by coordinate, as exchange of an argument's coordinate with the value's. Where a factor
   `L` with `L A Lᵀ = 1` exists no pivot is zero, and the matrix swept in every coordinate is `-Lᵀ L`. -/
module

public import Mathlib.LinearAlgebra.Matrix.NonsingularInverse
public import Mathlib.Analysis.RCLike.Basic
public import Mathlib.Data.Matrix.Mul

@[expose] public section

noncomputable section

namespace Cert.Sweep

variable {n : ℕ}

/-- The value of the matrix at an argument. -/
def act (M : Fin n → Fin n → ℝ) (x : Fin n → ℝ) (r : Fin n) : ℝ := ∑ c, M r c * x c

/-- The matrix swept in coordinate `k`. -/
def sw (k : Fin n) (M : Fin n → Fin n → ℝ) (r c : Fin n) : ℝ :=
  if c = k then (if r = k then -(M k k)⁻¹ else M r k * (M k k)⁻¹)
  else if r = k then M k c * (M k k)⁻¹ else M r c - M r k * (M k c * (M k k)⁻¹)

/-- The sweep exchanges coordinate `k` of the argument with the value's, negated. -/
theorem sw_act (k : Fin n) (M : Fin n → Fin n → ℝ) (h : M k k ≠ 0) (x : Fin n → ℝ) :
    act (sw k M) (Function.update x k (act M x k)) = Function.update (act M x) k (-x k) := by
  have split : ∀ (f : Fin n → ℝ), ∑ c, f c = f k + ∑ c ∈ Finset.univ.erase k, f c := fun f =>
    (Finset.add_sum_erase _ f (Finset.mem_univ k)).symm
  have hk : act M x k = M k k * x k + ∑ c ∈ Finset.univ.erase k, M k c * x c := split _
  funext r
  unfold act
  rw [split]
  by_cases hr : r = k
  · subst hr
    have e : ∀ c ∈ Finset.univ.erase r, sw r M r c * Function.update x r (∑ c, M r c * x c) c = (M r r)⁻¹ * (M r c * x c) := fun c hc => by
      have hc' := Finset.ne_of_mem_erase hc
      rw [Function.update_of_ne hc', sw, if_neg hc', if_pos rfl]; ring
    rw [Finset.sum_congr rfl e, ← Finset.mul_sum, Function.update_self, Function.update_self, sw, if_pos rfl, if_pos rfl]
    unfold act at hk
    rw [hk]; field_simp; ring
  · have e : ∀ c ∈ Finset.univ.erase k, sw k M r c * Function.update x k (∑ c, M k c * x c) c = M r c * x c - M r k * (M k k)⁻¹ * (M k c * x c) := fun c hc => by
      have hc' := Finset.ne_of_mem_erase hc
      rw [Function.update_of_ne hc', sw, if_neg hc', if_neg hr]; ring
    rw [Finset.sum_congr rfl e, Finset.sum_sub_distrib, ← Finset.mul_sum, Function.update_self, Function.update_of_ne hr, sw, if_pos rfl, if_neg hr,
      split (fun c => M r c * x c)]
    unfold act at hk
    rw [hk]; field_simp; ring

/-- The matrix swept in the coordinates before `k`. -/
def it (A : Fin n → Fin n → ℝ) : ℕ → Fin n → Fin n → ℝ
  | 0 => A
  | k + 1 => if h : k < n then sw ⟨k, h⟩ (it A k) else it A k

/-- The argument after the exchange of the coordinates before `k`, -/
def arg (A : Fin n → Fin n → ℝ) (x : Fin n → ℝ) (k : ℕ) (j : Fin n) : ℝ := if j.val < k then act A x j else x j
/-- and the value. -/
def val (A : Fin n → Fin n → ℝ) (x : Fin n → ℝ) (k : ℕ) (j : Fin n) : ℝ := if j.val < k then -x j else act A x j

/-- No pivot before `k` is zero. -/
def Piv (A : Fin n → Fin n → ℝ) (k : ℕ) : Prop := ∀ j : Fin n, j.val < k → it A j.val j j ≠ 0

theorem it_act (A : Fin n → Fin n → ℝ) (x : Fin n → ℝ) : ∀ k, k ≤ n → Piv A k → act (it A k) (arg A x k) = val A x k
  | 0, _, _ => by
    have e1 : arg A x 0 = x := by funext j; simp [arg]
    have e2 : val A x 0 = act A x := by funext j; simp [val]
    rw [e1, e2]; rfl
  | k + 1, hk, hp => by
    have ih := it_act A x k (by omega) (fun j hj => hp j (by omega))
    have hkn : k < n := by omega
    rw [it, dif_pos hkn]
    have hpk := hp ⟨k, hkn⟩ (Nat.lt_succ_self k)
    have h := sw_act ⟨k, hkn⟩ (it A k) hpk (arg A x k)
    rw [ih] at h
    have e1 : Function.update (arg A x k) ⟨k, hkn⟩ (val A x k ⟨k, hkn⟩) = arg A x (k + 1) := by
      funext j
      by_cases hj : j = ⟨k, hkn⟩
      · subst hj; simp [arg, val]
      · have : j.val ≠ k := fun e => hj (Fin.ext e)
        rw [Function.update_of_ne hj]; unfold arg
        by_cases h1 : j.val < k
        · rw [if_pos h1, if_pos (by omega)]
        · rw [if_neg h1, if_neg (by omega)]
    have e2 : Function.update (val A x k) ⟨k, hkn⟩ (-arg A x k ⟨k, hkn⟩) = val A x (k + 1) := by
      funext j
      by_cases hj : j = ⟨k, hkn⟩
      · subst hj; simp [arg, val]
      · have : j.val ≠ k := fun e => hj (Fin.ext e)
        rw [Function.update_of_ne hj]; unfold val
        by_cases h1 : j.val < k
        · rw [if_pos h1, if_pos (by omega)]
        · rw [if_neg h1, if_neg (by omega)]
    rw [← e1, ← e2]; exact h

/-- Every argument is one after the exchange. -/
theorem arg_surj (A : Fin n → Fin n → ℝ) : ∀ k, k ≤ n → Piv A k → ∀ x' : Fin n → ℝ, ∃ x, arg A x k = x'
  | 0, _, _, x' => ⟨x', by funext j; simp [arg]⟩
  | k + 1, hk, hp, x' => by
    have hkn : k < n := by omega
    have hp' : Piv A k := fun j hj => hp j (by omega)
    have hpk := hp ⟨k, hkn⟩ (Nat.lt_succ_self k)
    set M := it A k with hM
    set kk : Fin n := ⟨k, hkn⟩ with hkk
    have hpk : M kk kk ≠ 0 := hpk
    obtain ⟨x, hx⟩ := arg_surj A k (by omega) hp' (Function.update x' kk ((x' kk - ∑ c ∈ Finset.univ.erase kk, M kk c * x' c) * (M kk kk)⁻¹))
    refine ⟨x, ?_⟩
    have h := congrFun (it_act A x k (by omega) hp') kk
    rw [hx] at h
    have hv : val A x k kk = act A x kk := by simp [val, hkk]
    have hl : act M (Function.update x' kk ((x' kk - ∑ c ∈ Finset.univ.erase kk, M kk c * x' c) * (M kk kk)⁻¹)) kk = x' kk := by
      unfold act
      generalize hq : (x' kk - ∑ c ∈ Finset.univ.erase kk, M kk c * x' c) * (M kk kk)⁻¹ = q
      have hs : ∑ c ∈ Finset.univ.erase kk, M kk c * Function.update x' kk q c = ∑ c ∈ Finset.univ.erase kk, M kk c * x' c :=
        Finset.sum_congr rfl fun c hc => by rw [Function.update_of_ne (Finset.ne_of_mem_erase hc)]
      rw [← Finset.add_sum_erase _ _ (Finset.mem_univ kk), Function.update_self, hs, ← hq]
      field_simp; ring
    have hk' : act A x kk = x' kk := by rw [← hv, ← h]; exact hl
    funext j
    by_cases hj : j = kk
    · subst hj; rw [arg, if_pos (Nat.lt_succ_self k)]; exact hk'
    · have hne : j.val ≠ k := fun e => hj (Fin.ext e)
      have hxj := congrFun hx j
      rw [Function.update_of_ne hj] at hxj
      rw [← hxj]; unfold arg
      by_cases h1 : j.val < k
      · rw [if_pos h1, if_pos (by omega)]
      · rw [if_neg h1, if_neg (by omega)]

/-- Where the form vanishes at the zero argument only, no pivot is zero. -/
theorem piv_of_form (A : Fin n → Fin n → ℝ) (hA : ∀ x : Fin n → ℝ, ∑ j, x j * act A x j = 0 → x = 0) : ∀ k, k ≤ n → Piv A k
  | 0, _ => fun j hj => absurd hj (by omega)
  | k + 1, hk => by
    have hp := piv_of_form A hA k (by omega)
    intro j hj
    by_cases hjk : j.val < k
    · exact hp j hjk
    · have hkn : k < n := by omega
      have : j = ⟨k, hkn⟩ := Fin.ext (by show j.val = k; omega)
      subst this
      intro h0
      obtain ⟨x, hx⟩ := arg_surj A k (by omega) hp (Pi.single ⟨k, hkn⟩ 1)
      have h := congrFun (it_act A x k (by omega) hp) ⟨k, hkn⟩
      rw [hx] at h
      have hv : val A x k ⟨k, hkn⟩ = act A x ⟨k, hkn⟩ := by simp [val]
      have hl : act (it A k) (Pi.single ⟨k, hkn⟩ 1) ⟨k, hkn⟩ = it A k ⟨k, hkn⟩ ⟨k, hkn⟩ := by
        unfold act; simp [Pi.single_apply]
      have hyk : act A x ⟨k, hkn⟩ = 0 := by rw [← hv, ← h, hl]; exact h0
      have hz : x = 0 := hA x (Finset.sum_eq_zero fun j _ => by
        have hxj := congrFun hx j
        unfold arg at hxj
        by_cases h1 : j.val < k
        · rw [if_pos h1, Pi.single_eq_of_ne (by intro e; rw [e] at h1; exact absurd h1 (by simp))] at hxj
          rw [hxj, mul_zero]
        · rw [if_neg h1] at hxj
          by_cases h2 : j = ⟨k, hkn⟩
          · rw [h2, hyk, mul_zero]
          · rw [hxj, Pi.single_eq_of_ne h2, zero_mul])
      have h1 := congrFun hx ⟨k, hkn⟩
      rw [hz] at h1
      simp [arg] at h1

/-- A factor of the inverse: `L A Lᵀ = 1`. -/
def Factor (A L : Fin n → Fin n → ℝ) : Prop := ∀ r c, ∑ j, (∑ i, L r i * A i j) * L c j = if r = c then 1 else 0

theorem act_eq (M : Fin n → Fin n → ℝ) (x : Fin n → ℝ) : act M x = Matrix.mulVec (Matrix.of M) x := by
  funext r; simp [act, Matrix.mulVec, dotProduct]

theorem factor_mul {A L : Fin n → Fin n → ℝ} (h : Factor A L) : (Matrix.of L).transpose * Matrix.of L * Matrix.of A = 1 := by
  have h1 : Matrix.of L * (Matrix.of A * (Matrix.of L).transpose) = 1 := by
    rw [← Matrix.mul_assoc]
    ext r c
    rw [Matrix.mul_apply]
    simp only [Matrix.mul_apply, Matrix.of_apply, Matrix.transpose_apply, Matrix.one_apply]
    exact h r c
  have h2 := mul_eq_one_comm.mp h1
  rw [Matrix.mul_assoc] at h2
  exact mul_eq_one_comm.mp h2

theorem form_of_factor {A L : Fin n → Fin n → ℝ} (h : Factor A L) (x : Fin n → ℝ) (h0 : ∑ j, x j * act A x j = 0) : x = 0 := by
  have hm := factor_mul h
  set z := act A x with hz
  have hx : x = Matrix.mulVec ((Matrix.of L).transpose) (Matrix.mulVec (Matrix.of L) z) := by
    rw [hz, act_eq, Matrix.mulVec_mulVec, Matrix.mulVec_mulVec, hm, Matrix.one_mulVec]
  have hq : dotProduct (Matrix.mulVec (Matrix.of L) z) (Matrix.mulVec (Matrix.of L) z) = 0 := by
    have : dotProduct x z = 0 := h0
    rw [hx, Matrix.mulVec_transpose, ← Matrix.dotProduct_mulVec] at this
    exact this
  have : Matrix.mulVec (Matrix.of L) z = 0 := by
    funext j
    exact mul_self_eq_zero.mp ((Finset.sum_eq_zero_iff_of_nonneg fun i _ => mul_self_nonneg _).mp hq j (Finset.mem_univ j))
  rw [hx, this, Matrix.mulVec_zero]

/-- With a factor no pivot is zero. -/
theorem piv {A L : Fin n → Fin n → ℝ} (h : Factor A L) : ∀ k, k ≤ n → Piv A k := piv_of_form A (form_of_factor h)

/-- The matrix swept in every coordinate is the negated inverse. -/
theorem it_all {A L : Fin n → Fin n → ℝ} (h : Factor A L) (r c : Fin n) : -it A n r c = ∑ j, L j r * L j c := by
  have hp := piv h n le_rfl
  obtain ⟨x, hx⟩ := arg_surj A n le_rfl hp (Pi.single c 1)
  have hv := it_act A x n le_rfl hp
  have ha : arg A x n = act A x := by funext j; simp [arg]
  have hb : val A x n = -x := by funext j; simp [val]
  rw [hx, hb] at hv
  have hl : act (it A n) (Pi.single c 1) r = it A n r c := by unfold act; simp [Pi.single_apply]
  rw [← hl, hv, Pi.neg_apply, neg_neg]
  have hm := factor_mul h
  have : x = Matrix.mulVec ((Matrix.of L).transpose * Matrix.of L) (Pi.single c 1) := by
    rw [← hx, ha, act_eq, Matrix.mulVec_mulVec, hm, Matrix.one_mulVec]
  rw [this, Matrix.mulVec_single_one]
  simp [Matrix.mul_apply]

/-- The exchange of the coordinates from `k` to `k + b`. -/
theorem block_exchange (A : Fin n → Fin n → ℝ) (k b : ℕ) (hk : k + b ≤ n) (hp : Piv A (k + b)) (x' : Fin n → ℝ) :
    ∃ x : Fin n → ℝ, (∀ j : Fin n, ¬ (k ≤ j.val ∧ j.val < k + b) → x j = x' j ∧ act (it A (k + b)) x' j = act (it A k) x j)
      ∧ (∀ j : Fin n, k ≤ j.val → j.val < k + b → act (it A k) x j = x' j ∧ act (it A (k + b)) x' j = -x j) := by
  obtain ⟨x, hx⟩ := arg_surj A (k + b) hk hp x'
  have h1 := it_act A x (k + b) hk hp
  have h0 := it_act A x k (by omega) fun j hj => hp j (by omega)
  rw [hx] at h1
  refine ⟨arg A x k, fun j hj => ?_, fun j hj1 hj2 => ?_⟩
  · rw [h1, h0, ← hx]
    unfold arg val
    by_cases hjk : j.val < k
    · rw [if_pos hjk, if_pos (by omega), if_pos (by omega), if_pos hjk]; exact ⟨rfl, rfl⟩
    · rw [if_neg hjk, if_neg (by omega), if_neg (by omega), if_neg hjk]; exact ⟨rfl, rfl⟩
  · rw [h1, h0, ← hx]
    unfold arg val
    rw [if_neg (by omega), if_pos hj2, if_pos hj2, if_neg (by omega)]; exact ⟨rfl, rfl⟩

/-- The coordinate `a` of the block from `k` on. -/
def bl (k b : ℕ) (hk : k + b ≤ n) (a : Fin b) : Fin n := ⟨k + a.val, by have := a.isLt; omega⟩

/-- A sum over the coordinates is the block's and the others'. -/
theorem sum_block (k b : ℕ) (hk : k + b ≤ n) (f : Fin n → ℝ) :
    ∑ c, f c = ∑ a : Fin b, f (bl k b hk a) + ∑ c : Fin n, if k ≤ c.val ∧ c.val < k + b then 0 else f c := by
  have h1 : ∑ a : Fin b, f (bl k b hk a) = ∑ c : Fin n, if k ≤ c.val ∧ c.val < k + b then f c else 0 := by
    rw [← Finset.sum_filter]
    refine Finset.sum_bij (fun a _ => bl k b hk a) (fun a _ => ?_) (fun a _ a' _ e => ?_) (fun c hc => ?_) fun _ _ => rfl
    · have := a.isLt
      simp only [Finset.mem_filter, Finset.mem_univ, true_and, bl]; omega
    · have := congrArg Fin.val e
      simp only [bl] at this
      exact Fin.ext (by omega)
    · simp only [Finset.mem_filter, Finset.mem_univ, true_and] at hc
      exact ⟨⟨c.val - k, by omega⟩, Finset.mem_univ _, Fin.ext (by simp only [bl]; omega)⟩
  rw [h1, ← Finset.sum_add_distrib]
  exact Finset.sum_congr rfl fun c _ => by split <;> simp

/-- A block swept at once: the rows and columns of the matrix swept in a block's coordinates, by those of the matrix before and
    the swept block. -/
theorem block_step (A : Fin n → Fin n → ℝ) (k b : ℕ) (hk : k + b ≤ n) (hp : Piv A (k + b)) :
    (∀ (r : Fin n) (a : Fin b), ¬ (k ≤ r.val ∧ r.val < k + b) →
        it A (k + b) r (bl k b hk a) = ∑ a', it A k r (bl k b hk a') * -it A (k + b) (bl k b hk a') (bl k b hk a))
      ∧ (∀ (a : Fin b) (c : Fin n), ¬ (k ≤ c.val ∧ c.val < k + b) →
        it A (k + b) (bl k b hk a) c = -∑ a', it A (k + b) (bl k b hk a) (bl k b hk a') * it A k (bl k b hk a') c)
      ∧ (∀ (r c : Fin n), ¬ (k ≤ r.val ∧ r.val < k + b) → ¬ (k ≤ c.val ∧ c.val < k + b) →
        it A (k + b) r c = it A k r c - ∑ a', it A (k + b) r (bl k b hk a') * it A k (bl k b hk a') c) := by
  set M := it A k with hM
  set N := it A (k + b) with hN
  set e := bl k b hk with he
  have hin : ∀ a : Fin b, k ≤ (e a).val ∧ (e a).val < k + b := fun a => by
    have := a.isLt
    rw [he]; simp only [bl]; omega
  have hinj : ∀ a a' : Fin b, e a = e a' → a = a' := fun a a' h => by
    have := congrArg Fin.val h
    rw [he] at this; simp only [bl] at this
    exact Fin.ext (by omega)
  have hcol : ∀ (Q : Fin n → Fin n → ℝ) (r c : Fin n), act Q (Pi.single c 1) r = Q r c := fun Q r c => by
    unfold act; simp [Pi.single_apply]
  -- an argument that is a unit vector inside the block
  have hJ : ∀ a : Fin b, ∀ r, (∑ a', M r (e a') * -N (e a') (e a)) = if k ≤ r.val ∧ r.val < k + b then (if r = e a then 1 else 0) else N r (e a) := by
    intro a r
    obtain ⟨x, ho, hi⟩ := block_exchange A k b hk hp (Pi.single (e a) 1)
    have hu : ∀ a', x (e a') = -N (e a') (e a) := fun a' => by
      have := (hi (e a') (hin a').1 (hin a').2).2
      rw [hcol] at this
      linarith
    have hs : act M x r = ∑ a', M r (e a') * -N (e a') (e a) := by
      unfold act
      rw [sum_block k b hk]
      rw [Finset.sum_eq_zero (f := fun c : Fin n => if k ≤ c.val ∧ c.val < k + b then (0 : ℝ) else M r c * x c), add_zero]
      · exact Finset.sum_congr rfl fun a' _ => by rw [← hu a']
      · intro c _
        split
        · rfl
        · next hc =>
          rw [(ho c hc).1, Pi.single_eq_of_ne (fun h : c = e a => hc (by rw [h]; exact hin a)), mul_zero]
    rw [← hs]
    split
    · next hr =>
      rw [(hi r hr.1 hr.2).1, Pi.single_apply]
    · next hr =>
      rw [← (ho r hr).2, hcol]
  have hinv : ∀ a a'' : Fin b, (∑ a', -N (e a) (e a') * M (e a') (e a'')) = if a = a'' then 1 else 0 := by
    have h1 : (Matrix.of fun a a' : Fin b => M (e a) (e a')) * (Matrix.of fun a a' : Fin b => -N (e a) (e a')) = 1 := by
      ext a a''
      rw [Matrix.mul_apply, Matrix.one_apply]
      refine (hJ a'' (e a)).trans ?_
      rw [if_pos (hin a)]
      by_cases h : a = a''
      · rw [if_pos h, if_pos (congrArg e h)]
      · rw [if_neg h, if_neg fun h' => h (hinj _ _ h')]
    have h2 := mul_eq_one_comm.mp h1
    intro a a''
    have := congrFun (congrFun h2 a) a''
    rw [Matrix.mul_apply, Matrix.one_apply] at this
    exact this
  have hR : ∀ (c : Fin n), ¬ (k ≤ c.val ∧ c.val < k + b) → ∀ r : Fin n,
      ∃ x : Fin b → ℝ, (∀ a, x a = ∑ a', N (e a) (e a') * M (e a') c) ∧ (∀ a, N (e a) c = -x a)
        ∧ (¬ (k ≤ r.val ∧ r.val < k + b) → N r c = M r c + ∑ a, M r (e a) * x a) := by
    intro c hc r
    obtain ⟨x, ho, hi⟩ := block_exchange A k b hk hp (Pi.single c 1)
    have hs : ∀ r, act M x r = ∑ a', M r (e a') * x (e a') + M r c := by
      intro r
      unfold act
      rw [sum_block k b hk]
      congr 1
      rw [Finset.sum_eq_single c]
      · rw [if_neg hc, (ho c hc).1, Pi.single_eq_same, mul_one]
      · intro c' _ hne
        split
        · rfl
        · next hc' => rw [(ho c' hc').1, Pi.single_eq_of_ne hne, mul_zero]
      · intro h; exact absurd (Finset.mem_univ c) h
    refine ⟨fun a => x (e a), fun a => ?_, fun a => ?_, fun hr => ?_⟩
    · have hz : ∀ a'', ∑ a', M (e a'') (e a') * x (e a') = -M (e a'') c := fun a'' => by
        have h1 := (hi (e a'') (hin a'').1 (hin a'').2).1
        rw [hs, Pi.single_eq_of_ne (fun h : e a'' = c => hc (by rw [← h]; exact hin a''))] at h1
        linarith
      have h1 : ∑ a'', -N (e a) (e a'') * ∑ a', M (e a'') (e a') * x (e a') = x (e a) := by
        simp only [Finset.mul_sum]
        rw [Finset.sum_comm]
        simp only [← mul_assoc, ← Finset.sum_mul]
        rw [Finset.sum_congr rfl fun a' _ => by rw [hinv a a']]
        simp
      refine h1.symm.trans ?_
      exact Finset.sum_congr rfl fun a'' _ => by rw [hz a'']; ring
    · have := (hi (e a) (hin a).1 (hin a).2).2
      rw [hcol] at this
      exact this
    · have := (ho r hr).2
      rw [hcol, hs] at this
      exact this.trans (add_comm _ _)
  refine ⟨fun r a hr => ?_, fun a c hc => ?_, fun r c hr hc => ?_⟩
  · rw [hJ a r, if_neg hr]
  · obtain ⟨x, h1, h2, _⟩ := hR c hc (e a)
    rw [h2 a, h1 a]
  · obtain ⟨x, h1, _, h3⟩ := hR c hc r
    rw [h3 hr, sub_eq_add_neg]
    congr 1
    rw [← Finset.sum_neg_distrib]
    have h4 : ∀ a', N r (e a') = ∑ a'', M r (e a'') * -N (e a'') (e a') := fun a' => by rw [hJ a' r, if_neg hr]
    have h5 : ∀ a', -(N r (e a') * M (e a') c) = ∑ a'', M r (e a'') * (N (e a'') (e a') * M (e a') c) := fun a' => by
      rw [h4, Finset.sum_mul, ← Finset.sum_neg_distrib]
      exact Finset.sum_congr rfl fun _ _ => by ring
    simp only [h5]
    rw [Finset.sum_comm]
    exact Finset.sum_congr rfl fun a _ => by rw [h1 a, Finset.mul_sum]

/-- A block swept by itself is the block of the matrix swept. -/
theorem block_it (A : Fin n → Fin n → ℝ) (k b : ℕ) (hk : k + b ≤ n) : ∀ j, j ≤ b → ∀ r c : Fin b,
    it (fun r c : Fin b => it A k (bl k b hk r) (bl k b hk c)) j r c = it A (k + j) (bl k b hk r) (bl k b hk c)
  | 0, _, r, c => rfl
  | j + 1, hj, r, c => by
    have ih := block_it A k b hk j (by omega)
    rw [it, dif_pos (show j < b by omega), ← Nat.add_assoc, it, dif_pos (show k + j < n by omega)]
    have e : ∀ r : Fin b, (bl k b hk r = ⟨k + j, by omega⟩) ↔ r = ⟨j, by omega⟩ := fun r => by
      constructor
      · intro h; have := congrArg Fin.val h; simp only [bl] at this; exact Fin.ext (by simp only; omega)
      · intro h; subst h; rfl
    have hb : bl k b hk ⟨j, by omega⟩ = ⟨k + j, by omega⟩ := rfl
    unfold sw
    simp only [e, ih, hb]

end Cert.Sweep

end
-- ==== Proof.Inverse.Pays.lean ====
/- The kernel's stored values read at an index, over the extended reals, where the values read are real numbers: a split
   into three parts is the number and two zeros, and a product over six of the parts is the one product. -/
module

public import proofs.«01_k».proof.Proof.Gen.InverseIdeal.Skeleton
public import proofs.«01_k».proof.Proof.Inverse.Sweep
public import Idealize.ShloMosaic.Lib.Pointwise

@[expose] public section

set_option maxRecDepth 16384

noncomputable section

namespace Cert.InverseIdeal.Pays

open Cert.InverseIdeal Cert.InverseIdeal.Gen Idealize.ShloMosaic Idealize.ShloMosaic.TcCoe

/-- A real number less itself is zero. -/
theorem sub_self_coe (r : ℝ) : (r : EReal) - (r : EReal) = 0 := by
  rw [← EReal.coe_sub, sub_self, EReal.coe_zero]

/-- A choice by an equality of words is a choice by the equality. -/
theorem select_eq {w : ℕ} {α : Type} (a b : BitVec w) (x y : α) :
    Scalar.select (IntOp.cmpi CmpIPredicate.eq a b) x y = if a = b then x else y := by
  by_cases h : a = b
  · simp [Scalar.select, IntOp.cmpi, h]
  · simp only [Scalar.select, IntOp.cmpi, if_neg h, beq_eq_false_iff_ne.mpr h]
    rfl

/-- Small numbers are equal where their words are. -/
theorem ofNat_inj {a b : ℕ} (ha : a < 4294967296) (hb : b < 4294967296) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- One over a real number off zero. -/
theorem one_div_coe (p : ℝ) (h : p ≠ 0) : Ideal.div 1 (p : EReal) = ((p⁻¹ : ℝ) : EReal) := by
  rw [Ideal.div, if_neg (by exact_mod_cast h), one_mul, EReal.coe_inv]

/-- A sum whose terms before 1280 of 1536 vanish. -/
theorem sum_last (p : Fin 1536 → EReal) (h : ∀ j : Fin 1536, j.val < 1280 → p j = 0) :
    ∑ j, p j = ∑ a : Fin 256, p ⟨1280 + a.val, by have := a.isLt; omega⟩ := by
  have e : ∑ j : Fin (1280 + 256), p j = ∑ a : Fin 256, p ⟨1280 + a.val, by have := a.isLt; omega⟩ := by
    rw [Fin.sum_univ_add, Finset.sum_eq_zero fun i _ => h _ (by simp), zero_add]
    rfl
  exact e

/-- A sum of real numbers is real. -/
theorem coe_sum {n : ℕ} (f : Fin n → ℝ) : (∑ a, (f a : EReal)) = ((∑ a, f a : ℝ) : EReal) := by
  induction n with
  | zero => simp
  | succ n ih => rw [Fin.sum_univ_succ, Fin.sum_univ_succ, ih, EReal.coe_add]

/-- The parts of a block side by side: low, high, middle, high, middle, high. -/
theorem pay5_apply (x : Vec Ideal S256x256 .f32) (f : Fin 256 → Fin 256 → ℝ) (hx : ∀ r c, x (ix2 r c) = (f r c : EReal)) (r : Fin 256) (j : Fin 1536) :
    k0_pay5 (F := Ideal) x (ix2 r j) = if j.val / 256 % 2 = 1 then (f r ⟨j.val % 256, Nat.mod_lt _ (by decide)⟩ : EReal) else 0 := by
  unfold k0_pay5
  pointwise
  simp only [hx, sub_self_coe, sub_zero]
  have hj := j.isLt
  repeat' split
  all_goals first | rfl | (exfalso; omega) | (congr 3; omega)

/-- The parts of a block's rows one below the other: high, low, middle, middle, high, high. -/
theorem pay30_apply (x : Vec Ideal S256x2560 .f32) (f : Fin 256 → Fin 2560 → ℝ) (hx : ∀ r c, x (ix2 r c) = (f r c : EReal)) (j : Fin 1536) (c : Fin 2560) :
    k0_pay30 (F := Ideal) x (ix2 j c) = if j.val / 256 = 0 ∨ 4 ≤ j.val / 256 then (f ⟨j.val % 256, Nat.mod_lt _ (by decide)⟩ c : EReal) else 0 := by
  unfold k0_pay30
  pointwise
  simp only [hx, sub_self_coe, sub_zero]
  have hj := j.isLt
  repeat' split
  all_goals first | rfl | (exfalso; omega) | (congr 3; omega)

/-- What is stored in the panel: the product of the panel's block and the negated swept block. -/
theorem pay2_apply (D x : Vec Ideal S256x256 .f32) (g f : Fin 256 → Fin 256 → ℝ) (hD : ∀ r c, D (ix2 r c) = (g r c : EReal)) (hx : ∀ r c, x (ix2 r c) = (f r c : EReal)) (r c : Fin 256) :
    k0_pay2 (F := Ideal) D (Scalar.ofBits .f32 0x00000000#32) x (ix2 r c) = ((∑ a, f r a * -g a c : ℝ) : EReal) := by
  unfold k0_pay2
  pointwise
  simp only [hx, hD, zero_sub, ← EReal.coe_neg, sub_self_coe, sub_zero]
  rw [sum_last]
  · rw [← coe_sum]
    refine Finset.sum_congr rfl fun a _ => ?_
    have ha := a.isLt
    rw [EReal.coe_mul]
    have hm : ∀ h : 1280 + a.val - 256 - 256 - 256 - 256 - 256 < 256, (⟨1280 + a.val - 256 - 256 - 256 - 256 - 256, h⟩ : Fin 256) = a := fun _ => Fin.ext (by simp only; omega)
    dsimp only
    repeat' split
    all_goals first | (exfalso; omega) | rw [hm]
  · intro j hj
    repeat' split
    all_goals first | (exfalso; omega) | simp

theorem pay4_apply (D x : Vec Ideal S256x256 .f32) (g f : Fin 256 → Fin 256 → ℝ) (hD : ∀ r c, D (ix2 r c) = (g r c : EReal)) (hx : ∀ r c, x (ix2 r c) = (f r c : EReal)) (r c : Fin 256) :
    k0_pay4 (F := Ideal) D (Scalar.ofBits .f32 0x00000000#32) x (ix2 r c) = ((∑ a, f r a * -g a c : ℝ) : EReal) := by
  rw [← pay2_apply D x g f hD hx]
  unfold k0_pay4
  pointwise

/-- The parts of it. -/
theorem pay3_apply (D x : Vec Ideal S256x256 .f32) (g f : Fin 256 → Fin 256 → ℝ) (hD : ∀ r c, D (ix2 r c) = (g r c : EReal)) (hx : ∀ r c, x (ix2 r c) = (f r c : EReal)) (r : Fin 256) (j : Fin 1536) :
    k0_pay3 (F := Ideal) D (Scalar.ofBits .f32 0x00000000#32) x (ix2 r j)
      = if j.val / 256 % 2 = 1 then ((∑ a, f r a * -g a ⟨j.val % 256, Nat.mod_lt _ (by decide)⟩ : ℝ) : EReal) else 0 := by
  rw [← pay5_apply (k0_pay2 (F := Ideal) D (Scalar.ofBits .f32 0x00000000#32) x) (fun r c => ∑ a, f r a * -g a c) (pay2_apply D x g f hD hx) r j]
  rfl

/-- What is stored in the rows: the rows less the product of the panel and the block's rows. -/
theorem pay6_apply (x : Vec Ideal S256x2560 .f32) (y : Vec Ideal S256x1536 .bf16) (z : Vec Ideal S1536x2560 .bf16)
    (f : Fin 256 → Fin 2560 → ℝ) (w : Fin 256 → Fin 256 → ℝ) (s : Fin 256 → Fin 2560 → ℝ) (hx : ∀ r c, x (ix2 r c) = (f r c : EReal))
    (hy : ∀ (r : Fin 256) (j : Fin 1536), y (ix2 r j) = if j.val / 256 % 2 = 1 then (w r ⟨j.val % 256, Nat.mod_lt _ (by decide)⟩ : EReal) else 0)
    (hz : ∀ (j : Fin 1536) (c : Fin 2560), z (ix2 j c) = if j.val / 256 = 0 ∨ 4 ≤ j.val / 256 then (s ⟨j.val % 256, Nat.mod_lt _ (by decide)⟩ c : EReal) else 0)
    (r : Fin 256) (c : Fin 2560) :
    k0_pay6 (F := Ideal) x y z (ix2 r c) = ((f r c - ∑ a, w r a * s a c : ℝ) : EReal) := by
  have e : k0_pay6 (F := Ideal) x y z (ix2 r c) = x (ix2 r c) - ∑ k : Fin 1536, y (ix2 r k) * z (ix2 k c) := by
    unfold k0_pay6
    pointwise
  rw [e, hx, EReal.coe_sub, ← coe_sum, sum_last]
  · congr 1
    refine Finset.sum_congr rfl fun a _ => ?_
    have ha := a.isLt
    have hm : (⟨(1280 + a.val) % 256, Nat.mod_lt _ (by decide)⟩ : Fin 256) = a := by ext; simp only; omega
    rw [hy, hz, if_pos (by simp only; omega), if_pos (by simp only; omega), hm, EReal.coe_mul]
  · intro j hj
    rw [hy, hz]
    repeat' split
    all_goals first | (exfalso; omega) | simp

theorem pay7_apply (x : Vec Ideal S256x256 .f32) (r c : Fin 256) : k0_pay7 (F := Ideal) x (ix2 r c) = x (ix2 r c) := by
  unfold k0_pay7
  pointwise
theorem pay27_apply (x : Vec Ideal S256x256 .f32) (r c : Fin 256) : k0_pay27 (F := Ideal) x (ix2 r c) = x (ix2 r c) := by
  unfold k0_pay27
  pointwise
theorem pay29_apply (r c : Fin 256) : k0_pay29 (F := Ideal) (ix2 r c) = 0 := by
  unfold k0_pay29
  pointwise
theorem pay31_apply (r : Fin 256) (c : Fin 2560) : k0_pay31 (F := Ideal) (ix2 r c) = 0 := by
  unfold k0_pay31
  pointwise

/-- The output's high part is the negated element, -/
theorem pay9_apply (x : Vec Ideal S128x2560 .f32) (f : ℝ) (r : Fin 128) (c : Fin 2560) (hx : x (ix2 r c) = (f : EReal)) : k0_pay9 (F := Ideal) x (ix2 r c) = ((-f : ℝ) : EReal) := by
  unfold k0_pay9 k0_pay8
  pointwise
  rw [hx, zero_sub, EReal.coe_neg]
/-- the middle part zero, -/
theorem pay11_apply (x : Vec Ideal S128x2560 .f32) (f : ℝ) (r : Fin 128) (c : Fin 2560) (hx : x (ix2 r c) = (f : EReal)) : k0_pay11 (F := Ideal) x (ix2 r c) = 0 := by
  unfold k0_pay11 k0_pay10 k0_pay9 k0_pay8
  pointwise
  rw [hx, zero_sub, ← EReal.coe_neg, sub_self_coe]
/-- and the low part. -/
theorem pay12_apply (x : Vec Ideal S128x2560 .f32) (f : ℝ) (r : Fin 128) (c : Fin 2560) (hx : x (ix2 r c) = (f : EReal)) : k0_pay12 (F := Ideal) x (ix2 r c) = 0 := by
  unfold k0_pay12 k0_pay11 k0_pay10 k0_pay9 k0_pay8
  pointwise
  rw [hx, zero_sub, ← EReal.coe_neg, sub_self_coe, sub_zero]

/-- A sum with one term chosen. -/
theorem sum_pick {n : ℕ} (hn : n < 4294967296) (k : Fin n) (v : BitVec 32) (hv : v = BitVec.ofNat 32 k.val) (f : Fin n → EReal) :
    ∑ x : Fin n, (if BitVec.ofNat 32 x.val = v then f x else 0) = f k := by
  subst hv
  rw [Finset.sum_eq_single k, if_pos rfl]
  · intro b _ hb
    exact if_neg fun h => hb (Fin.ext ((ofNat_inj (by have := b.isLt; omega) (by have := k.isLt; omega)).mp h))
  · exact fun h => absurd (Finset.mem_univ k) h

/-- A trip of the block's sweep is the sweep in the trip's coordinate. -/
theorem pay28_apply (t : Fin k0_t1_loop.trips) (k : Fin 256) (ht : t.val = k.val) (x : Vec Ideal S256x256 .f32) (y : Vec Ideal S1x256 .f32) (M : Fin 256 → Fin 256 → ℝ)
    (hx : ∀ r c, x (ix2 r c) = (M r c : EReal)) (hy : ∀ c, y (ix2 0 c) = (M k c : EReal)) (hp : M k k ≠ 0) (r c : Fin 256) :
    k0_pay28 (F := Ideal) t x y (ix2 r c) = (Cert.Sweep.sw k M r c : EReal) := by
  have hiv : Scf.iv 0#32 1#32 t.val = BitVec.ofNat 32 k.val := by rw [Scf.iv, ht]; simp
  have hin : ∀ a : Fin 256, (BitVec.ofNat 32 a.val = Scf.iv 0#32 1#32 t.val) ↔ a = k := fun a => by
    rw [hiv, ofNat_inj (by have := a.isLt; omega) (by have := k.isLt; omega), Fin.ext_iff]
  unfold k0_pay28
  pointwise
  simp only [select_eq]
  rw [sum_pick (by decide) k _ hiv (fun x => y (ix2 0 x)), sum_pick (by decide) k _ hiv (fun a => x (ix2 r a))]
  simp only [hin, hx, hy, one_div_coe _ hp, zero_sub]
  unfold Cert.Sweep.sw
  split_ifs <;> norm_cast

/-- The words of the two factors, 0.9 and 0.1, name real numbers. -/
theorem alpha_real : ∃ r : ℝ, Ideal.ofBits .f32 0x3F666666#32 = (r : EReal) := by
  refine ⟨15099494 / 16777216, ?_⟩
  simp [Ideal.ofBits, Ideal.ieee, -EReal.coe_mul]; norm_num
theorem beta_real : ∃ r : ℝ, Ideal.ofBits .f32 0x3DCCCCCD#32 = (r : EReal) := by
  refine ⟨13421773 / 134217728, ?_⟩
  simp [Ideal.ofBits, Ideal.ieee, -EReal.coe_mul]; norm_num

/-- The rows read: the factor times the sum of the six. -/
theorem pay13_apply (a b c x y z : Vec Ideal S1x128x2560 .bf16) (r : Fin 128) (j : Fin 2560) :
    k0_pay13 (F := Ideal) a b c x y z (ix2 r j)
      = Ideal.ofBits .f32 0x3F666666#32 * (a (ix3 0 r j) + b (ix3 0 r j) + c (ix3 0 r j) + x (ix3 0 r j) + y (ix3 0 r j) + z (ix3 0 r j)) := by
  unfold k0_pay13
  pointwise

/-- What is added on the diagonal block. -/
theorem pay1_apply (a b : FVec Ideal S128x128 .f32) (r j : Fin 128) :
    k0_pay1 (F := Ideal) a b (k0_pay26 (F := Ideal)) (ix2 r j) = b (ix2 r j) + Ideal.ofBits .f32 0x3DCCCCCD#32 * a (ix2 r j) := by
  unfold k0_pay1 k0_pay26
  pointwise

theorem pay14_apply (r j : Fin 128) : k0_pay14 (ix2 r j) = IntOp.cmpi CmpIPredicate.eq (BitVec.ofNat 32 r.val) (BitVec.ofNat 32 j.val) := by
  unfold k0_pay14
  pointwise

/-- A choice by the diagonal's mask. -/
theorem select_diag (r j : Fin 128) (x y : EReal) : Scalar.select (k0_pay14 (ix2 r j)) x y = if r = j then x else y := by
  rw [pay14_apply, select_eq]
  refine if_congr ?_ rfl rfl
  rw [ofNat_inj (by omega) (by omega), Fin.ext_iff]

/-- The sum along a row of what is on the diagonal. -/
theorem sum_diag (r : Fin 128) (f : Fin 128 → EReal) : ∑ x, Scalar.select (k0_pay14 (ix2 r x)) (f x) 0 = f r := by
  simp only [select_diag]
  rw [Finset.sum_ite_eq]
  exact if_pos (Finset.mem_univ r)

/-- The diagonal blocks summed, off the diagonal zero. -/
theorem pay24_apply (a b c x y z : Vec Ideal S1x128x128 .bf16) (r j : Fin 128) :
    k0_pay24 (F := Ideal) k0_pay14 (k0_pay19 (F := Ideal) k0_pay14 (Scalar.ofBits .f32 0x00000000#32) a b c) x y z (ix2 r j)
      = if r = j then a (ix3 0 r j) + b (ix3 0 r j) + c (ix3 0 r j) + x (ix3 0 r j) + y (ix3 0 r j) + z (ix3 0 r j) else 0 := by
  unfold k0_pay24 k0_pay21 k0_pay22 k0_pay23 k0_pay19 k0_pay16 k0_pay17 k0_pay18
  pointwise
  simp only [select_diag]
  split <;> simp

/-- The block of diagonals: column `k` is the diagonal of block `k`, the columns from 6 on are zero. -/
theorem pay25_apply (a b c x y z : Vec Ideal S1x128x128 .bf16) (r j : Fin 128) :
    k0_pay25 (F := Ideal) k0_pay14 (iota .tc S128x128 32 [1] iota_S128x128_d1_w32) (k0_pay20 (F := Ideal) k0_pay14 (iota .tc S128x128 32 [1] iota_S128x128_d1_w32) (k0_pay15 (F := Ideal)) a b c) x y z (ix2 r j)
      = if j.val = 5 then z (ix3 0 r r) else if j.val = 4 then y (ix3 0 r r) else if j.val = 3 then x (ix3 0 r r)
        else if j.val = 2 then c (ix3 0 r r) else if j.val = 1 then b (ix3 0 r r) else if j.val = 0 then a (ix3 0 r r) else 0 := by
  unfold k0_pay25 k0_pay21 k0_pay22 k0_pay23 k0_pay20 k0_pay16 k0_pay17 k0_pay18 k0_pay15
  pointwise
  rw [sum_diag r (fun v => a (ix3 0 r v)), sum_diag r (fun v => b (ix3 0 r v)), sum_diag r (fun v => c (ix3 0 r v)), sum_diag r (fun v => x (ix3 0 r v)),
    sum_diag r (fun v => y (ix3 0 r v)), sum_diag r (fun v => z (ix3 0 r v))]
  have hj := j.isLt
  have hin : ∀ k : ℕ, k < 6 → (BitVec.ofNat 32 j.val = BitVec.ofNat 32 k ↔ j.val = k) := fun k hk => ofNat_inj (by omega) (by omega)
  simp only [select_eq]
  simp only [hin 0 (by decide), hin 1 (by decide), hin 2 (by decide), hin 3 (by decide), hin 4 (by decide), hin 5 (by decide)]

end Cert.InverseIdeal.Pays

end
-- ==== Proof.Inverse.Point.lean ====
/- A point that sweeps, over the extended reals: where the matrix is real and its pivots are not zero, the point sweeps the
   matrix in the 256 coordinates of its block. -/
module

public import proofs.«01_k».proof.Proof.Inverse.RunB
public import proofs.«01_k».proof.Proof.Inverse.Pays

@[expose] public section

set_option maxRecDepth 16384

noncomputable section

namespace Cert.InverseIdeal.Point

open Cert.InverseIdeal Cert.InverseIdeal.Gen Idealize.ShloMosaic Idealize.ShloMosaic.TcCoe
open Cert.InverseIdeal.Pays Cert.Sweep Cert.Kit

/-- The block's first coordinate. -/
abbrev kB (t : Fin cfg0.N) : ℕ := 256 * (t.val - 20)

/-- The offsets at a point that sweeps. -/
theorem off9 : ∀ t : Fin cfg0.N, 20 ≤ t.val → t.val < 30 → k0_off9 (grid0.coords t) = ![256 * (t.val - 20), 256 * (t.val - 20)] := by decide +kernel
theorem off10 : ∀ n : Fin k0_t1_loop.trips, k0_off10 n = ![n.val, 0] := by decide +kernel
theorem off11 : ∀ t : Fin cfg0.N, 20 ≤ t.val → t.val < 30 → k0_off11 (grid0.coords t) = ![256 * (t.val - 20), 0] := by decide +kernel
theorem off12 : ∀ t : Fin cfg0.N, 20 ≤ t.val → t.val < 30 → ∀ n : Fin k0_t2_loop.trips, k0_off12 (grid0.coords t) n = ![256 * n.val, 256 * (t.val - 20)] := by decide +kernel
theorem off13 : ∀ n : Fin k0_t2_loop.trips, k0_off13 n = ![256 * n.val, 0] := by decide +kernel
theorem off14 : ∀ t : Fin cfg0.N, 20 ≤ t.val → t.val < 30 → k0_off14 (grid0.coords t) = ![256 * (t.val - 20), 0] := by decide +kernel
theorem off15 : ∀ n : Fin k0_t3_loop.trips, k0_off15 n = ![256 * n.val, 0] := by decide +kernel
theorem off16 : ∀ n : Fin k0_t3_loop.trips, k0_off16 n = ![256 * n.val, 0] := by decide +kernel
theorem trips1 : k0_t1_loop.trips = 256 := by decide +kernel
theorem trips2 : k0_t2_loop.trips = 10 := by decide +kernel
theorem trips3 : k0_t3_loop.trips = 10 := by decide +kernel

/-- The block swept by itself. -/
theorem sweepN_apply (i : grid0.Coords) (h2 : k0_cond2 i = 1#1) (D : Vec Ideal S256x256 .f32) (M : Fin 256 → Fin 256 → ℝ)
    (hD : ∀ r c, D (ix2 r c) = (M r c : EReal)) (hp : Piv M 256) : ∀ n, n ≤ 256 → ∀ r c : Fin 256, sweepN i h2 D n (ix2 r c) = (it M n r c : EReal)
  | 0, _, r, c => hD r c
  | n + 1, hn, r, c => by
    have hlt : n < 256 := by omega
    have ht : n < k0_t1_loop.trips := by rw [trips1]; exact hlt
    have ih := sweepN_apply i h2 D M hD hp n (by omega)
    rw [sweepN, dif_pos ht, it, dif_pos hlt]
    refine pay28_apply ⟨n, ht⟩ ⟨n, hlt⟩ rfl _ _ (it M n) ih (fun c' => ?_) (hp ⟨n, hlt⟩ hlt) r c
    refine (ld_unit_apply (k0_off10_inb i ⟨n, ht⟩ h2) _ (ix2 0 c') (ix2 ⟨n, hlt⟩ c') ?_).trans (ih _ _)
    refine fun a => Eq.trans ?_ (congrArg (· + _) (congrFun (off10 ⟨n, ht⟩) a).symm)
    fin_cases a
    · rfl
    · show c'.val = 0 + c'.val; omega

/-- The rows of a block of rows. -/
def row (n : ℕ) (r : Fin 256) : Fin 2560 := ⟨(256 * n + r.val) % 2560, Nat.mod_lt _ (by decide)⟩

theorem row_val (n : ℕ) (hn : n < 10) (r : Fin 256) : (row n r).val = 256 * n + r.val := Nat.mod_eq_of_lt (by have := r.isLt; omega)

/-- A row of block `n` is the block's at its place. -/
theorem row_sub (n : ℕ) (hn : n < 10) (r : Fin 2560) (h : 256 * n ≤ r.val) (h' : r.val < 256 * n + 256) :
    row n ⟨r.val - 256 * n, by omega⟩ = r := Fin.ext ((row_val n hn _).trans (by show 256 * n + (r.val - 256 * n) = r.val; omega))

variable (A : Fin 2560 → Fin 2560 → ℝ) (hp : Piv A 2560) (t : Fin cfg0.N) (h1 : 20 ≤ t.val) (h3 : t.val < 30)
  (h2 : k0_cond2 (grid0.coords t) = 1#1) (X : Vec Ideal S2560x2560 .f32) (hX : ∀ r c, X (ix2 r c) = (it A (kB t) r c : EReal))

/-- The coordinates of the block. -/
abbrev inJ (r : Fin 2560) : Prop := kB t ≤ r.val ∧ r.val < kB t + 256

/-- The coordinates' places in the block. -/
abbrev pl {r : Fin 2560} (h : inJ t r) : Fin 256 := ⟨r.val - kB t, by have := h.1; have := h.2; omega⟩

/-- The block's coordinates. -/
def e (a : Fin 256) : Fin 2560 := ⟨(kB t + a.val) % 2560, Nat.mod_lt _ (by decide)⟩

include h3 in
theorem hk : kB t + 256 ≤ 2560 := by show 256 * (t.val - 20) + 256 ≤ 2560; omega

include h3 in
theorem e_val (a : Fin 256) : (e t a).val = kB t + a.val := by
  have := hk t h3
  have := a.isLt
  exact Nat.mod_eq_of_lt (by omega)

include h3 in
theorem e_bl (a : Fin 256) : bl (kB t) 256 (hk t h3) a = e t a := Fin.ext (e_val t h3 a).symm

include h3 in
theorem e_pl {r : Fin 2560} (h : inJ t r) : e t (pl t h) = r := by
  refine Fin.ext ((e_val t h3 _).trans ?_)
  have := h.1
  show kB t + (r.val - kB t) = r.val
  omega

/-- The swept block. -/
def dB (a a' : Fin 256) : ℝ := it A (kB t + 256) (e t a) (e t a')

include hp h1 h3 hX in
theorem blk_apply (r c : Fin 256) : blkB (grid0.coords t) h2 X (ix2 r c) = (dB A t r c : EReal) := by
  have hkk := hk t h3
  have hbi := block_it A (kB t) 256 hkk
  unfold blkB dB
  rw [← e_bl t h3, ← e_bl t h3, ← hbi 256 le_rfl]
  refine sweepN_apply _ _ _ _ (fun r c => ?_) (fun j hj => ?_) 256 le_rfl r c
  · refine (pay27_apply _ _ _).trans ((ld_unit_apply (k0_off9_inb _ h2) _ (ix2 r c) (ix2 (e t r) (e t c)) ?_).trans ?_)
    · refine fun a => Eq.trans ?_ (congrArg (· + _) (congrFun (off9 t h1 h3) a).symm)
      fin_cases a
      · exact e_val t h3 r
      · exact e_val t h3 c
    · rw [hX, e_bl t h3, e_bl t h3]
  · rw [hbi j.val (by omega)]
    have hj' : kB t + j.val = (bl (kB t) 256 hkk j).val := rfl
    rw [hj']
    exact hp _ (bl (kB t) 256 hkk j).isLt

/-- The matrix off the block's rows. -/
def gB (r c : Fin 2560) : ℝ := if inJ t r then 0 else it A (kB t) r c

include h1 h3 hX in
theorem gap_apply (r c : Fin 2560) : gapB (grid0.coords t) h2 X (ix2 r c) = (gB A t r c : EReal) := by
  unfold gapB gB
  by_cases h : inJ t r
  · rw [if_pos h, EReal.coe_zero]
    refine (overlay_unit_in (k0_off11_inb _ h2) _ _ (ix2 r c) (ix2 (pl t h) c) ?_).trans (pay31_apply _ _)
    refine fun a => Eq.trans ?_ (congrArg (· + _) (congrFun (off11 t h1 h3) a).symm)
    fin_cases a
    · have := h.1
      show r.val = kB t + (r.val - kB t); omega
    · show c.val = 0 + c.val; omega
  · rw [if_neg h]
    refine (overlay_unit_out (k0_off11_inb _ h2) _ _ (ix2 r c) (0 : Fin 2) ?_).trans ?_
    · rw [off11 t h1 h3]; show r.val < kB t ∨ kB t + 256 ≤ r.val; omega
    refine (overlay_unit_out (k0_off9_inb _ h2) _ _ (ix2 r c) (0 : Fin 2) ?_).trans (hX r c)
    rw [off9 t h1 h3]; show r.val < kB t ∨ kB t + 256 ≤ r.val; omega

/-- The block's rows off the block. -/
def rB (a : Fin 256) (c : Fin 2560) : ℝ := if inJ t c then 0 else it A (kB t) (e t a) c

include h1 h3 hX in
theorem rcat_apply (j : Fin 1536) (c : Fin 2560) : rcatB (grid0.coords t) h2 X (ix2 j c)
    = if j.val / 256 = 0 ∨ 4 ≤ j.val / 256 then (rB A t ⟨j.val % 256, Nat.mod_lt _ (by decide)⟩ c : EReal) else 0 := by
  unfold rcatB
  refine pay30_apply _ (rB A t) (fun r c => ?_) j c
  refine (ld_unit_apply (k0_off11_inb _ h2) _ (ix2 r c) (ix2 (e t r) c) ?_).trans ?_
  · refine fun a => Eq.trans ?_ (congrArg (· + _) (congrFun (off11 t h1 h3) a).symm)
    fin_cases a
    · exact e_val t h3 r
    · show c.val = 0 + c.val; omega
  unfold holeB rB
  by_cases h : inJ t c
  · rw [if_pos h, EReal.coe_zero]
    refine (overlay_unit_in (k0_off9_inb _ h2) _ _ (ix2 (e t r) c) (ix2 r (pl t h)) ?_).trans (pay29_apply _ _)
    refine fun a => Eq.trans ?_ (congrArg (· + _) (congrFun (off9 t h1 h3) a).symm)
    fin_cases a
    · exact e_val t h3 r
    · have := h.1
      show c.val = kB t + (c.val - kB t); omega
  · rw [if_neg h]
    refine (overlay_unit_out (k0_off9_inb _ h2) _ _ (ix2 (e t r) c) (1 : Fin 2) ?_).trans (hX _ c)
    rw [off9 t h1 h3]; show c.val < kB t ∨ kB t + 256 ≤ c.val; omega

/-- The panel: the matrix's columns in the block times the negated swept block. -/
def wB (r : Fin 2560) (a : Fin 256) : ℝ := ∑ a', gB A t r (e t a') * -dB A t a' a

include hp h1 h3 hX in
/-- The matrix after the panel's trips before `n`. -/
theorem panel_apply : ∀ n, n ≤ 10 → ∀ r c : Fin 2560,
    panelN (grid0.coords t) h2 (blkB (grid0.coords t) h2 X) (Scalar.ofBits .f32 0x00000000#32) (gapB (grid0.coords t) h2 X) n (ix2 r c)
      = ((if h : inJ t c ∧ r.val < 256 * n then wB A t r (pl t h.1) else gB A t r c : ℝ) : EReal)
  | 0, _, r, c => by
    rw [dif_neg (by omega)]
    exact gap_apply A t h1 h3 h2 X hX r c
  | n + 1, hn, r, c => by
    have hlt : n < 10 := by omega
    have ht : n < k0_t2_loop.trips := by rw [trips2]; exact hlt
    have ih := panel_apply n (by omega)
    rw [panelN, dif_pos ht]
    by_cases h : inJ t c ∧ 256 * n ≤ r.val ∧ r.val < 256 * n + 256
    · rw [dif_pos ⟨h.1, by omega⟩]
      have hrow := row_sub n hlt r h.2.1 h.2.2
      refine (overlay_unit_in (k0_off12_inb _ ⟨n, ht⟩ h2) _ _ (ix2 r c) (ix2 ⟨r.val - 256 * n, by omega⟩ (pl t h.1)) ?_).trans ?_
      · refine fun a => Eq.trans ?_ (congrArg (· + _) (congrFun (off12 t h1 h3 ⟨n, ht⟩) a).symm)
        fin_cases a
        · show r.val = 256 * n + (r.val - 256 * n); omega
        · have := h.1.1
          show c.val = kB t + (c.val - kB t); omega
      · refine (pay4_apply _ _ (dB A t) (fun r' a => gB A t (row n r') (e t a)) (blk_apply A hp t h1 h3 h2 X hX) (fun r' a => ?_) _ _).trans ?_
        · refine (ld_unit_apply (k0_off12_inb _ ⟨n, ht⟩ h2) _ (ix2 r' a) (ix2 (row n r') (e t a)) ?_).trans ?_
          · refine fun b => Eq.trans ?_ (congrArg (· + _) (congrFun (off12 t h1 h3 ⟨n, ht⟩) b).symm)
            fin_cases b
            · exact row_val n hlt r'
            · exact e_val t h3 a
          · rw [ih, dif_neg (by have := row_val n hlt r'; omega)]
        · simp only [hrow]; rfl
    · have hout : panelN (grid0.coords t) h2 (blkB (grid0.coords t) h2 X) (Scalar.ofBits .f32 0x00000000#32) (gapB (grid0.coords t) h2 X) n (ix2 r c)
          = ((if h : inJ t c ∧ r.val < 256 * (n + 1) then wB A t r (pl t h.1) else gB A t r c : ℝ) : EReal) := by
        rw [ih]
        by_cases h' : inJ t c ∧ r.val < 256 * n
        · rw [dif_pos h', dif_pos ⟨h'.1, by omega⟩]
        · rw [dif_neg h', dif_neg (by omega)]
      rw [← hout]
      by_cases hc : inJ t c
      · refine overlay_unit_out (k0_off12_inb _ ⟨n, ht⟩ h2) _ _ (ix2 r c) (0 : Fin 2) ?_
        rw [off12 t h1 h3 ⟨n, ht⟩]; show r.val < 256 * n ∨ 256 * n + 256 ≤ r.val; omega
      · refine overlay_unit_out (k0_off12_inb _ ⟨n, ht⟩ h2) _ _ (ix2 r c) (1 : Fin 2) ?_
        rw [off12 t h1 h3 ⟨n, ht⟩]; show c.val < kB t ∨ kB t + 256 ≤ c.val; omega

include hp h1 h3 hX in
/-- The panel's parts after the trips before `n`. -/
theorem wcatN_apply (d6 : Vec Ideal S2560x1536 .bf16) : ∀ n, n ≤ 10 → ∀ (r : Fin 2560) (j : Fin 1536), r.val < 256 * n →
    wcatN (grid0.coords t) h2 (blkB (grid0.coords t) h2 X) (Scalar.ofBits .f32 0x00000000#32) (gapB (grid0.coords t) h2 X) d6 n (ix2 r j)
      = if j.val / 256 % 2 = 1 then (wB A t r ⟨j.val % 256, Nat.mod_lt _ (by decide)⟩ : EReal) else 0
  | 0, _, r, j, h => absurd h (by omega)
  | n + 1, hn, r, j, hr => by
    have hlt : n < 10 := by omega
    have ht : n < k0_t2_loop.trips := by rw [trips2]; exact hlt
    have ih := wcatN_apply d6 n (by omega)
    have pa := panel_apply A hp t h1 h3 h2 X hX n (by omega)
    rw [wcatN, dif_pos ht]
    by_cases h : 256 * n ≤ r.val
    · have hrow := row_sub n hlt r h (by omega)
      refine (overlay_unit_in (k0_off13_inb _ ⟨n, ht⟩ h2) _ _ (ix2 r j) (ix2 ⟨r.val - 256 * n, by omega⟩ j) ?_).trans ?_
      · refine fun a => Eq.trans ?_ (congrArg (· + _) (congrFun (off13 ⟨n, ht⟩) a).symm)
        fin_cases a
        · show r.val = 256 * n + (r.val - 256 * n); omega
        · show j.val = 0 + j.val; omega
      · refine (pay3_apply _ _ (dB A t) (fun r' a => gB A t (row n r') (e t a)) (blk_apply A hp t h1 h3 h2 X hX) (fun r' a => ?_) _ _).trans ?_
        · refine (ld_unit_apply (k0_off12_inb _ ⟨n, ht⟩ h2) _ (ix2 r' a) (ix2 (row n r') (e t a)) ?_).trans ?_
          · refine fun b => Eq.trans ?_ (congrArg (· + _) (congrFun (off12 t h1 h3 ⟨n, ht⟩) b).symm)
            fin_cases b
            · exact row_val n hlt r'
            · exact e_val t h3 a
          · rw [pa, dif_neg (by have := row_val n hlt r'; omega)]
        · simp only [hrow]; rfl
    · refine (overlay_unit_out (k0_off13_inb _ ⟨n, ht⟩ h2) _ _ (ix2 r j) (0 : Fin 2) ?_).trans (ih r j (by omega))
      rw [off13 ⟨n, ht⟩]; show r.val < 256 * n ∨ 256 * n + 256 ≤ r.val; omega

/-- The panel with the swept block in the block's rows. -/
def wF (r : Fin 2560) (a : Fin 256) : ℝ := if h : inJ t r then dB A t (pl t h) a else wB A t r a

include hp h1 h3 hX in
theorem wcat_apply (d6 : Vec Ideal S2560x1536 .bf16) (r : Fin 2560) (j : Fin 1536) :
    wcatB (grid0.coords t) h2 X d6 (ix2 r j) = if j.val / 256 % 2 = 1 then (wF A t r ⟨j.val % 256, Nat.mod_lt _ (by decide)⟩ : EReal) else 0 := by
  unfold wcatB wF
  by_cases h : inJ t r
  · simp only [dif_pos h]
    refine (overlay_unit_in (k0_off14_inb _ h2) _ _ (ix2 r j) (ix2 (pl t h) j) ?_).trans ?_
    · refine fun a => Eq.trans ?_ (congrArg (· + _) (congrFun (off14 t h1 h3) a).symm)
      fin_cases a
      · have := h.1
        show r.val = kB t + (r.val - kB t); omega
      · show j.val = 0 + j.val; omega
    · exact pay5_apply _ (dB A t) (blk_apply A hp t h1 h3 h2 X hX) _ _
  · simp only [dif_neg h]
    refine (overlay_unit_out (k0_off14_inb _ h2) _ _ (ix2 r j) (0 : Fin 2) ?_).trans (wcatN_apply A hp t h1 h3 h2 X hX d6 10 le_rfl r j (by have := r.isLt; omega))
    rw [off14 t h1 h3]; show r.val < kB t ∨ kB t + 256 ≤ r.val; omega

/-- The matrix after the panel. -/
def pB (r c : Fin 2560) : ℝ := if h : inJ t c then wB A t r (pl t h) else gB A t r c

/-- The matrix after the trips of the last loop before `n`, of any panel and rows. -/
theorem trailN_apply (i : grid0.Coords) (h2 : k0_cond2 i = 1#1) (W : Vec Ideal S2560x1536 .bf16) (R : Vec Ideal S1536x2560 .bf16) (Y : Vec Ideal S2560x2560 .f32)
    (p : Fin 2560 → Fin 2560 → ℝ) (w : Fin 2560 → Fin 256 → ℝ) (s : Fin 256 → Fin 2560 → ℝ) (hY : ∀ r c, Y (ix2 r c) = (p r c : EReal))
    (hW : ∀ (r : Fin 2560) (j : Fin 1536), W (ix2 r j) = if j.val / 256 % 2 = 1 then (w r ⟨j.val % 256, Nat.mod_lt _ (by decide)⟩ : EReal) else 0)
    (hR : ∀ (j : Fin 1536) (c : Fin 2560), R (ix2 j c) = if j.val / 256 = 0 ∨ 4 ≤ j.val / 256 then (s ⟨j.val % 256, Nat.mod_lt _ (by decide)⟩ c : EReal) else 0) :
    ∀ n, n ≤ 10 → ∀ r c : Fin 2560,
      trailN i h2 W R Y n (ix2 r c) = ((if r.val < 256 * n then p r c - ∑ a, w r a * s a c else p r c : ℝ) : EReal)
  | 0, _, r, c => by
    rw [if_neg (by omega)]
    exact hY r c
  | n + 1, hn, r, c => by
    have hlt : n < 10 := by omega
    have ht : n < k0_t3_loop.trips := by rw [trips3]; exact hlt
    have ih := trailN_apply i h2 W R Y p w s hY hW hR n (by omega)
    rw [trailN, dif_pos ht]
    generalize trailN i h2 W R Y n = Z at ih
    by_cases h : 256 * n ≤ r.val ∧ r.val < 256 * n + 256
    · have hrow := row_sub n hlt r h.1 h.2
      rw [if_pos (by omega)]
      have hx : ∀ (r' : Fin 256) (c' : Fin 2560), View.ld (Val := Elt Ideal) (e' := .f32) Z (Rect.unit (s := S2560x2560) (k0_off15 ⟨n, ht⟩) S256x2560.size (k0_off15_inb i ⟨n, ht⟩ h2)) (ix2 r' c') = (p (row n r') c' : EReal) := by
        intro r' c'
        refine (ld_unit_apply (k0_off15_inb i ⟨n, ht⟩ h2) _ (ix2 r' c') (ix2 (row n r') c') ?_).trans ?_
        · refine fun b => Eq.trans ?_ (congrArg (· + _) (congrFun (off15 ⟨n, ht⟩) b).symm)
          fin_cases b
          · exact row_val n hlt r'
          · show c'.val = 0 + c'.val; omega
        · rw [ih, if_neg (by have := row_val n hlt r'; omega)]
      have hy : ∀ (r' : Fin 256) (j : Fin 1536), View.ld (Val := Elt Ideal) (e' := .bf16) W (Rect.unit (s := S2560x1536) (k0_off16 ⟨n, ht⟩) S256x1536.size (k0_off16_inb i ⟨n, ht⟩ h2)) (ix2 r' j)
          = if j.val / 256 % 2 = 1 then (w (row n r') ⟨j.val % 256, Nat.mod_lt _ (by decide)⟩ : EReal) else 0 := by
        intro r' j
        refine (ld_unit_apply (k0_off16_inb i ⟨n, ht⟩ h2) _ (ix2 r' j) (ix2 (row n r') j) ?_).trans (hW _ _)
        refine fun b => Eq.trans ?_ (congrArg (· + _) (congrFun (off16 ⟨n, ht⟩) b).symm)
        fin_cases b
        · exact row_val n hlt r'
        · show j.val = 0 + j.val; omega
      refine (overlay_unit_in (k0_off15_inb i ⟨n, ht⟩ h2) _ _ (ix2 r c) (ix2 ⟨r.val - 256 * n, by omega⟩ c) ?_).trans ?_
      · refine fun a => Eq.trans ?_ (congrArg (· + _) (congrFun (off15 ⟨n, ht⟩) a).symm)
        fin_cases a
        · show r.val = 256 * n + (r.val - 256 * n); omega
        · show c.val = 0 + c.val; omega
      · refine (pay6_apply _ _ _ (fun r' c => p (row n r') c) (fun r' a => w (row n r') a) s hx hy hR _ _).trans ?_
        simp only [hrow]
    · refine (overlay_unit_out (k0_off15_inb i ⟨n, ht⟩ h2) _ _ (ix2 r c) (0 : Fin 2) ?_).trans ?_
      · rw [off15 ⟨n, ht⟩]; show r.val < 256 * n ∨ 256 * n + 256 ≤ r.val; omega
      rw [ih]
      by_cases h' : r.val < 256 * n
      · rw [if_pos h', if_pos (by omega)]
      · rw [if_neg h', if_neg (by omega)]

include hp h1 h3 hX in
/-- The matrix after the last loop. -/
theorem trail_apply (d6 : Vec Ideal S2560x1536 .bf16) (r c : Fin 2560) :
    trailN (grid0.coords t) h2 (wcatB (grid0.coords t) h2 X d6) (rcatB (grid0.coords t) h2 X)
        (panelN (grid0.coords t) h2 (blkB (grid0.coords t) h2 X) (Scalar.ofBits .f32 0x00000000#32) (gapB (grid0.coords t) h2 X) 10) 10 (ix2 r c)
      = ((pB A t r c - ∑ a, wF A t r a * rB A t a c : ℝ) : EReal) := by
  refine (trailN_apply _ h2 _ _ _ (pB A t) (wF A t) (rB A t) (fun r c => ?_) (wcat_apply A hp t h1 h3 h2 X hX d6) (rcat_apply A t h1 h3 h2 X hX) 10 le_rfl r c).trans
    (congrArg _ (if_pos (by have := r.isLt; omega)))
  refine (panel_apply A hp t h1 h3 h2 X hX 10 le_rfl r c).trans (congrArg _ ?_)
  unfold pB
  by_cases h : inJ t c
  · rw [dif_pos ⟨h, by have := r.isLt; omega⟩, dif_pos h]
  · rw [dif_neg (fun h' => h h'.1), dif_neg h]

include hp h1 h3 hX in
/-- The matrix after the point: swept in the block's coordinates. -/
theorem mat_apply (d6 : Vec Ideal S2560x1536 .bf16) (r c : Fin 2560) :
    matB (grid0.coords t) h2 X d6 (ix2 r c) = (it A (kB t + 256) r c : EReal) := by
  have hkk := hk t h3
  obtain ⟨b1, b2, b3⟩ := block_step A (kB t) 256 hkk (fun j hj => hp j (by omega))
  simp only [e_bl t h3] at b1 b2 b3
  unfold matB
  by_cases h : inJ t r ∧ inJ t c
  · refine (overlay_unit_in (k0_off9_inb _ h2) _ _ (ix2 r c) (ix2 (pl t h.1) (pl t h.2)) ?_).trans ?_
    · refine fun a => Eq.trans ?_ (congrArg (· + _) (congrFun (off9 t h1 h3) a).symm)
      fin_cases a
      · have := h.1.1
        show r.val = kB t + (r.val - kB t); omega
      · have := h.2.1
        show c.val = kB t + (c.val - kB t); omega
    · refine (pay7_apply _ _ _).trans ((blk_apply A hp t h1 h3 h2 X hX _ _).trans ?_)
      rw [dB, e_pl t h3, e_pl t h3]
  · have htr : matB (grid0.coords t) h2 X d6 (ix2 r c) = ((pB A t r c - ∑ a, wF A t r a * rB A t a c : ℝ) : EReal) := by
      refine Eq.trans ?_ (trail_apply A hp t h1 h3 h2 X hX d6 r c)
      unfold matB
      by_cases hr : inJ t r
      · have hc : ¬ inJ t c := fun hc => h ⟨hr, hc⟩
        refine overlay_unit_out (k0_off9_inb _ h2) _ _ (ix2 r c) (1 : Fin 2) ?_
        rw [off9 t h1 h3]; show c.val < kB t ∨ kB t + 256 ≤ c.val; omega
      · refine overlay_unit_out (k0_off9_inb _ h2) _ _ (ix2 r c) (0 : Fin 2) ?_
        rw [off9 t h1 h3]; show r.val < kB t ∨ kB t + 256 ≤ r.val; omega
    unfold matB at htr
    rw [htr]
    refine congrArg _ ?_
    by_cases hc : inJ t c
    · have hr : ¬ inJ t r := fun hr => h ⟨hr, hc⟩
      have e0 := b1 r (pl t hc) hr
      rw [e_pl t h3] at e0
      rw [e0, pB, dif_pos hc, wB]
      simp only [rB, if_pos hc, mul_zero, Finset.sum_const_zero, sub_zero, gB, if_neg hr, dB, e_pl t h3]
    · by_cases hr : inJ t r
      · have e0 := b2 (pl t hr) c hc
        rw [e_pl t h3] at e0
        rw [e0, pB, dif_neg hc]
        simp only [rB, if_neg hc, gB, if_pos hr, wF, dif_pos hr, dB, e_pl t h3, zero_sub]
      · have e0 := b3 r c hr hc
        rw [e0, pB, dif_neg hc]
        simp only [rB, if_neg hc, gB, if_neg hr, wF, dif_neg hr, wB, b1 r _ hr, dB]

end Cert.InverseIdeal.Point

end
-- ==== Proof.Inverse.Blocks.lean ====
/- What the input block of the kernel holds, as elements of the argument array. -/
module

public import proofs.«01_k».proof.Proof.Gen.InverseIdeal.Frame
public import Idealize.ShloMosaic.Lib.Pointwise
public import Idealize.ShloMosaic.Lib.Claim
public import Idealize.ShloMosaic.Lib.Pipeline.ValueKit

@[expose] public section

set_option maxRecDepth 16384

noncomputable section

namespace Cert.InverseIdeal.Blocks

open Cert.InverseIdeal Cert.InverseIdeal.Gen Idealize.ShloMosaic Idealize.ShloMosaic.TcCoe

variable (m : (ℓ : Loc nD τ sig) → Buf (Elt Ideal) ℓ) (c : Dev nD)

/-- The matrices summed. -/
abbrev aG : Vec Ideal S6x2560x2560 .bf16 := m ((c.tc : Thread nD τ).loc main_arg0)
/-- The factor. -/
abbrev aL : Vec Ideal S2560x2560 .f32 := m ((c.tc : Thread nD τ).loc main_arg1)

/-- Row `r` of row block `s`. -/
def rS (s : ℕ) (r : Fin 128) : Fin 2560 := ⟨(128 * s + r.val) % 2560, Nat.mod_lt _ (by decide)⟩

theorem rS_val (s : ℕ) (hs : s < 20) (r : Fin 128) : (rS s r).val = 128 * s + r.val := Nat.mod_eq_of_lt (by have := r.isLt; omega)

/-- The windows' blocks, point by point. -/
theorem idx : ∀ t : Fin cfg0.N, (cfg0.win 0).index t = ![0, min t.val 19, 0]
    ∧ (cfg0.win 1).index t = ![min t.val 19, 0]
    ∧ (cfg0.win 2).index t = ![t.val - 30, 0] := by decide +kernel

/-- A point of the grid is below 50. -/
theorem lt50 (t : Fin cfg0.N) : t.val < 50 := t.isLt

theorem blk0 (t : Fin cfg0.N) (k : Fin 6) (r : Fin 128) (l : Fin 2560) :
    iblk m c 0 t (ix3 k r l) = aG m c (ix3 k (rS (min t.val 19) r) l) := by
  have := lt50 t
  blk_ext [iblk, V, idx t, rS]

end Cert.InverseIdeal.Blocks

end
-- ==== Proof.Inverse.Steps.lean ====
/- The kernel's invariants over the extended reals, kept by every point where the matrix is real and has the factor: the
   scratch holds the matrix, row block by row block; then the matrix swept, coordinate block by coordinate block; the output
   blocks hold the diagonals and the parts of the inverse. -/
module

public import proofs.«01_k».proof.Proof.Inverse.Data
public import proofs.«01_k».proof.Proof.Inverse.Point
public import proofs.«01_k».proof.Proof.Inverse.Blocks

@[expose] public section

set_option maxRecDepth 16384

noncomputable section

namespace Cert.InverseIdeal.Steps

open Cert.InverseIdeal Cert.InverseIdeal.Gen Idealize.ShloMosaic Idealize.ShloMosaic.TcCoe
open Cert.InverseIdeal.Pays Cert.InverseIdeal.Blocks Cert.Sweep Cert.Kit

/-- The two factors. -/
def al : ℝ := (Ideal.ofBits .f32 0x3F666666#32).toReal
def be : ℝ := (Ideal.ofBits .f32 0x3DCCCCCD#32).toReal
theorem al_eq : Ideal.ofBits .f32 0x3F666666#32 = (al : EReal) := by
  obtain ⟨r, h⟩ := alpha_real
  rw [al, h, EReal.toReal_coe]
theorem be_eq : Ideal.ofBits .f32 0x3DCCCCCD#32 = (be : EReal) := by
  obtain ⟨r, h⟩ := beta_real
  rw [be, h, EReal.toReal_coe]

/-- The regularised sum of matrices: off its diagonal scaled down. -/
def mat (g : Fin 6 → Fin 2560 → Fin 2560 → ℝ) (r c : Fin 2560) : ℝ := al * ∑ k, g k r c + be * if r = c then ∑ k, g k r c else 0

variable (m : (ℓ : Loc nD τ sig) → Buf (Elt Ideal) ℓ) (c : Dev nD)

/-- The arguments are real numbers, and the factor is one of the matrix. -/
structure Real (g : Fin 6 → Fin 2560 → Fin 2560 → ℝ) (L : Fin 2560 → Fin 2560 → ℝ) : Prop where
  gram : ∀ k r c', aG m c (ix3 k r c') = (g k r c' : EReal)
  fac : ∀ r c', aL m c (ix2 r c') = (L r c' : EReal)
  factor : Factor (mat g) L

variable (g : Fin 6 → Fin 2560 → Fin 2560 → ℝ) (L : Fin 2560 → Fin 2560 → ℝ)

/-- The scratch invariant after `n` points. -/
def P (n : ℕ) (X : Vec Ideal S2560x2560 .f32) : Prop :=
  ∀ r c' : Fin 2560, r.val < 128 * n → X (ix2 r c') = (it (mat g) (min (256 * (n - 20)) 2560) r c' : EReal)

/-- The block of diagonals after point `t`. -/
def R1 (t : Fin cfg0.N) (X : Vec Ideal S128x128 .f32) : Prop :=
  ∀ r j : Fin 128, X (ix2 r j) = if h : j.val < 6 then aG m c (ix3 ⟨j.val, h⟩ (rS (min t.val 19) r) (rS (min t.val 19) r)) else 0

/-- The inverse. -/
def inv (r c' : Fin 2560) : ℝ := ∑ i, L i r * L i c'

/-- The block of the inverse's parts after point `t`. -/
def R2 (t : Fin cfg0.N) (X : Vec Ideal S128x7680 .bf16) : Prop :=
  30 ≤ t.val → ∀ (r : Fin 128) (j : Fin 7680), X (ix2 r j) = if h : j.val < 2560 then (inv L (rS (t.val - 30) r) ⟨j.val, h⟩ : EReal) else 0

/-- The body's loads at a point that reads. -/
theorem slab0 (x : Vec Ideal S6x128x2560 .bf16) (r : Fin 128) (j : Fin 2560) :
    View.ld (Val := Elt Ideal) (e' := .bf16) x (Rect.unit (s := S6x128x2560) ![0, 0, 0] S1x128x2560.size inb_S6x128x2560_S1x128x2560_0_0_0) (ix3 0 r j) = x (ix3 0 r j) := by
  refine ld_unit_apply (s := S6x128x2560) inb_S6x128x2560_S1x128x2560_0_0_0 _ (ix3 0 r j) (ix3 0 r j) fun a => ?_
  fin_cases a
  · rfl
  · show r.val = 0 + r.val; omega
  · show j.val = 0 + j.val; omega
theorem slab1 (x : Vec Ideal S6x128x2560 .bf16) (r : Fin 128) (j : Fin 2560) :
    View.ld (Val := Elt Ideal) (e' := .bf16) x (Rect.unit (s := S6x128x2560) ![1, 0, 0] S1x128x2560.size inb_S6x128x2560_S1x128x2560_1_0_0) (ix3 0 r j) = x (ix3 1 r j) := by
  refine ld_unit_apply (s := S6x128x2560) inb_S6x128x2560_S1x128x2560_1_0_0 _ (ix3 0 r j) (ix3 1 r j) fun a => ?_
  fin_cases a
  · rfl
  · show r.val = 0 + r.val; omega
  · show j.val = 0 + j.val; omega
theorem slab2 (x : Vec Ideal S6x128x2560 .bf16) (r : Fin 128) (j : Fin 2560) :
    View.ld (Val := Elt Ideal) (e' := .bf16) x (Rect.unit (s := S6x128x2560) ![2, 0, 0] S1x128x2560.size inb_S6x128x2560_S1x128x2560_2_0_0) (ix3 0 r j) = x (ix3 2 r j) := by
  refine ld_unit_apply (s := S6x128x2560) inb_S6x128x2560_S1x128x2560_2_0_0 _ (ix3 0 r j) (ix3 2 r j) fun a => ?_
  fin_cases a
  · rfl
  · show r.val = 0 + r.val; omega
  · show j.val = 0 + j.val; omega
theorem slab3 (x : Vec Ideal S6x128x2560 .bf16) (r : Fin 128) (j : Fin 2560) :
    View.ld (Val := Elt Ideal) (e' := .bf16) x (Rect.unit (s := S6x128x2560) ![3, 0, 0] S1x128x2560.size inb_S6x128x2560_S1x128x2560_3_0_0) (ix3 0 r j) = x (ix3 3 r j) := by
  refine ld_unit_apply (s := S6x128x2560) inb_S6x128x2560_S1x128x2560_3_0_0 _ (ix3 0 r j) (ix3 3 r j) fun a => ?_
  fin_cases a
  · rfl
  · show r.val = 0 + r.val; omega
  · show j.val = 0 + j.val; omega
theorem slab4 (x : Vec Ideal S6x128x2560 .bf16) (r : Fin 128) (j : Fin 2560) :
    View.ld (Val := Elt Ideal) (e' := .bf16) x (Rect.unit (s := S6x128x2560) ![4, 0, 0] S1x128x2560.size inb_S6x128x2560_S1x128x2560_4_0_0) (ix3 0 r j) = x (ix3 4 r j) := by
  refine ld_unit_apply (s := S6x128x2560) inb_S6x128x2560_S1x128x2560_4_0_0 _ (ix3 0 r j) (ix3 4 r j) fun a => ?_
  fin_cases a
  · rfl
  · show r.val = 0 + r.val; omega
  · show j.val = 0 + j.val; omega
theorem slab5 (x : Vec Ideal S6x128x2560 .bf16) (r : Fin 128) (j : Fin 2560) :
    View.ld (Val := Elt Ideal) (e' := .bf16) x (Rect.unit (s := S6x128x2560) ![5, 0, 0] S1x128x2560.size inb_S6x128x2560_S1x128x2560_5_0_0) (ix3 0 r j) = x (ix3 5 r j) := by
  refine ld_unit_apply (s := S6x128x2560) inb_S6x128x2560_S1x128x2560_5_0_0 _ (ix3 0 r j) (ix3 5 r j) fun a => ?_
  fin_cases a
  · rfl
  · show r.val = 0 + r.val; omega
  · show j.val = 0 + j.val; omega
theorem off2 : ∀ t : Fin cfg0.N, t.val < 20 → k0_off2 (grid0.coords t) = ![0, 0, 128 * t.val] := by decide +kernel
theorem tile0 (t : Fin cfg0.N) (ht : t.val < 20) (h1 : k0_cond1 (grid0.coords t) = 1#1) (x : Vec Ideal S6x128x2560 .bf16) (r j : Fin 128) :
    View.ld (Val := Elt Ideal) (e' := .bf16) x (Rect.unit (s := S6x128x2560) (k0_off2 (grid0.coords t)) S1x128x128.size (k0_off2_inb (grid0.coords t) h1)) (ix3 0 r j) = x (ix3 0 r (rS t.val j)) := by
  refine ld_unit_apply (k0_off2_inb _ h1) _ (ix3 0 r j) (ix3 0 r (rS t.val j)) ?_
  refine fun a => Eq.trans ?_ (congrArg (· + _) (congrFun (off2 t ht) a).symm)
  fin_cases a
  · rfl
  · show r.val = 0 + r.val; omega
  · exact rS_val t.val ht j
theorem off3 : ∀ t : Fin cfg0.N, t.val < 20 → k0_off3 (grid0.coords t) = ![1, 0, 128 * t.val] := by decide +kernel
theorem tile1 (t : Fin cfg0.N) (ht : t.val < 20) (h1 : k0_cond1 (grid0.coords t) = 1#1) (x : Vec Ideal S6x128x2560 .bf16) (r j : Fin 128) :
    View.ld (Val := Elt Ideal) (e' := .bf16) x (Rect.unit (s := S6x128x2560) (k0_off3 (grid0.coords t)) S1x128x128.size (k0_off3_inb (grid0.coords t) h1)) (ix3 0 r j) = x (ix3 1 r (rS t.val j)) := by
  refine ld_unit_apply (k0_off3_inb _ h1) _ (ix3 0 r j) (ix3 1 r (rS t.val j)) ?_
  refine fun a => Eq.trans ?_ (congrArg (· + _) (congrFun (off3 t ht) a).symm)
  fin_cases a
  · rfl
  · show r.val = 0 + r.val; omega
  · exact rS_val t.val ht j
theorem off4 : ∀ t : Fin cfg0.N, t.val < 20 → k0_off4 (grid0.coords t) = ![2, 0, 128 * t.val] := by decide +kernel
theorem tile2 (t : Fin cfg0.N) (ht : t.val < 20) (h1 : k0_cond1 (grid0.coords t) = 1#1) (x : Vec Ideal S6x128x2560 .bf16) (r j : Fin 128) :
    View.ld (Val := Elt Ideal) (e' := .bf16) x (Rect.unit (s := S6x128x2560) (k0_off4 (grid0.coords t)) S1x128x128.size (k0_off4_inb (grid0.coords t) h1)) (ix3 0 r j) = x (ix3 2 r (rS t.val j)) := by
  refine ld_unit_apply (k0_off4_inb _ h1) _ (ix3 0 r j) (ix3 2 r (rS t.val j)) ?_
  refine fun a => Eq.trans ?_ (congrArg (· + _) (congrFun (off4 t ht) a).symm)
  fin_cases a
  · rfl
  · show r.val = 0 + r.val; omega
  · exact rS_val t.val ht j
theorem off5 : ∀ t : Fin cfg0.N, t.val < 20 → k0_off5 (grid0.coords t) = ![3, 0, 128 * t.val] := by decide +kernel
theorem tile3 (t : Fin cfg0.N) (ht : t.val < 20) (h1 : k0_cond1 (grid0.coords t) = 1#1) (x : Vec Ideal S6x128x2560 .bf16) (r j : Fin 128) :
    View.ld (Val := Elt Ideal) (e' := .bf16) x (Rect.unit (s := S6x128x2560) (k0_off5 (grid0.coords t)) S1x128x128.size (k0_off5_inb (grid0.coords t) h1)) (ix3 0 r j) = x (ix3 3 r (rS t.val j)) := by
  refine ld_unit_apply (k0_off5_inb _ h1) _ (ix3 0 r j) (ix3 3 r (rS t.val j)) ?_
  refine fun a => Eq.trans ?_ (congrArg (· + _) (congrFun (off5 t ht) a).symm)
  fin_cases a
  · rfl
  · show r.val = 0 + r.val; omega
  · exact rS_val t.val ht j
theorem off6 : ∀ t : Fin cfg0.N, t.val < 20 → k0_off6 (grid0.coords t) = ![4, 0, 128 * t.val] := by decide +kernel
theorem tile4 (t : Fin cfg0.N) (ht : t.val < 20) (h1 : k0_cond1 (grid0.coords t) = 1#1) (x : Vec Ideal S6x128x2560 .bf16) (r j : Fin 128) :
    View.ld (Val := Elt Ideal) (e' := .bf16) x (Rect.unit (s := S6x128x2560) (k0_off6 (grid0.coords t)) S1x128x128.size (k0_off6_inb (grid0.coords t) h1)) (ix3 0 r j) = x (ix3 4 r (rS t.val j)) := by
  refine ld_unit_apply (k0_off6_inb _ h1) _ (ix3 0 r j) (ix3 4 r (rS t.val j)) ?_
  refine fun a => Eq.trans ?_ (congrArg (· + _) (congrFun (off6 t ht) a).symm)
  fin_cases a
  · rfl
  · show r.val = 0 + r.val; omega
  · exact rS_val t.val ht j
theorem off7 : ∀ t : Fin cfg0.N, t.val < 20 → k0_off7 (grid0.coords t) = ![5, 0, 128 * t.val] := by decide +kernel
theorem tile5 (t : Fin cfg0.N) (ht : t.val < 20) (h1 : k0_cond1 (grid0.coords t) = 1#1) (x : Vec Ideal S6x128x2560 .bf16) (r j : Fin 128) :
    View.ld (Val := Elt Ideal) (e' := .bf16) x (Rect.unit (s := S6x128x2560) (k0_off7 (grid0.coords t)) S1x128x128.size (k0_off7_inb (grid0.coords t) h1)) (ix3 0 r j) = x (ix3 5 r (rS t.val j)) := by
  refine ld_unit_apply (k0_off7_inb _ h1) _ (ix3 0 r j) (ix3 5 r (rS t.val j)) ?_
  refine fun a => Eq.trans ?_ (congrArg (· + _) (congrFun (off7 t ht) a).symm)
  fin_cases a
  · rfl
  · show r.val = 0 + r.val; omega
  · exact rS_val t.val ht j
theorem off1 : ∀ t : Fin cfg0.N, t.val < 20 → k0_off1 (grid0.coords t) = ![128 * t.val, 0] := by decide +kernel
theorem off8 : ∀ t : Fin cfg0.N, t.val < 20 → k0_off8 (grid0.coords t) = ![128 * t.val, 128 * t.val] := by decide +kernel
theorem off17 : ∀ t : Fin cfg0.N, 30 ≤ t.val → k0_off17 (grid0.coords t) = ![128 * (t.val - 30), 0] := by decide +kernel

/-- The sum of six real numbers. -/
theorem six (f : Fin 6 → ℝ) : (f 0 : EReal) + f 1 + f 2 + f 3 + f 4 + f 5 = ((∑ k, f k : ℝ) : EReal) := by
  rw [← EReal.coe_add, ← EReal.coe_add, ← EReal.coe_add, ← EReal.coe_add, ← EReal.coe_add]
  congr 1
  simp [Fin.sum_univ_succ]
  ring

variable (hR : Real m c g L)
include hR

/-- The rows a point that reads stores. -/
theorem rows_apply (t : Fin cfg0.N) (ht : t.val < 20) (h1 : k0_cond1 (grid0.coords t) = 1#1) (d4 : Vec Ideal S2560x2560 .f32) (r : Fin 128) (c' : Fin 2560) :
    rowsA (grid0.coords t) h1 (iblk m c 0 t) d4 (ix2 (rS t.val r) c') = ((al * ∑ k, g k (rS t.val r) c' : ℝ) : EReal) := by
  have hm : min t.val 19 = t.val := by omega
  unfold rowsA
  refine (overlay_unit_in (k0_off1_inb _ h1) _ _ (ix2 (rS t.val r) c') (ix2 r c') ?_).trans ?_
  · refine fun a => Eq.trans ?_ (congrArg (· + _) (congrFun (off1 t ht) a).symm)
    fin_cases a
    · exact rS_val t.val ht r
    · show c'.val = 0 + c'.val; omega
  · refine (pay13_apply _ _ _ _ _ _ r c').trans ?_
    rw [slab0, slab1, slab2, slab3, slab4, slab5]
    simp only [blk0, hm, hR.gram]
    rw [six (fun k => g k (rS t.val r) c'), al_eq, EReal.coe_mul]

/-- The diagonal it adds. -/
theorem dsum_apply (t : Fin cfg0.N) (ht : t.val < 20) (h1 : k0_cond1 (grid0.coords t) = 1#1) (r j : Fin 128) :
    dsumA (grid0.coords t) h1 (iblk m c 0 t) (ix2 r j) = ((if r = j then ∑ k, g k (rS t.val r) (rS t.val j) else 0 : ℝ) : EReal) := by
  have hm : min t.val 19 = t.val := by omega
  unfold dsumA
  refine (pay24_apply _ _ _ _ _ _ r j).trans ?_
  rw [tile0 t ht h1, tile1 t ht h1, tile2 t ht h1, tile3 t ht h1, tile4 t ht h1, tile5 t ht h1]
  simp only [blk0, hm, hR.gram]
  rw [six (fun k => g k (rS t.val r) (rS t.val j))]
  split <;> simp

omit hR in
/-- The diagonal block of a point that reads, read off any contents. -/
theorem diag_ld0 (t : Fin cfg0.N) (ht : t.val < 20) (h1 : k0_cond1 (grid0.coords t) = 1#1) (X : Vec Ideal S2560x2560 .f32) (r j : Fin 128) :
    View.ld (Val := Elt Ideal) (e' := .f32) X (Rect.unit (s := S2560x2560) (k0_off8 (grid0.coords t)) S128x128.size (k0_off8_inb (grid0.coords t) h1)) (ix2 r j)
      = X (ix2 (rS t.val r) (rS t.val j)) := by
  refine ld_unit_apply (k0_off8_inb _ h1) _ (ix2 r j) (ix2 (rS t.val r) (rS t.val j)) ?_
  refine fun a => Eq.trans ?_ (congrArg (· + _) (congrFun (off8 t ht) a).symm)
  fin_cases a
  · exact rS_val t.val ht r
  · exact rS_val t.val ht j

/-- The stored rows' diagonal block, read back. -/
theorem diag_ld (t : Fin cfg0.N) (ht : t.val < 20) (h1 : k0_cond1 (grid0.coords t) = 1#1) (d4 : Vec Ideal S2560x2560 .f32) (r j : Fin 128) :
    View.ld (Val := Elt Ideal) (e' := .f32) (rowsA (grid0.coords t) h1 (iblk m c 0 t) d4) (Rect.unit (s := S2560x2560) (k0_off8 (grid0.coords t)) S128x128.size (k0_off8_inb (grid0.coords t) h1)) (ix2 r j)
      = ((al * ∑ k, g k (rS t.val r) (rS t.val j) : ℝ) : EReal) :=
  (diag_ld0 t ht h1 _ r j).trans (rows_apply m c g L hR t ht h1 d4 r (rS t.val j))

set_option maxHeartbeats 1000000 in
/-- A point that reads keeps the scratch's invariant. -/
theorem mat_read (t : Fin cfg0.N) (ht : t.val < 20) (h1 : k0_cond1 (grid0.coords t) = 1#1) (d4 : Vec Ideal S2560x2560 .f32) (hP : P g t.val d4) :
    P g (t.val + 1) (matA (grid0.coords t) h1 (iblk m c 0 t) d4) := by
  intro r c' hr
  have h0 : min (256 * (t.val + 1 - 20)) 2560 = 0 := by omega
  have h0' : min (256 * (t.val - 20)) 2560 = 0 := by omega
  rw [h0, it]
  by_cases h : r.val < 128 * t.val
  · have hv := hP r c' h
    rw [h0', it] at hv
    rw [← hv]
    unfold matA rowsA
    refine (overlay_unit_out (k0_off8_inb _ h1) _ _ (ix2 r c') (0 : Fin 2) ?_).trans (overlay_unit_out (k0_off1_inb _ h1) _ _ (ix2 r c') (0 : Fin 2) ?_)
    · rw [off8 t ht]; left; exact h
    · rw [off1 t ht]; left; exact h
  · obtain ⟨r', rfl⟩ : ∃ r' : Fin 128, rS t.val r' = r := ⟨⟨r.val - 128 * t.val, by omega⟩, Fin.ext ((rS_val t.val ht _).trans (by show 128 * t.val + (r.val - 128 * t.val) = r.val; omega))⟩
    by_cases hc : 128 * t.val ≤ c'.val ∧ c'.val < 128 * t.val + 128
    · obtain ⟨j, rfl⟩ : ∃ j : Fin 128, rS t.val j = c' := ⟨⟨c'.val - 128 * t.val, by omega⟩, Fin.ext ((rS_val t.val ht _).trans (by show 128 * t.val + (c'.val - 128 * t.val) = c'.val; omega))⟩
      unfold matA
      refine (overlay_unit_in (k0_off8_inb _ h1) _ _ (ix2 (rS t.val r') (rS t.val j)) (ix2 r' j) ?_).trans ?_
      · refine fun a => Eq.trans ?_ (congrArg (· + _) (congrFun (off8 t ht) a).symm)
        fin_cases a
        · exact rS_val t.val ht r'
        · exact rS_val t.val ht j
      · refine (pay1_apply _ _ r' j).trans ?_
        rw [dsum_apply m c g L hR t ht h1 r' j, be_eq]
        rw [diag_ld m c g L hR t ht h1 d4 r' j, ← EReal.coe_mul, ← EReal.coe_add, mat]
        have hiff : r' = j ↔ rS t.val r' = rS t.val j := by
          rw [Fin.ext_iff, Fin.ext_iff, rS_val t.val ht, rS_val t.val ht]; omega
        simp only [hiff]
    · unfold matA
      refine (overlay_unit_out (k0_off8_inb _ h1) _ _ (ix2 (rS t.val r') c') (1 : Fin 2) ?_).trans ((rows_apply m c g L hR t ht h1 d4 r' c').trans ?_)
      · rw [off8 t ht]; show c'.val < 128 * t.val ∨ 128 * t.val + 128 ≤ c'.val; omega
      · have hne : ¬ rS t.val r' = c' := fun h' => hc (by rw [← h', rS_val t.val ht]; have := r'.isLt; omega)
        rw [mat, if_neg hne, mul_zero, add_zero]

omit hR in
/-- It leaves the diagonals. -/
theorem diag_read (t : Fin cfg0.N) (ht : t.val < 20) (h1 : k0_cond1 (grid0.coords t) = 1#1) :
    R1 m c t (diagA (grid0.coords t) h1 (iblk m c 0 t)) := by
  intro r j
  have hm : min t.val 19 = t.val := by omega
  unfold diagA
  refine (pay25_apply _ _ _ _ _ _ r j).trans ?_
  rw [tile0 t ht h1, tile1 t ht h1, tile2 t ht h1, tile3 t ht h1, tile4 t ht h1, tile5 t ht h1]
  simp only [blk0, hm]
  by_cases h : j.val < 6
  · rw [dif_pos h]
    obtain ⟨k, hk⟩ : ∃ k : Fin 6, (⟨j.val, h⟩ : Fin 6) = k := ⟨_, rfl⟩
    have hv : j.val = k.val := congrArg Fin.val hk
    rw [hk, hv]
    fin_cases k <;> rfl
  · rw [dif_neg h, if_neg (by omega), if_neg (by omega), if_neg (by omega), if_neg (by omega), if_neg (by omega), if_neg (by omega)]

/-- No pivot is zero. -/
theorem hpiv : Piv (mat g) 2560 := piv hR.factor 2560 le_rfl

/-- A point that sweeps keeps the invariant. -/
theorem mat_sweep (t : Fin cfg0.N) (h2 : k0_cond2 (grid0.coords t) = 1#1) (ht : 20 ≤ t.val) (ht' : t.val < 30) (d4 : Vec Ideal S2560x2560 .f32) (d6 : Vec Ideal S2560x1536 .bf16)
    (hP : P g t.val d4) : P g (t.val + 1) (matB (grid0.coords t) h2 d4 d6) := by
  intro r c' _
  have h0 : min (256 * (t.val - 20)) 2560 = 256 * (t.val - 20) := by omega
  have h1 : min (256 * (t.val + 1 - 20)) 2560 = 256 * (t.val - 20) + 256 := by omega
  rw [h1]
  refine Point.mat_apply (mat g) (hpiv m c g L hR) t ht ht' h2 d4 (fun r c' => ?_) d6 r c'
  have := hP r c' (by have := r.isLt; omega)
  rw [h0] at this
  exact this

/-- A point that writes out leaves the parts of the inverse's rows. -/
theorem parts_out (t : Fin cfg0.N) (h3 : k0_cond3 (grid0.coords t) = 1#1) (ht : 30 ≤ t.val) (d3 : Vec Ideal S128x7680 .bf16) (d4 : Vec Ideal S2560x2560 .f32)
    (hP : P g t.val d4) : R2 L t (partsC (grid0.coords t) h3 d3 d4) := by
  intro _ r j
  have h50 := lt50 t
  have h0 : min (256 * (t.val - 20)) 2560 = 2560 := by omega
  have hld : ∀ c' : Fin 2560, View.ld (Val := Elt Ideal) (e' := .f32) d4 (Rect.unit (s := S2560x2560) (k0_off17 (grid0.coords t)) S128x2560.size (k0_off17_inb (grid0.coords t) h3)) (ix2 r c')
      = (it (mat g) 2560 (rS (t.val - 30) r) c' : EReal) := by
    intro c'
    refine (ld_unit_apply (k0_off17_inb _ h3) _ (ix2 r c') (ix2 (rS (t.val - 30) r) c') ?_).trans ?_
    · refine fun a => Eq.trans ?_ (congrArg (· + _) (congrFun (off17 t ht) a).symm)
      fin_cases a
      · exact rS_val (t.val - 30) (by omega) r
      · show c'.val = 0 + c'.val; omega
    · have := hP (rS (t.val - 30) r) c' (by have := (rS (t.val - 30) r).isLt; omega)
      rw [h0] at this
      exact this
  have hj := j.isLt
  unfold partsC
  by_cases h5 : 5120 ≤ j.val
  · rw [dif_neg (by omega)]
    refine (overlay_unit_in (s := S128x7680) inb_S128x7680_S128x2560_0_5120 _ _ (ix2 r j) (ix2 r ⟨j.val - 5120, by omega⟩) fun a => ?_).trans (pay12_apply _ _ _ _ (hld _))
    fin_cases a
    · show r.val = 0 + r.val; omega
    · show j.val = 5120 + (j.val - 5120); omega
  refine (overlay_unit_out (s := S128x7680) inb_S128x7680_S128x2560_0_5120 _ _ (ix2 r j) (1 : Fin 2) ?_).trans ?_
  · left; show j.val < 5120; omega
  by_cases h2 : 2560 ≤ j.val
  · rw [dif_neg (by omega)]
    refine (overlay_unit_in (s := S128x7680) inb_S128x7680_S128x2560_0_2560 _ _ (ix2 r j) (ix2 r ⟨j.val - 2560, by omega⟩) fun a => ?_).trans (pay11_apply _ _ _ _ (hld _))
    fin_cases a
    · show r.val = 0 + r.val; omega
    · show j.val = 2560 + (j.val - 2560); omega
  refine (overlay_unit_out (s := S128x7680) inb_S128x7680_S128x2560_0_2560 _ _ (ix2 r j) (1 : Fin 2) ?_).trans ?_
  · left; show j.val < 2560; omega
  rw [dif_pos (by omega)]
  refine (overlay_unit_in (s := S128x7680) inb_S128x7680_S128x2560_0_0 _ _ (ix2 r j) (ix2 r ⟨j.val, by omega⟩) fun a => ?_).trans ((pay9_apply _ _ _ _ (hld _)).trans ?_)
  · fin_cases a
    · show r.val = 0 + r.val; omega
    · show j.val = 0 + j.val; omega
  · exact congrArg _ (it_all hR.factor _ _)

/-- Every point keeps the invariants. -/
theorem steps : Cert.InverseIdeal.Gen.Steps m c (P g) (R1 m c) (R2 L) where
  zero := fun X r c' h => absurd h (by omega)
  read := fun t h1 ht d4 hP => ⟨mat_read m c g L hR t ht h1 d4 hP, diag_read m c t ht h1⟩
  sweep := fun t h2 ht ht' d4 d6 hP => mat_sweep m c g L hR t h2 ht ht' d4 d6 hP
  out := fun t h3 ht d3 d4 hP => ⟨fun r c' _ => by
    have := hP r c' (by have := r.isLt; omega)
    rw [show min (256 * (t.val - 20)) 2560 = 2560 by omega] at this
    rw [show min (256 * (t.val + 1 - 20)) 2560 = 2560 by omega]
    exact this, parts_out m c g L hR t h3 ht d3 d4 hP⟩
  keep := fun t u ht hu X h r j => by
    have := h r j
    rw [show min u.val 19 = min t.val 19 by omega] at this
    exact this
  before := fun t ht X h => absurd h (by omega)

end Cert.InverseIdeal.Steps

end
-- ==== Proof.Inverse.Factored.lean ====
/- The precondition, read: where it holds, every element of both arguments is a real number, and the factor is one of the
   regularised matrix. -/
module

public import proofs.«01_k».proof.Defs
public import proofs.«01_k».proof.Proof.Gen.Pre_factored
public import proofs.«01_k».proof.Proof.Inverse.Steps
public import Idealize.ShloMosaic.Lib.ReduceAll

@[expose] public section

set_option maxRecDepth 16384

noncomputable section

namespace Cert.InverseIdeal.Factored

open Cert.Pre_factored Idealize.ShloMosaic Idealize.ShloMosaic.TcCoe Cert.InverseIdeal.Steps Cert.Sweep

/-- The comparison's right operand is plus infinity. -/
theorem inf_eq : Ideal.ofBits .f32 0x7F800000#32 = ⊤ := by simp [Ideal.ofBits, Ideal.ieee]

/-- An extended real whose absolute value is below plus infinity is a real number. -/
theorem real_of_abs_lt (x : EReal) (h : Ideal.cmp .olt (max x (-x)) ⊤ = 1#1) : ∃ r : ℝ, x = (r : EReal) := by
  induction x with
  | bot => simp [Ideal.cmp] at h
  | coe r => exact ⟨r, rfl⟩
  | top => simp [Ideal.cmp] at h

/-- The regularised matrix as the predicate forms it. -/
def reg (A : FVec Ideal S6x2560x2560 .bf16) : FVec Ideal S2560x2560 .f32 :=
  addf (mulf (broadcastInDim S2560x2560 ![] Gen.bcast_S_S2560x2560 (constant S_ .f32 0x3F666666#32)) (Host.reduceAdd (F := Ideal) (extf .f32 A Gen.bitsLt_bf16_f32) (constant S_ .f32 0x00000000#32) Gen.reducesTo_S6x2560x2560_S2560x2560_d0 Gen.h_S_))
    (mulf (broadcastInDim S2560x2560 ![] Gen.bcast_S_S2560x2560 (constant S_ .f32 0x3DCCCCCD#32))
      (fn_where (F := Ideal) (cmpi .eq (addi (iotaInDim S2560x2560 32 0) (broadcastInDim S2560x2560 ![] Gen.bcast_S_S2560x2560 (constantI S_ 32 0#32))) (iotaInDim S2560x2560 32 1)) (Host.reduceAdd (F := Ideal) (extf .f32 A Gen.bitsLt_bf16_f32) (constant S_ .f32 0x00000000#32) Gen.reducesTo_S6x2560x2560_S2560x2560_d0 Gen.h_S_) (constant S_ .f32 0x00000000#32)))

/-- The product the predicate compares with the identity. -/
def prod (A : FVec Ideal S6x2560x2560 .bf16) (B : FVec Ideal S2560x2560 .f32) : FVec Ideal S2560x2560 .f32 :=
  Host.dotGeneral (F := Ideal) (φ₂ := .f32) dot_S2560x2560_S2560x2560_S2560x2560_1_0_0_1_n_n none
    (Host.dotGeneral (F := Ideal) (φ₂ := .f32) dot_S2560x2560_S2560x2560_S2560x2560_1_0_0_1_n_n none B (reg A))
    (transpose S2560x2560 [1, 0] B Gen.transposes_S2560x2560_S2560x2560_1_0)

/-- The identity. -/
def one : FVec Ideal S2560x2560 .f32 :=
  uitofp .f32 (cmpi .eq (addi (iotaInDim S2560x2560 32 0) (broadcastInDim S2560x2560 ![] Gen.bcast_S_S2560x2560 (constantI S_ 32 0#32))) (iotaInDim S2560x2560 32 1))

/-- What the predicate says, element by element. -/
theorem reads (A : FVec Ideal S6x2560x2560 .bf16) (B : FVec Ideal S2560x2560 .f32)
    (h : Cert.Pre_factored.fn (F := Ideal) A B = fun _ => 1#1) :
    (∀ i, ∃ r : ℝ, A i = (r : EReal)) ∧ (∀ i, ∃ r : ℝ, B i = (r : EReal)) ∧ ∀ i, Ideal.cmp .oeq (prod A B i) (one i) = 1#1 := by
  have h0 := congrFun h (fun a => a.elim0)
  haveI : Subsingleton Cert.Pre_factored.S_.Idx := ⟨fun a b => funext fun i => i.elim0⟩
  obtain ⟨hAB, hE⟩ := IntOp.andi_eq_one.1 h0
  obtain ⟨hA, hB⟩ := IntOp.andi_eq_one.1 hAB
  refine ⟨fun i => ?_, fun i => ?_, fun i => ?_⟩
  · refine real_of_abs_lt _ ?_
    rw [← inf_eq]
    exact Host.reduce_andi_all _ _ _ _ _ hA i
  · refine real_of_abs_lt _ ?_
    rw [← inf_eq]
    exact Host.reduce_andi_all _ _ _ _ _ hB i
  · exact Host.reduce_andi_all _ _ _ _ _ hE i

/-- The coordinates' words are equal only where the coordinates are. -/
theorem coord_eq (r c : Fin 2560) : IntOp.addi (BitVec.ofNat 32 r.val) 0#32 = BitVec.ofNat 32 c.val ↔ r = c := by
  rw [show IntOp.addi (BitVec.ofNat 32 r.val) 0#32 = BitVec.ofNat 32 r.val from BitVec.add_zero _, Fin.ext_iff]
  exact Cert.InverseIdeal.Pays.ofNat_inj (by have := r.isLt; omega) (by have := c.isLt; omega)

theorem one_apply (r c : Fin 2560) : one (ix2 r c) = ((if r = c then 1 else 0 : ℝ) : EReal) := by
  unfold one
  pointwise
  by_cases h : r = c
  · rw [if_pos h, show IntOp.cmpi CmpIPredicate.eq (IntOp.addi (BitVec.ofNat 32 r.val) 0#32) (BitVec.ofNat 32 c.val) = 1#1 by
      simp [IntOp.cmpi, (coord_eq r c).mpr h]]
    show ((_ : ℝ) : EReal) = _
    simp
  · rw [if_neg h, show IntOp.cmpi CmpIPredicate.eq (IntOp.addi (BitVec.ofNat 32 r.val) 0#32) (BitVec.ofNat 32 c.val) = 0#1 by
      have h' := fun e => h ((coord_eq r c).mp e)
      show BitVec.ofBool (_ == _) = _
      rw [beq_eq_false_iff_ne.mpr h']
      rfl]
    show ((_ : ℝ) : EReal) = _
    simp

theorem reg_apply (A : FVec Ideal S6x2560x2560 .bf16) (g : Fin 6 → Fin 2560 → Fin 2560 → ℝ) (hg : ∀ k r c, A (ix3 k r c) = (g k r c : EReal)) (r c : Fin 2560) :
    reg A (ix2 r c) = (mat g r c : EReal) := by
  unfold reg fn_where
  pointwise
  simp only [hg]
  rw [Cert.InverseIdeal.Pays.coe_sum, Cert.InverseIdeal.Pays.select_eq, al_eq, be_eq, mat, EReal.coe_add, EReal.coe_mul, EReal.coe_mul]
  congr 2
  by_cases h : r = c
  · rw [if_pos h, if_pos ((coord_eq r c).mpr h)]
  · rw [if_neg h, if_neg fun e => h ((coord_eq r c).mp e)]
    show Ideal.ofBits .f32 0#32 = _
    simp

theorem prod_apply (A : FVec Ideal S6x2560x2560 .bf16) (B : FVec Ideal S2560x2560 .f32) (r c : Fin 2560) :
    prod A B (ix2 r c) = ∑ j : Fin 2560, (∑ i : Fin 2560, B (ix2 r i) * reg A (ix2 i j)) * B (ix2 c j) := by
  unfold prod
  pointwise

/-- Where the arguments are real, the product is real. -/
theorem prod_real (A : FVec Ideal S6x2560x2560 .bf16) (B : FVec Ideal S2560x2560 .f32) (g : Fin 6 → Fin 2560 → Fin 2560 → ℝ) (L : Fin 2560 → Fin 2560 → ℝ)
    (hg : ∀ k r c, A (ix3 k r c) = (g k r c : EReal)) (hL : ∀ r c, B (ix2 r c) = (L r c : EReal)) (r c : Fin 2560) :
    prod A B (ix2 r c) = ((∑ j, (∑ i, L r i * mat g i j) * L c j : ℝ) : EReal) := by
  rw [prod_apply, ← Cert.InverseIdeal.Pays.coe_sum]
  refine Finset.sum_congr rfl fun j _ => ?_
  rw [hL, EReal.coe_mul, ← Cert.InverseIdeal.Pays.coe_sum]
  refine congrArg (fun v : EReal => v * (L c j : EReal)) (Finset.sum_congr rfl fun i _ => ?_)
  rw [hL, reg_apply A g hg, EReal.coe_mul]

/-- An ordered comparison for equality that is true says that its operands are equal. -/
theorem eq_of_cmp (x y : EReal) (h : Ideal.cmp .oeq x y = 1#1) : x = y := by
  by_contra hn
  simp [Ideal.cmp, hn] at h

/-- The precondition gives what the invariants need. -/
theorem real_of_pre (m : (ℓ : Loc Cert.InverseIdeal.nD Cert.InverseIdeal.τ Cert.InverseIdeal.sig) → Buf (Elt Ideal) ℓ)
    (h : Cert.Pre_InverseIdeal_factored (hPre_factored := Cert.Pre_factored.Gen.facts) m) (c : Dev Cert.InverseIdeal.nD) :
    ∃ g L, Steps.Real m c g L := by
  obtain ⟨hA, hB, hE⟩ := reads _ _ (h c)
  choose g hg using hA
  choose L hL using hB
  refine ⟨fun k r c' => g (ix3 k r c'), fun r c' => L (ix2 r c'), fun k r c' => hg _, fun r c' => hL _, fun r c' => ?_⟩
  have e := eq_of_cmp _ _ (hE (ix2 r c'))
  rw [one_apply, prod_real _ _ (fun k r c' => g (ix3 k r c')) (fun r c' => L (ix2 r c')) (fun k r c' => hg _) (fun r c' => hL _)] at e
  exact EReal.coe_injective e

end Cert.InverseIdeal.Factored

end
-- ==== Proof.Inverse.Ref.lean ====
/- The reference's two results at an index, over the extended reals. -/
module

public import proofs.«01_k».proof.Proof.Gen.InverseRefIdeal.Run
public import proofs.«01_k».proof.Proof.Inverse.Pays
public import Idealize.ShloMosaic.Lib.Pointwise
public import Idealize.ShloMosaic.Lib.KernelVsHost

@[expose] public section

set_option maxRecDepth 16384

noncomputable section

namespace Cert.InverseRefIdeal.RefValue

open Cert.InverseRefIdeal Cert.InverseRefIdeal.Gen Idealize.ShloMosaic Idealize.ShloMosaic.TcCoe

/-- The matrices' diagonals, padded with columns of zeros. -/
def diags (A : Vec Ideal S6x2560x2560 .bf16) : Vec Ideal S2560x128 .f32 :=
  pad S2560x128 ![0, 0] ![0, 122] ![0, 0] (transpose S2560x6 [1, 0] (Host.reduceAdd (F := Ideal) (select (broadcastInDim S6x2560x2560 ![0, 1, 2] bcast_S1x2560x2560_S6x2560x2560_0_1_2 (broadcastInDim S1x2560x2560 ![1, 2] bcast_S2560x2560_S1x2560x2560_1_2 (cmpi .eq (addi (iotaInDim S2560x2560 32 0) (broadcastInDim S2560x2560 ![] bcast_S_S2560x2560 (constantI S_ 32 0#32))) (iotaInDim S2560x2560 32 1)))) (extf .f32 A bitsLt_bf16_f32) (broadcastInDim S6x2560x2560 ![] bcast_S_S6x2560x2560 (id (constant S_ .f32 0x00000000#32)))) (constant S_ .f32 0x00000000#32) reducesTo_S6x2560x2560_S6x2560_d2 h_S_) transposes_S6x2560_S2560x6_1_0) (sitofp (F := Ideal) .f32 (constantI S_ 32 0#32)) pads_S2560x6_S2560x128_000_01220 h_S_

/-- The product of the factor's transpose with the factor. -/
def prod (L : Vec Ideal S2560x2560 .f32) : FVec Ideal S2560x2560 .f32 :=
  Host.dotGeneral (F := Ideal) (φ₁ := .f32) (φ₂ := .f32) dot_S2560x2560_S2560x2560_S2560x2560_1_0_0_1_n_n none (transpose S2560x2560 [1, 0] L transposes_S2560x2560_S2560x2560_1_0) L

/-- Its three parts side by side. -/
def parts (L : Vec Ideal S2560x2560 .f32) : Vec Ideal S2560x7680 .bf16 :=
  concatenate S2560x7680 1 [⟨S2560x2560, (truncf .bf16 (prod L) bitsLt_bf16_f32 : FVec Ideal S2560x2560 .bf16)⟩, ⟨S2560x2560, (truncf .bf16 (subf (prod L) (extf .f32 (truncf .bf16 (prod L) bitsLt_bf16_f32) bitsLt_bf16_f32)) bitsLt_bf16_f32 : FVec Ideal S2560x2560 .bf16)⟩, ⟨S2560x2560, (truncf .bf16 (subf (subf (prod L) (extf .f32 (truncf .bf16 (prod L) bitsLt_bf16_f32) bitsLt_bf16_f32)) (extf .f32 (truncf .bf16 (subf (prod L) (extf .f32 (truncf .bf16 (prod L) bitsLt_bf16_f32) bitsLt_bf16_f32)) bitsLt_bf16_f32) bitsLt_bf16_f32)) bitsLt_bf16_f32 : FVec Ideal S2560x2560 .bf16)⟩] concatenates_S2560x2560_S2560x2560_S2560x2560_S2560x7680_d1

theorem prod_apply (L : Vec Ideal S2560x2560 .f32) (r c : Fin 2560) : prod L (ix2 r c) = ∑ i : Fin 2560, L (ix2 i r) * L (ix2 i c) := by
  unfold prod
  pointwise

/-- Where the factor is real: the product, and zeros for the two lower parts. -/
theorem parts_apply (L : Vec Ideal S2560x2560 .f32) (f : Fin 2560 → Fin 2560 → ℝ) (hL : ∀ r c, L (ix2 r c) = (f r c : EReal)) (r : Fin 2560) (j : Fin 7680) :
    parts L (ix2 r j) = if h : j.val < 2560 then ((∑ i, f i r * f i ⟨j.val, h⟩ : ℝ) : EReal) else 0 := by
  have hp : ∀ c, prod L (ix2 r c) = ((∑ i, f i r * f i c : ℝ) : EReal) := fun c => by
    rw [prod_apply, ← Cert.InverseIdeal.Pays.coe_sum]
    exact Finset.sum_congr rfl fun i _ => by rw [hL, hL, EReal.coe_mul]
  unfold parts
  pointwise
  simp only [hp, Cert.InverseIdeal.Pays.sub_self_coe, sub_zero]
  split
  · rfl
  · split <;> rfl

/-- The diagonals, column by column. -/
theorem diags_apply (A : Vec Ideal S6x2560x2560 .bf16) (r : Fin 2560) (j : Fin 128) :
    diags A (ix2 r j) = if h : j.val < 6 then A (ix3 ⟨j.val, h⟩ r r) else 0 := by
  unfold diags
  pointwise
  split
  · rw [Finset.sum_eq_single r]
    · rw [Cert.InverseIdeal.Pays.select_eq, if_pos (show IntOp.addi (BitVec.ofNat 32 r.val) 0#32 = BitVec.ofNat 32 r.val from BitVec.add_zero _)]
    · intro x _ hx
      rw [Cert.InverseIdeal.Pays.select_eq, if_neg]
      · show Ideal.ofBits .f32 0#32 = 0
        simp
      · intro e
        rw [show IntOp.addi (BitVec.ofNat 32 r.val) 0#32 = BitVec.ofNat 32 r.val from BitVec.add_zero _] at e
        exact hx (Fin.ext ((Cert.InverseIdeal.Pays.ofNat_inj (by have := r.isLt; omega) (by have := x.isLt; omega)).mp e).symm)
    · intro h; exact absurd (Finset.mem_univ _) h
  · show ((_ : ℝ) : EReal) = 0
    simp

end Cert.InverseRefIdeal.RefValue

end
-- ==== Proof.Inverse.Final.lean ====
/- The inverse call's results are the reference's, element by element over the extended reals, wherever the matrices and the
   factor are finite and the factor is one of the regularised matrix. -/
module

public import proofs.«01_k».proof.Proof.Inverse.Steps
public import proofs.«01_k».proof.Proof.Inverse.Factored
public import proofs.«01_k».proof.Proof.Inverse.Ref
public import proofs.«01_k».proof.Defs
public import Idealize.ShloMosaic.Lib.Quiescent

@[expose] public section

set_option maxRecDepth 16384

noncomputable section

namespace Cert.InverseIdeal.Final

open Cert.InverseIdeal Cert.InverseIdeal.Gen Idealize.ShloMosaic Idealize.ShloMosaic.TcCoe Idealize.SL.Sem
open Cert.InverseIdeal.Blocks Cert.InverseIdeal.Steps

variable (m : (ℓ : Loc nD τ sig) → Buf (Elt Ideal) ℓ) (c : Dev nD)

/-- The first result: the matrices' diagonals. -/
def out1 : Vec Ideal S2560x128 .f32 := Cert.InverseRefIdeal.RefValue.diags (aG m c)
/-- The second: the parts of the inverse. -/
def out2 : Vec Ideal S2560x7680 .bf16 := Cert.InverseRefIdeal.RefValue.parts (aL m c)

/-- The parts are written back after they are formed only. -/
theorem flush2 : ∀ t : Fin cfg0.N, (cfg0.win 2).flush t = true → 30 ≤ t.val := by decide +kernel

variable (g : Fin 6 → Fin 2560 → Fin 2560 → ℝ) (L : Fin 2560 → Fin 2560 → ℝ)
variable (P : (c : Dev nD) → ℕ → Vec Ideal S2560x2560 .f32 → Prop) (Q1 : (c : Dev nD) → Fin cfg0.N → Vec Ideal S128x128 .f32 → Prop) (Q2 : (c : Dev nD) → Fin cfg0.N → Vec Ideal S128x7680 .bf16 → Prop)

/-- The first output array, whatever each point leaves as long as it keeps the invariant. -/
theorem final1 (after : (w' : Fin cfg0.W) → Fin cfg0.N → (cfg0.win w').block.Idx → Elt Ideal (cfg0.win w').elt)
    (h : ∀ u : Fin cfg0.N, (cfg0.win 1).flush u = true → R1 m c u (after 1 u)) :
    ((rdats m P Q1 Q2 c).withAfter after).arrAt 1 cfg0.N = out1 m c := by
  refine ((rdats m P Q1 Q2 c).withAfter after).arrAt_eq_of_covers 1 _ (by decide +kernel) fun t hf y => ?_
  have ht := lt50 t
  have hr := h t hf
  idx_vars y
  have hv := hr y0 y1
  blk_simp
  refine hv.trans ?_
  have e : ((cfg0.win 1).blk t).view.emb (ix2 y0 y1) = ix2 (rS (min t.val 19) y0) y1 := by
    have i1 := (idx t).2.1
    blk_ext [i1, rS]
  exact ((congrArg (out1 m c) e).trans (Cert.InverseRefIdeal.RefValue.diags_apply _ _ _)).symm

/-- The second output array. -/
theorem final2 (hR : Real m c g L) (after : (w' : Fin cfg0.W) → Fin cfg0.N → (cfg0.win w').block.Idx → Elt Ideal (cfg0.win w').elt)
    (h : ∀ u : Fin cfg0.N, (cfg0.win 2).flush u = true → R2 L u (after 2 u)) :
    ((rdats m P Q1 Q2 c).withAfter after).arrAt 2 cfg0.N = out2 m c := by
  refine ((rdats m P Q1 Q2 c).withAfter after).arrAt_eq_of_covers 2 _ (by decide +kernel) fun t hf y => ?_
  have ht := lt50 t
  have hr := h t hf (flush2 t hf)
  idx_vars y
  have hv := hr y0 y1
  blk_simp
  refine hv.trans ?_
  have e : ((cfg0.win 2).blk t).view.emb (ix2 y0 y1) = ix2 (rS (t.val - 30) y0) y1 := by
    have i2 := (idx t).2.2
    blk_ext [i2, rS]
  exact ((congrArg (out2 m c) e).trans (Cert.InverseRefIdeal.RefValue.parts_apply _ L hR.fac _ _)).symm

/-- Invariants that say nothing are kept by every point. -/
theorem steps_true : Cert.InverseIdeal.Gen.Steps m c (fun _ _ => True) (fun _ _ => True) (fun _ _ => True) where
  zero := fun _ => trivial
  read := fun _ _ _ _ _ => ⟨trivial, trivial⟩
  sweep := fun _ _ _ _ _ _ _ => trivial
  out := fun _ _ _ _ _ _ => ⟨trivial, trivial⟩
  keep := fun _ _ _ _ _ _ => trivial
  before := fun _ _ _ => trivial

/-- The frame of the call over the extended reals, of every launch. -/
theorem frame : Cert.quiescent_InverseIdeal (hInverseIdeal := Cert.InverseIdeal.Gen.facts) := fun m ρ _ =>
  (θ_run defs _ _).mono (fun r h => ⟨fun c => (h.1 c).2, h.2⟩) (run_main m ρ (fun _ _ _ => True) (fun _ _ _ => True) (fun _ _ _ => True) (steps_true m))

/-- The frame of the reference, of every launch. -/
theorem ref_frame : Cert.quiescent_InverseRefIdeal (hInverseRefIdeal := Cert.InverseRefIdeal.Gen.facts) := fun m ρ _ =>
  (θ_run Cert.InverseRefIdeal.defs _ _).mono (fun r h => ⟨fun c => (h c).2.2, sem_eq_zero_of_no_sems (by decide) r.2⟩) (Cert.InverseRefIdeal.Value.run m ρ)

/-- The reference's results, in the names of the kernel's arguments. -/
theorem ref_eq1 (A : Vec Ideal S6x2560x2560 .bf16) (hA : A = aG m c) : Cert.InverseRefIdeal.RefValue.diags A = out1 m c := by
  subst hA; rfl
theorem ref_eq2 (A : Vec Ideal S2560x2560 .f32) (hA : A = aL m c) : Cert.InverseRefIdeal.RefValue.parts A = out2 m c := by
  subst hA; rfl

/-- Both run and end with equal results. -/
theorem algebraic : Cert.algebraic_InverseIdeal_InverseRefIdeal_pre_factored (hInverseIdeal := Cert.InverseIdeal.Gen.facts) (hInverseRefIdeal := Cert.InverseRefIdeal.Gen.facts)
    (hPre_factored := Cert.Pre_factored.Gen.facts) := by
  intro m g m' g' hpre hargs
  have hR := Factored.real_of_pre m hpre
  choose G L hR using hR
  refine ⟨fun c => out1 m c, fun c => out2 m c,
    (θ_run defs _ _).mono (fun r h c => ?_) (run_main m g (fun c => Steps.P (G c)) (R1 m) (fun c => R2 (L c)) fun c => steps m c (G c) (L c) (hR c)),
    (θ_run Cert.InverseRefIdeal.defs _ _).mono (fun r h c => ⟨(h c).1.trans (ref_eq1 m c _ (hargs c).1),
      (h c).2.1.trans (ref_eq2 m c _ (hargs c).2), (h c).2.2⟩) (Cert.InverseRefIdeal.Value.run m' g')⟩
  obtain ⟨⟨after, h1, h2, e1, e2⟩, hk⟩ := h.1 c
  exact ⟨e1.trans (final1 m c _ _ _ after h1), e2.trans (final2 m c (G c) (L c) _ _ _ (hR c) after h2), hk⟩

end Cert.InverseIdeal.Final

end
-- ==== Proof.InverseBits.Runs.lean ====
/- What the runs of the kernel's body share: when its three conditionals are taken, as arithmetic of the grid point, and the
   memrefs the body is handed. -/
module

public import proofs.«01_k».proof.Proof.Gen.Inverse.Frame
public import proofs.«01_k».proof.Proof.Gen.Inverse.Skeleton
public import proofs.«01_k».proof.Proof.Overlay
public import Idealize.ShloMosaic.Lib.Pipeline.Value
public import Idealize.ShloMosaic.Lib.Pipeline.DatRel

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional is taken at the points before 20: the matrix is read. -/
theorem hcond1 : ∀ t : Fin cfg0.N, k0_cond1 (grid0.coords t) = 1#1 ↔ t.val < 20 :=
  (by decide +kernel : ∀ t : Fin grid0.N, k0_cond1 (grid0.coords t) = 1#1 ↔ t.val < 20)
/-- The second is taken at the points from 20 to 29: a block is swept. -/
theorem hcond2 : ∀ t : Fin cfg0.N, k0_cond2 (grid0.coords t) = 1#1 ↔ 20 ≤ t.val ∧ t.val < 30 :=
  (by decide +kernel : ∀ t : Fin grid0.N, k0_cond2 (grid0.coords t) = 1#1 ↔ 20 ≤ t.val ∧ t.val < 30)
/-- The third is taken at the points from 30 on: the inverse is written out. -/
theorem hcond3 : ∀ t : Fin cfg0.N, k0_cond3 (grid0.coords t) = 1#1 ↔ 30 ≤ t.val :=
  (by decide +kernel : ∀ t : Fin grid0.N, k0_cond3 (grid0.coords t) = 1#1 ↔ 30 ≤ t.val)

/-- An overlay over the whole shape is the payload. -/
theorem overlay_whole {s : Shape} {α : Type} {off : Fin s.rank → Nat} (h : off = fun _ => 0) (inb : ∀ a, off a + s.size a ≤ s.size a) (X : s.Idx → α) (G : s.Idx → α) :
    (Rect.unit (s := s) off s.size inb).overlay X G = G := by
  funext y
  exact Cert.Kit.overlay_unit_in inb X G y y fun a => by have := congrFun h a; omega

/-- Each window's current staging memref at point `t`, spelled as the pipeline passes it (`bodyAt0`). -/
abbrev ms0_0 (t : Fin cfg0.N) : Memref sig .tc .vmem S6x128x2560 .bf16 := win0_0.stage (cfg0.slots t 0)
abbrev ms0_1 (t : Fin cfg0.N) : Memref sig .tc .vmem S128x128 .f32 := win0_1.stage (cfg0.slots t 1)
abbrev ms0_2 (t : Fin cfg0.N) : Memref sig .tc .vmem S128x7680 .bf16 := win0_2.stage (cfg0.slots t 2)
/-- The scratch operands: whole scoped buffers of the kernel's own, passed beside the windows. -/
abbrev scM0_0 : Memref sig .tc .vmem S2560x2560 .f32 := Memref.whole cc0_scratch0
abbrev scM0_1 : Memref sig .tc .vmem S256x256 .f32 := Memref.whole cc0_scratch1
abbrev scM0_2 : Memref sig .tc .vmem S2560x1536 .bf16 := Memref.whole cc0_scratch2
abbrev scM0_3 : Memref sig .tc .vmem S1536x2560 .bf16 := Memref.whole cc0_scratch3

/-- The invariant of the frame with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Inverse.Gen

end
-- ==== Proof.InverseBits.RunA.lean ====
/- The kernel's body at a point that reads rows of the Gram matrices. -/
module

public import proofs.«01_k».proof.Proof.InverseBits.Runs
public import proofs.«01_k».proof.Proof.Overlay

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix after the point's first store: the rows of the scaled sum. -/
def rowsA (i : grid0.Coords) (h1 : k0_cond1 i = 1#1) (x0 : Vec F S6x128x2560 .bf16) (d4 : Vec F S2560x2560 .f32) : Vec F S2560x2560 .f32 :=
  (Rect.unit (s := S2560x2560) (k0_off1 i) S128x2560.size (k0_off1_inb i h1)).overlay d4
    (k0_pay13 (View.ld (Val := Elt F) (e' := .bf16) x0 (Rect.unit (s := S6x128x2560) ![0, 0, 0] S1x128x2560.size inb_S6x128x2560_S1x128x2560_0_0_0)) (View.ld (Val := Elt F) (e' := .bf16) x0 (Rect.unit (s := S6x128x2560) ![1, 0, 0] S1x128x2560.size inb_S6x128x2560_S1x128x2560_1_0_0)) (View.ld (Val := Elt F) (e' := .bf16) x0 (Rect.unit (s := S6x128x2560) ![2, 0, 0] S1x128x2560.size inb_S6x128x2560_S1x128x2560_2_0_0)) (View.ld (Val := Elt F) (e' := .bf16) x0 (Rect.unit (s := S6x128x2560) ![3, 0, 0] S1x128x2560.size inb_S6x128x2560_S1x128x2560_3_0_0)) (View.ld (Val := Elt F) (e' := .bf16) x0 (Rect.unit (s := S6x128x2560) ![4, 0, 0] S1x128x2560.size inb_S6x128x2560_S1x128x2560_4_0_0)) (View.ld (Val := Elt F) (e' := .bf16) x0 (Rect.unit (s := S6x128x2560) ![5, 0, 0] S1x128x2560.size inb_S6x128x2560_S1x128x2560_5_0_0)))

/-- The sum of the diagonal blocks, off their diagonals zero. -/
def dsumA (i : grid0.Coords) (h1 : k0_cond1 i = 1#1) (x0 : Vec F S6x128x2560 .bf16) : FVec F S128x128 .f32 :=
  k0_pay24 k0_pay14 (k0_pay19 k0_pay14 (Scalar.ofBits .f32 0x00000000#32) (View.ld (Val := Elt F) (e' := .bf16) x0 (Rect.unit (s := S6x128x2560) (k0_off2 i) S1x128x128.size (k0_off2_inb i h1))) (View.ld (Val := Elt F) (e' := .bf16) x0 (Rect.unit (s := S6x128x2560) (k0_off3 i) S1x128x128.size (k0_off3_inb i h1))) (View.ld (Val := Elt F) (e' := .bf16) x0 (Rect.unit (s := S6x128x2560) (k0_off4 i) S1x128x128.size (k0_off4_inb i h1)))) (View.ld (Val := Elt F) (e' := .bf16) x0 (Rect.unit (s := S6x128x2560) (k0_off5 i) S1x128x128.size (k0_off5_inb i h1))) (View.ld (Val := Elt F) (e' := .bf16) x0 (Rect.unit (s := S6x128x2560) (k0_off6 i) S1x128x128.size (k0_off6_inb i h1))) (View.ld (Val := Elt F) (e' := .bf16) x0 (Rect.unit (s := S6x128x2560) (k0_off7 i) S1x128x128.size (k0_off7_inb i h1)))

/-- The block of diagonals: column `k` is the diagonal of matrix `k`. -/
def diagA (i : grid0.Coords) (h1 : k0_cond1 i = 1#1) (x0 : Vec F S6x128x2560 .bf16) : FVec F S128x128 .f32 :=
  k0_pay25 k0_pay14 (iota .tc S128x128 32 [1] iota_S128x128_d1_w32) (k0_pay20 k0_pay14 (iota .tc S128x128 32 [1] iota_S128x128_d1_w32) (k0_pay15 (F := F)) (View.ld (Val := Elt F) (e' := .bf16) x0 (Rect.unit (s := S6x128x2560) (k0_off2 i) S1x128x128.size (k0_off2_inb i h1))) (View.ld (Val := Elt F) (e' := .bf16) x0 (Rect.unit (s := S6x128x2560) (k0_off3 i) S1x128x128.size (k0_off3_inb i h1))) (View.ld (Val := Elt F) (e' := .bf16) x0 (Rect.unit (s := S6x128x2560) (k0_off4 i) S1x128x128.size (k0_off4_inb i h1)))) (View.ld (Val := Elt F) (e' := .bf16) x0 (Rect.unit (s := S6x128x2560) (k0_off5 i) S1x128x128.size (k0_off5_inb i h1))) (View.ld (Val := Elt F) (e' := .bf16) x0 (Rect.unit (s := S6x128x2560) (k0_off6 i) S1x128x128.size (k0_off6_inb i h1))) (View.ld (Val := Elt F) (e' := .bf16) x0 (Rect.unit (s := S6x128x2560) (k0_off7 i) S1x128x128.size (k0_off7_inb i h1)))

/-- The matrix after the point. -/
def matA (i : grid0.Coords) (h1 : k0_cond1 i = 1#1) (x0 : Vec F S6x128x2560 .bf16) (d4 : Vec F S2560x2560 .f32) : Vec F S2560x2560 .f32 :=
  (Rect.unit (s := S2560x2560) (k0_off8 i) S128x128.size (k0_off8_inb i h1)).overlay (rowsA i h1 x0 d4)
    (k0_pay1 (dsumA i h1 x0) (View.ld (Val := Elt F) (e' := .f32) (rowsA i h1 x0 d4) (Rect.unit (s := S2560x2560) (k0_off8 i) S128x128.size (k0_off8_inb i h1))) (k0_pay26 (F := F)))

set_option maxHeartbeats 1000000 in
/-- The body at a point that reads: the rows of the matrix and the block of diagonals are stored. -/
theorem run_A (c : Dev nD) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h1 : k0_cond1 i = 1#1) (h2 : ¬ k0_cond2 i = 1#1) (h3 : ¬ k0_cond3 i = 1#1) (x0 : Vec F S6x128x2560 .bf16) (d2 : Vec F S128x128 .f32) (d3 : Vec F S128x7680 .bf16) (d4 : Vec F S2560x2560 .f32) (d5 : Vec F S256x256 .f32) (d6 : Vec F S2560x1536 .bf16) (d7 : Vec F S1536x2560 .bf16) :
      ∀ (E : Set ℕ) (K : PUnit → sProp 𝕄),
        iprop(owns (c : Thread nD τ) arg1 fullShare x0 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
            ∗ (iprop(owns (c : Thread nD τ) arg1 fullShare x0 ∗ owns (c : Thread nD τ) arg2 fullShare (diagA i h1 x0) ∗ owns (c : Thread nD τ) arg3 fullShare d3 ∗ owns (c : Thread nD τ) arg4 fullShare (matA i h1 x0 d4) ∗ owns (c : Thread nD τ) arg5 fullShare d5 ∗ owns (c : Thread nD τ) arg6 fullShare d6 ∗ owns (c : Thread nD τ) arg7 fullShare d7) -∗ K ⟨⟩))
          ⊢ wp frame (wpE (defs₀ (F := F)) Variants.none c none) E (cc0_gram_inverse i arg1 harg1 arg2 harg2 arg3 harg3 arg4 harg4 arg5 harg5 arg6 harg6 arg7 harg7) K := by
    intro E K
    simp only [cc0_gram_inverse_eq_skeleton]; unfold cc0_gram_inverse_skel
    simp only [k0_part1_eq_skeleton, k0_part2_eq_skeleton, k0_part3_eq_skeleton]; unfold k0_part1_skel k0_part2_skel k0_part3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2 | sl_exact h3)
    sl_step
    have h0 : (![0, 0] : Fin 2 → Nat) = fun _ => 0 := by decide
    iapply Hk
    isplitl [H1]
    · iexists _; isplitr; · ipureintro; exact harg1.read_unread _
      iexact H1
    isplitl [H2]
    · iexists _; isplitr; swap; · iexact H2
      ipureintro
      simp only [View.readAt_eq_ld, Cert.Kit.read_writes_cons_overlay, View.writes_nil, hf1, hf2]
      rw [overlay_whole h0]
      rfl
    isplitl [H3]
    · iexists _; isplitr; · ipureintro; exact harg3.read_unread _
      iexact H3
    isplitl [H4]
    · iexists _; isplitr; swap; · iexact H4
      ipureintro
      unfold run_A.sl.H4_1 matA rowsA dsumA
      simp only [View.readAt_eq_ld, Cert.Kit.read_writes_cons_overlay, View.writes_nil, hf1, hf4]
      rfl
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.Inverse.Gen

end
-- ==== Proof.InverseBits.Loop1.lean ====
/- The sweep of a block: trip `k` of the loop sweeps coordinate `k`. -/
module

public import proofs.«01_k».proof.Proof.InverseBits.Runs
public import proofs.«01_k».proof.Proof.Overlay

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block after the sweeps of the coordinates before `n`. -/
def sweepN (i : grid0.Coords) (h2 : k0_cond2 i = 1#1) (D : Vec F S256x256 .f32) : ℕ → Vec F S256x256 .f32
  | 0 => D
  | n + 1 => if h : n < k0_t1_loop.trips then
      k0_pay28 ⟨n, h⟩ (sweepN i h2 D n) (View.ld (Val := Elt F) (e' := .f32) (sweepN i h2 D n) (Rect.unit (s := S256x256) (k0_off10 ⟨n, h⟩) S1x256.size (k0_off10_inb i ⟨n, h⟩ h2)))
    else sweepN i h2 D n

/-- The loop's invariant before trip `k`. -/
def loop1I (c : Dev nD) (i : grid0.Coords) (h2 : k0_cond2 i = 1#1) (arg5 : Memref sig .tc .vmem S256x256 .f32) (D : Vec F S256x256 .f32) (k : Nat) (_ : Unit) : sProp 𝕄 :=
  iprop(∃ f5 : arg5.view.ty.Contents (Elt F), ⌜arg5.view.read (Elt F) f5 = sweepN i h2 D k⌝ ∗ arg5.view.loc (c : Thread nD τ) ↦[arg5.view.set]{fullShare} f5)

set_option maxHeartbeats 1000000 in
/-- One trip keeps the invariant. -/
theorem loop1_step (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (arg0 : BitVec 32) (h2 : k0_cond2 i = 1#1) (D : Vec F S256x256 .f32) (k : Fin k0_t1_loop.trips) (acc : Unit) :
    loop1I c i h2 arg5 D k.val acc ⊢ wp frame (wpE (defs₀ (F := F)) Variants.none c none) E (k0_t1_body i arg1 harg1 arg2 harg2 arg3 harg3 arg4 harg4 arg5 harg5 arg6 harg6 arg7 harg7 arg0 h2 k acc)
      (loop1I c i h2 arg5 D (k.val + 1)) := by
  unfold loop1I k0_t1_body
  iintro ⟨%f5, %h5, H5⟩
  sl_exec
  sl_step
  have h0 : (![0, 0] : Fin 2 → Nat) = fun _ => 0 := by decide
  have e5 : ∀ X : Vec F S256x256 .f32, View.ld (Val := Elt F) (e' := .f32) X (Rect.unit (s := S256x256) ![0, 0] S256x256.size inb_S256x256_S256x256_0_0) = X := fun X => View.ld_unit_zero (S := S256x256) h0 _ X
  iexists _; isplitr; swap; · iexact H5
  ipureintro
  simp only [View.readAt_eq_ld, Cert.Kit.read_writes_cons_overlay, View.writes_nil, h5]
  rw [sweepN, dif_pos k.isLt]
  erw [overlay_whole h0, e5]

/-- The loop, run from its invariant at the first trip to its invariant after the last. -/
@[sl_loop, reducible] def loop1Inv (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (arg0 : BitVec 32) (h2 : k0_cond2 i = 1#1) (D : Vec F S256x256 .f32) :
    LoopInv (M := 𝕄) frame (wpE (defs₀ (F := F)) Variants.none c none) E k0_t1_loop.lb k0_t1_loop.ub k0_t1_loop.st (k0_t1_ok i h2) ⟨⟩
      (k0_t1_body (F := F) i arg1 harg1 arg2 harg2 arg3 harg3 arg4 harg4 arg5 harg5 arg6 harg6 arg7 harg7 arg0 h2) where
  inv := loop1I c i h2 arg5 D
  step := loop1_step c E i arg1 harg1 arg2 harg2 arg3 harg3 arg4 harg4 arg5 harg5 arg6 harg6 arg7 harg7 arg0 h2 D

end Cert.Inverse.Gen

end
-- ==== Proof.InverseBits.Loop2.lean ====
/- The panel of a block: trip `k` of the loop multiplies rows `256 k … 256 k + 255` of the block's columns by the inverse of the block. -/
module

public import proofs.«01_k».proof.Proof.InverseBits.Runs
public import proofs.«01_k».proof.Proof.Overlay

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix after the trips before `n`. -/
def panelN (i : grid0.Coords) (h2 : k0_cond2 i = 1#1) (v48 : Vec F S256x256 .f32) (z : F .f32) (A : Vec F S2560x2560 .f32) : ℕ → Vec F S2560x2560 .f32
  | 0 => A
  | n + 1 => if h : n < k0_t2_loop.trips then
      (Rect.unit (s := S2560x2560) (k0_off12 i ⟨n, h⟩) S256x256.size (k0_off12_inb i ⟨n, h⟩ h2)).overlay (panelN i h2 v48 z A n)
        (k0_pay4 v48 z (View.ld (Val := Elt F) (e' := .f32) (panelN i h2 v48 z A n) (Rect.unit (s := S2560x2560) (k0_off12 i ⟨n, h⟩) S256x256.size (k0_off12_inb i ⟨n, h⟩ h2))))
    else panelN i h2 v48 z A n

/-- The panel's parts after the trips before `n`. -/
def wcatN (i : grid0.Coords) (h2 : k0_cond2 i = 1#1) (v48 : Vec F S256x256 .f32) (z : F .f32) (A : Vec F S2560x2560 .f32) (W : Vec F S2560x1536 .bf16) : ℕ → Vec F S2560x1536 .bf16
  | 0 => W
  | n + 1 => if h : n < k0_t2_loop.trips then
      (Rect.unit (s := S2560x1536) (k0_off13 ⟨n, h⟩) S256x1536.size (k0_off13_inb i ⟨n, h⟩ h2)).overlay (wcatN i h2 v48 z A W n)
        (k0_pay3 v48 z (View.ld (Val := Elt F) (e' := .f32) (panelN i h2 v48 z A n) (Rect.unit (s := S2560x2560) (k0_off12 i ⟨n, h⟩) S256x256.size (k0_off12_inb i ⟨n, h⟩ h2))))
    else wcatN i h2 v48 z A W n

/-- The loop's invariant before trip `k`. -/
def loop2I (c : Dev nD) (i : grid0.Coords) (h2 : k0_cond2 i = 1#1) (arg4 : Memref sig .tc .vmem S2560x2560 .f32) (arg6 : Memref sig .tc .vmem S2560x1536 .bf16) (v48 : Vec F S256x256 .f32) (z : F .f32) (A : Vec F S2560x2560 .f32) (W : Vec F S2560x1536 .bf16) (k : Nat) (_ : Unit) : sProp 𝕄 :=
  iprop((∃ f4 : arg4.view.ty.Contents (Elt F), ⌜arg4.view.read (Elt F) f4 = panelN i h2 v48 z A k⌝ ∗ arg4.view.loc (c : Thread nD τ) ↦[arg4.view.set]{fullShare} f4)
    ∗ (∃ f6 : arg6.view.ty.Contents (Elt F), ⌜arg6.view.read (Elt F) f6 = wcatN i h2 v48 z A W k⌝ ∗ arg6.view.loc (c : Thread nD τ) ↦[arg6.view.set]{fullShare} f6))

set_option maxHeartbeats 1000000 in
/-- One trip keeps the invariant. -/
theorem loop2_step (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (v48 : Vec F S256x256 .f32) (z : F .f32) (A : Vec F S2560x2560 .f32) (W : Vec F S2560x1536 .bf16) (k : Fin k0_t2_loop.trips) (acc : Unit) :
    loop2I c i h2 arg4 arg6 v48 z A W k.val acc ⊢ wp frame (wpE (defs₀ (F := F)) Variants.none c none) E (k0_t2_body i arg1 harg1 arg2 harg2 arg3 harg3 arg4 harg4 arg5 harg5 arg6 harg6 arg7 harg7 h2 v48 z k acc)
      (loop2I c i h2 arg4 arg6 v48 z A W (k.val + 1)) := by
  unfold loop2I k0_t2_body
  iintro ⟨⟨%f4, %h4, H4⟩, ⟨%f6, %h6, H6⟩⟩
  sl_exec
  sl_step
  isplitl [H4]
  · iexists _; isplitr; swap; · iexact H4
    ipureintro
    simp only [View.readAt_eq_ld, Cert.Kit.read_writes_cons_overlay, View.writes_nil, h4, h6]
    rw [panelN, dif_pos k.isLt]
  iexists _; isplitr; swap; · iexact H6
  ipureintro
  simp only [View.readAt_eq_ld, Cert.Kit.read_writes_cons_overlay, View.writes_nil, h4, h6]
  rw [wcatN, dif_pos k.isLt]

/-- The loop, run from its invariant at the first trip to its invariant after the last. -/
@[sl_loop, reducible] def loop2Inv (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (v48 : Vec F S256x256 .f32) (z : F .f32) (A : Vec F S2560x2560 .f32) (W : Vec F S2560x1536 .bf16) :
    LoopInv (M := 𝕄) frame (wpE (defs₀ (F := F)) Variants.none c none) E k0_t2_loop.lb k0_t2_loop.ub k0_t2_loop.st (k0_t2_ok i h2) ⟨⟩
      (k0_t2_body (F := F) i arg1 harg1 arg2 harg2 arg3 harg3 arg4 harg4 arg5 harg5 arg6 harg6 arg7 harg7 h2 v48 z) where
  inv := loop2I c i h2 arg4 arg6 v48 z A W
  step := loop2_step c E i arg1 harg1 arg2 harg2 arg3 harg3 arg4 harg4 arg5 harg5 arg6 harg6 arg7 harg7 h2 v48 z A W

end Cert.Inverse.Gen

end
-- ==== Proof.InverseBits.Loop3.lean ====
/- The trailing update: trip `k` of the loop subtracts from rows `256 k … 256 k + 255` of the matrix the product of the panel and the block's rows. -/
module

public import proofs.«01_k».proof.Proof.InverseBits.Runs
public import proofs.«01_k».proof.Proof.Overlay

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix after the trips before `n`. -/
def trailN (i : grid0.Coords) (h2 : k0_cond2 i = 1#1) (W : Vec F S2560x1536 .bf16) (R : Vec F S1536x2560 .bf16) (A : Vec F S2560x2560 .f32) : ℕ → Vec F S2560x2560 .f32
  | 0 => A
  | n + 1 => if h : n < k0_t3_loop.trips then
      (Rect.unit (s := S2560x2560) (k0_off15 ⟨n, h⟩) S256x2560.size (k0_off15_inb i ⟨n, h⟩ h2)).overlay (trailN i h2 W R A n)
        (k0_pay6 (View.ld (Val := Elt F) (e' := .f32) (trailN i h2 W R A n) (Rect.unit (s := S2560x2560) (k0_off15 ⟨n, h⟩) S256x2560.size (k0_off15_inb i ⟨n, h⟩ h2)))
          (View.ld (Val := Elt F) (e' := .bf16) W (Rect.unit (s := S2560x1536) (k0_off16 ⟨n, h⟩) S256x1536.size (k0_off16_inb i ⟨n, h⟩ h2))) R)
    else trailN i h2 W R A n

/-- The loop's invariant before trip `k`. -/
def loop3I (c : Dev nD) (i : grid0.Coords) (h2 : k0_cond2 i = 1#1) (arg4 : Memref sig .tc .vmem S2560x2560 .f32) (arg6 : Memref sig .tc .vmem S2560x1536 .bf16) (arg7 : Memref sig .tc .vmem S1536x2560 .bf16) (f6 : arg6.view.ty.Contents (Elt F)) (f7 : arg7.view.ty.Contents (Elt F)) (A : Vec F S2560x2560 .f32) (k : Nat) (_ : Unit) : sProp 𝕄 :=
  iprop((arg6.view.loc (c : Thread nD τ) ↦[arg6.view.set]{fullShare} f6) ∗ (arg7.view.loc (c : Thread nD τ) ↦[arg7.view.set]{fullShare} f7)
    ∗ (∃ f4 : arg4.view.ty.Contents (Elt F), ⌜arg4.view.read (Elt F) f4 = trailN i h2 (arg6.view.read (Elt F) f6) (arg7.view.read (Elt F) f7) A k⌝ ∗ arg4.view.loc (c : Thread nD τ) ↦[arg4.view.set]{fullShare} f4))

set_option maxHeartbeats 1000000 in
/-- One trip keeps the invariant. -/
theorem loop3_step (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (f6 : arg6.view.ty.Contents (Elt F)) (f7 : arg7.view.ty.Contents (Elt F)) (A : Vec F S2560x2560 .f32) (k : Fin k0_t3_loop.trips) (acc : Unit) :
    loop3I c i h2 arg4 arg6 arg7 f6 f7 A k.val acc ⊢ wp frame (wpE (defs₀ (F := F)) Variants.none c none) E (k0_t3_body i arg1 harg1 arg2 harg2 arg3 harg3 arg4 harg4 arg5 harg5 arg6 harg6 arg7 harg7 h2 k acc)
      (loop3I c i h2 arg4 arg6 arg7 f6 f7 A (k.val + 1)) := by
  unfold loop3I k0_t3_body
  iintro ⟨H6, H7, ⟨%f4, %h4, H4⟩⟩
  sl_exec
  sl_step
  have h0 : (![0, 0] : Fin 2 → Nat) = fun _ => 0 := by decide
  have e7 : ∀ X : Vec F S1536x2560 .bf16, View.ld (Val := Elt F) (e' := .bf16) X (Rect.unit (s := S1536x2560) ![0, 0] S1536x2560.size inb_S1536x2560_S1536x2560_0_0) = X := fun X => View.ld_unit_zero (S := S1536x2560) h0 _ X
  isplitl [H6]; · iexact H6
  isplitl [H7]; · iexact H7
  iexists _; isplitr; swap; · iexact H4
  ipureintro
  simp only [View.readAt_eq_ld, Cert.Kit.read_writes_cons_overlay, View.writes_nil, h4]
  rw [trailN, dif_pos k.isLt]
  erw [e7]

/-- The loop, run from its invariant at the first trip to its invariant after the last. -/
@[sl_loop, reducible] def loop3Inv (c : Dev nD) (E : Set ℕ) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h2 : k0_cond2 i = 1#1) (f6 : arg6.view.ty.Contents (Elt F)) (f7 : arg7.view.ty.Contents (Elt F)) (A : Vec F S2560x2560 .f32) :
    LoopInv (M := 𝕄) frame (wpE (defs₀ (F := F)) Variants.none c none) E k0_t3_loop.lb k0_t3_loop.ub k0_t3_loop.st (k0_t3_ok i h2) ⟨⟩
      (k0_t3_body (F := F) i arg1 harg1 arg2 harg2 arg3 harg3 arg4 harg4 arg5 harg5 arg6 harg6 arg7 harg7 h2) where
  inv := loop3I c i h2 arg4 arg6 arg7 f6 f7 A
  step := loop3_step c E i arg1 harg1 arg2 harg2 arg3 harg3 arg4 harg4 arg5 harg5 arg6 harg6 arg7 harg7 h2 f6 f7 A

end Cert.Inverse.Gen

end
-- ==== Proof.InverseBits.RunB.lean ====
/- The kernel's body at a point that sweeps a block. -/
module

public import proofs.«01_k».proof.Proof.InverseBits.Loop1
public import proofs.«01_k».proof.Proof.InverseBits.Loop2
public import proofs.«01_k».proof.Proof.InverseBits.Loop3

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block swept. -/
def blkB (i : grid0.Coords) (h2 : k0_cond2 i = 1#1) (d4 : Vec F S2560x2560 .f32) : Vec F S256x256 .f32 :=
  sweepN i h2 (k0_pay27 (View.ld (Val := Elt F) (e' := .f32) d4 (Rect.unit (s := S2560x2560) (k0_off9 i) S256x256.size (k0_off9_inb i h2)))) 256

/-- The matrix with the block set to zero. -/
def holeB (i : grid0.Coords) (h2 : k0_cond2 i = 1#1) (d4 : Vec F S2560x2560 .f32) : Vec F S2560x2560 .f32 :=
  (Rect.unit (s := S2560x2560) (k0_off9 i) S256x256.size (k0_off9_inb i h2)).overlay d4 (k0_pay29 (F := F))

/-- The parts of the block's rows. -/
def rcatB (i : grid0.Coords) (h2 : k0_cond2 i = 1#1) (d4 : Vec F S2560x2560 .f32) : FVec F S1536x2560 .bf16 :=
  k0_pay30 (View.ld (Val := Elt F) (e' := .f32) (holeB i h2 d4) (Rect.unit (s := S2560x2560) (k0_off11 i) S256x2560.size (k0_off11_inb i h2)))

/-- The matrix with the block's rows set to zero. -/
def gapB (i : grid0.Coords) (h2 : k0_cond2 i = 1#1) (d4 : Vec F S2560x2560 .f32) : Vec F S2560x2560 .f32 :=
  (Rect.unit (s := S2560x2560) (k0_off11 i) S256x2560.size (k0_off11_inb i h2)).overlay (holeB i h2 d4) (k0_pay31 (F := F))

/-- The parts of the panel, the block's own rows those of the swept block. -/
def wcatB (i : grid0.Coords) (h2 : k0_cond2 i = 1#1) (d4 : Vec F S2560x2560 .f32) (d6 : Vec F S2560x1536 .bf16) : Vec F S2560x1536 .bf16 :=
  (Rect.unit (s := S2560x1536) (k0_off14 i) S256x1536.size (k0_off14_inb i h2)).overlay
    (wcatN i h2 (blkB i h2 d4) (Scalar.ofBits .f32 0x00000000#32) (gapB i h2 d4) d6 10) (k0_pay5 (blkB i h2 d4))

/-- The matrix after the point. -/
def matB (i : grid0.Coords) (h2 : k0_cond2 i = 1#1) (d4 : Vec F S2560x2560 .f32) (d6 : Vec F S2560x1536 .bf16) : Vec F S2560x2560 .f32 :=
  (Rect.unit (s := S2560x2560) (k0_off9 i) S256x256.size (k0_off9_inb i h2)).overlay
    (trailN i h2 (wcatB i h2 d4 d6) (rcatB i h2 d4) (panelN i h2 (blkB i h2 d4) (Scalar.ofBits .f32 0x00000000#32) (gapB i h2 d4) 10) 10)
    (k0_pay7 (blkB i h2 d4))

/-- The block's first row. -/
def rowJ (i : grid0.Coords) : ℕ := k0_off9 i 0

instance closed9 (i : grid0.Coords) : ClosedOff (k0_off9 i) := ⟨![rowJ i, rowJ i], rfl⟩
instance closed11 (i : grid0.Coords) : ClosedOff (k0_off11 i) := ⟨![rowJ i, 0], rfl⟩

set_option maxHeartbeats 1000000 in
/-- The body at a point that sweeps: the block's coordinates are swept in the whole matrix. -/
theorem run_B (c : Dev nD) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h1 : ¬ k0_cond1 i = 1#1) (h2 : k0_cond2 i = 1#1) (h3 : ¬ k0_cond3 i = 1#1) (x0 : Vec F S6x128x2560 .bf16) (d2 : Vec F S128x128 .f32) (d3 : Vec F S128x7680 .bf16) (d4 : Vec F S2560x2560 .f32) (d5 : Vec F S256x256 .f32) (d6 : Vec F S2560x1536 .bf16) (d7 : Vec F S1536x2560 .bf16) :
      ∀ (E : Set ℕ) (K : PUnit → sProp 𝕄),
        iprop(owns (c : Thread nD τ) arg1 fullShare x0 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
            ∗ (iprop(owns (c : Thread nD τ) arg1 fullShare x0 ∗ owns (c : Thread nD τ) arg2 fullShare d2 ∗ owns (c : Thread nD τ) arg3 fullShare d3 ∗ owns (c : Thread nD τ) arg4 fullShare (matB i h2 d4 d6) ∗ owns (c : Thread nD τ) arg5 fullShare (blkB i h2 d4) ∗ owns (c : Thread nD τ) arg6 fullShare (wcatB i h2 d4 d6) ∗ owns (c : Thread nD τ) arg7 fullShare (rcatB i h2 d4)) -∗ K ⟨⟩))
          ⊢ wp frame (wpE (defs₀ (F := F)) Variants.none c none) E (cc0_gram_inverse i arg1 harg1 arg2 harg2 arg3 harg3 arg4 harg4 arg5 harg5 arg6 harg6 arg7 harg7) K := by
    intro E K
    simp only [cc0_gram_inverse_eq_skeleton]; unfold cc0_gram_inverse_skel
    simp only [k0_part4_eq_skeleton]; unfold k0_part4_skel
    simp only [bind_assoc, pure_bind]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2 | sl_exact h3)
    sl_step
    have h0 : (![0, 0] : Fin 2 → Nat) = fun _ => 0 := by decide
    have e5 : ∀ X : Vec F S256x256 .f32, View.ld (Val := Elt F) (e' := .f32) X (Rect.unit (s := S256x256) ![0, 0] S256x256.size inb_S256x256_S256x256_0_0) = X := fun X => View.ld_unit_zero (S := S256x256) h0 _ X
    rw [show Scf.trips k0_t1_loop.lb k0_t1_loop.ub k0_t1_loop.st = 256 from by decide +kernel] at hL0
    rw [show Scf.trips k0_t2_loop.lb k0_t2_loop.ub k0_t2_loop.st = 10 from by decide +kernel] at hL2 hL4
    rw [show Scf.trips k0_t3_loop.lb k0_t3_loop.ub k0_t3_loop.st = 10 from by decide +kernel] at hL8
    have hB : View.read (Elt F) arg5.view f5L0 = blkB i h2 d4 := by
      refine hL0.trans ?_
      change sweepN i h2 (View.read (Elt F) arg5.view (arg5.view.writes (Elt F) arg5.view.junk (run_B.sl.H5_1 c i arg4 harg4 h2 d4))) 256 = _
      unfold run_B.sl.H5_1 run_B.sl.x blkB
      simp only [View.readAt_eq_ld, Cert.Kit.read_writes_cons_overlay, View.writes_nil, hf4]
      rw [overlay_whole h0]
    have hG : View.read (Elt F) arg4.view (arg4.view.writes (Elt F) (harg4.unread d4) (⟨Rect.unit (s := S2560x2560) (k0_off11 i) S256x2560.size (k0_off11_inb i h2), k0_pay31⟩ :: run_B.sl.H4_1 i h2)) = gapB i h2 d4 := by
      unfold run_B.sl.H4_1 gapB holeB
      simp only [Cert.Kit.read_writes_cons_overlay, View.writes_nil, hf4]
    have hb5 : View.readAt (Elt F) arg5.view (Rect.unit (s := S256x256) ![0, 0] S256x256.size inb_S256x256_S256x256_0_0).toLoadRect f5L0 = blkB i h2 d4 := by
      rw [View.readAt_eq_ld, hB]; exact e5 _
    have hP : View.read (Elt F) arg4.view f4L1 = panelN i h2 (blkB i h2 d4) (Scalar.ofBits .f32 0x00000000#32) (gapB i h2 d4) 10 := by
      refine hL2.trans ?_
      change panelN i h2 _ _ (View.read (Elt F) arg4.view (arg4.view.writes (Elt F) (harg4.unread d4) (⟨Rect.unit (s := S2560x2560) (k0_off11 i) S256x2560.size (k0_off11_inb i h2), k0_pay31⟩ :: run_B.sl.H4_1 i h2))) 10 = _
      rw [hG]
      exact congrArg (fun D => panelN i h2 D (Scalar.ofBits .f32 0x00000000#32) (gapB i h2 d4) 10) hb5
    have hW : View.read (Elt F) arg6.view f6L2 = wcatN i h2 (blkB i h2 d4) (Scalar.ofBits .f32 0x00000000#32) (gapB i h2 d4) d6 10 := by
      refine hL4.trans ?_
      change wcatN i h2 _ _ (View.read (Elt F) arg4.view (arg4.view.writes (Elt F) (harg4.unread d4) (⟨Rect.unit (s := S2560x2560) (k0_off11 i) S256x2560.size (k0_off11_inb i h2), k0_pay31⟩ :: run_B.sl.H4_1 i h2))) (View.read (Elt F) arg6.view (harg6.unread d6)) 10 = _
      rw [hG, hf6]
      exact congrArg (fun D => wcatN i h2 D (Scalar.ofBits .f32 0x00000000#32) (gapB i h2 d4) d6 10) hb5
    have hWB : View.read (Elt F) arg6.view (arg6.view.writes (Elt F) f6L2 [⟨Rect.unit (s := S2560x1536) (k0_off14 i) S256x1536.size (k0_off14_inb i h2), k0_pay5 (View.readAt (Elt F) arg5.view (Rect.unit (s := S256x256) ![0, 0] S256x256.size inb_S256x256_S256x256_0_0).toLoadRect f5L0)⟩]) = wcatB i h2 d4 d6 := by
      rw [hb5, Cert.Kit.read_writes_cons_overlay, View.writes_nil, hW]
      rfl
    have hRB : View.read (Elt F) arg7.view (arg7.view.writes (Elt F) arg7.view.junk (run_B.sl.H7_1 c i arg4 harg4 h2 d4)) = rcatB i h2 d4 := by
      unfold run_B.sl.H7_1 run_B.sl.x_1 rcatB holeB
      unfold run_B.sl.H4_1
      simp only [View.readAt_eq_ld, Cert.Kit.read_writes_cons_overlay, View.writes_nil, hf4]
      rw [overlay_whole h0]
    have hT : View.read (Elt F) arg4.view f4L3 = trailN i h2 (wcatB i h2 d4 d6) (rcatB i h2 d4) (panelN i h2 (blkB i h2 d4) (Scalar.ofBits .f32 0x00000000#32) (gapB i h2 d4) 10) 10 := by
      refine hL8.trans ?_
      refine Eq.trans (congrArg (fun W => trailN i h2 W _ _ _) hWB) ?_
      rw [hRB]
      exact congrArg (fun A => trailN i h2 (wcatB i h2 d4 d6) (rcatB i h2 d4) A 10) hP
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      refine Eq.trans (congrArg (fun D => View.read (Elt F) arg4.view (arg4.view.writes (Elt F) f4L3 [⟨Rect.unit (s := S2560x2560) (k0_off9 i) S256x256.size (k0_off9_inb i h2), k0_pay7 D⟩])) hb5) ?_
      rw [Cert.Kit.read_writes_cons_overlay, View.writes_nil, hT]
      rfl
    isplitl [H5]
    · iexists _; isplitr; swap; · iexact H5
      ipureintro
      exact hB
    isplitl [H6]
    · iexists _; isplitr; swap; · iexact H6
      ipureintro
      exact hWB
    iexists _; isplitr; swap; · iexact H7
    ipureintro
    exact hRB

end Cert.Inverse.Gen

end
-- ==== Proof.InverseBits.RunC.lean ====
/- The kernel's body at a point that writes out rows of the inverse. -/
module

public import proofs.«01_k».proof.Proof.InverseBits.Runs
public import proofs.«01_k».proof.Proof.Overlay

@[expose] public section

-- membership in a rectangle of production extents (`View.cover_of_tiled`): the elaborator's structural look
-- recurses once per coordinate of the long axes
set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block: the three parts of the negated rows of the matrix. -/
def partsC (i : grid0.Coords) (h3 : k0_cond3 i = 1#1) (d3 : Vec F S128x7680 .bf16) (d4 : Vec F S2560x2560 .f32) : Vec F S128x7680 .bf16 :=
  (Rect.unit (s := S128x7680) ![0, 5120] S128x2560.size inb_S128x7680_S128x2560_0_5120).overlay
    ((Rect.unit (s := S128x7680) ![0, 2560] S128x2560.size inb_S128x7680_S128x2560_0_2560).overlay
      ((Rect.unit (s := S128x7680) ![0, 0] S128x2560.size inb_S128x7680_S128x2560_0_0).overlay d3
        (k0_pay9 (View.ld (Val := Elt F) (e' := .f32) d4 (Rect.unit (s := S2560x2560) (k0_off17 i) S128x2560.size (k0_off17_inb i h3)))))
      (k0_pay11 (View.ld (Val := Elt F) (e' := .f32) d4 (Rect.unit (s := S2560x2560) (k0_off17 i) S128x2560.size (k0_off17_inb i h3)))))
    (k0_pay12 (View.ld (Val := Elt F) (e' := .f32) d4 (Rect.unit (s := S2560x2560) (k0_off17 i) S128x2560.size (k0_off17_inb i h3))))

set_option maxHeartbeats 1000000 in
/-- The body at a point that writes out: the rows of the matrix are negated and split into the output block. -/
theorem run_C (c : Dev nD) (i : grid0.Coords) (arg1 : Memref sig .tc .vmem S6x128x2560 .bf16) (harg1 : arg1.IsWhole) (arg2 : Memref sig .tc .vmem S128x128 .f32) (harg2 : arg2.IsWhole) (arg3 : Memref sig .tc .vmem S128x7680 .bf16) (harg3 : arg3.IsWhole) (arg4 : Memref sig .tc .vmem S2560x2560 .f32) (harg4 : arg4.IsWhole) (arg5 : Memref sig .tc .vmem S256x256 .f32) (harg5 : arg5.IsWhole) (arg6 : Memref sig .tc .vmem S2560x1536 .bf16) (harg6 : arg6.IsWhole) (arg7 : Memref sig .tc .vmem S1536x2560 .bf16) (harg7 : arg7.IsWhole) (h1 : ¬ k0_cond1 i = 1#1) (h2 : ¬ k0_cond2 i = 1#1) (h3 : k0_cond3 i = 1#1) (x0 : Vec F S6x128x2560 .bf16) (d2 : Vec F S128x128 .f32) (d3 : Vec F S128x7680 .bf16) (d4 : Vec F S2560x2560 .f32) (d5 : Vec F S256x256 .f32) (d6 : Vec F S2560x1536 .bf16) (d7 : Vec F S1536x2560 .bf16) :
      ∀ (E : Set ℕ) (K : PUnit → sProp 𝕄),
        iprop(owns (c : Thread nD τ) arg1 fullShare x0 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
            ∗ (iprop(owns (c : Thread nD τ) arg1 fullShare x0 ∗ owns (c : Thread nD τ) arg2 fullShare d2 ∗ owns (c : Thread nD τ) arg3 fullShare (partsC i h3 d3 d4) ∗ owns (c : Thread nD τ) arg4 fullShare d4 ∗ owns (c : Thread nD τ) arg5 fullShare d5 ∗ owns (c : Thread nD τ) arg6 fullShare d6 ∗ owns (c : Thread nD τ) arg7 fullShare d7) -∗ K ⟨⟩))
          ⊢ wp frame (wpE (defs₀ (F := F)) Variants.none c none) E (cc0_gram_inverse i arg1 harg1 arg2 harg2 arg3 harg3 arg4 harg4 arg5 harg5 arg6 harg6 arg7 harg7) K := by
    intro E K
    simp only [cc0_gram_inverse_eq_skeleton]; unfold cc0_gram_inverse_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro
      simp only [View.readAt_eq_ld, Cert.Kit.read_writes_cons_overlay, View.writes_nil, hf3, hf4]
      rfl
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7

end Cert.Inverse.Gen

end
-- ==== Proof.InverseBits.Data.lean ====
/- The run of the call from a triple of invariants: `P n` holds of the matrix when `n` points have run, `R1 t` of the block of
   diagonals and `R2 t` of the block of parts when point `t` has. What a point does to them (`Steps`) is pure; this module turns
   it into the run. -/
module

public import proofs.«01_k».proof.Proof.InverseBits.RunA
public import proofs.«01_k».proof.Proof.InverseBits.RunB
public import proofs.«01_k».proof.Proof.InverseBits.RunC
public import Idealize.ShloMosaic.Lib.Pipeline.ArrRel

@[expose] public section

set_option maxRecDepth 16384

noncomputable section

namespace Cert.Inverse.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point of the grid does to the invariants. -/
structure Steps (c : Dev nD) (P : ℕ → Vec F S2560x2560 .f32 → Prop) (R1 : Fin cfg0.N → Vec F S128x128 .f32 → Prop) (R2 : Fin cfg0.N → Vec F S128x7680 .bf16 → Prop) : Prop where
  zero : ∀ X, P 0 X
  read : ∀ (t : Fin cfg0.N) (h1 : k0_cond1 (grid0.coords t) = 1#1), t.val < 20 → ∀ d4, P t.val d4 →
    P (t.val + 1) (matA (grid0.coords t) h1 (iblk m c 0 t) d4) ∧ R1 t (diagA (grid0.coords t) h1 (iblk m c 0 t))
  sweep : ∀ (t : Fin cfg0.N) (h2 : k0_cond2 (grid0.coords t) = 1#1), 20 ≤ t.val → t.val < 30 → ∀ d4 d6, P t.val d4 →
    P (t.val + 1) (matB (grid0.coords t) h2 d4 d6)
  out : ∀ (t : Fin cfg0.N) (h3 : k0_cond3 (grid0.coords t) = 1#1), 30 ≤ t.val → ∀ d3 d4, P t.val d4 →
    P (t.val + 1) d4 ∧ R2 t (partsC (grid0.coords t) h3 d3 d4)
  keep : ∀ (t u : Fin cfg0.N), 20 ≤ t.val → u.val = t.val - 1 → ∀ X, R1 u X → R1 t X
  before : ∀ (t : Fin cfg0.N), t.val < 30 → ∀ X, R2 t X

/-- The windows held to a predicate: the two outputs. -/
def forgets0 : Fin 3 → Bool := fun w => w.val == 1 || w.val == 2

/-- The proof data: the arrays as the region finds them, the input's buffer at its block, the matrix held to `P`. -/
def dats (P : (c : Dev nD) → ℕ → Vec F S2560x2560 .f32 → Prop) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ n := iprop(((∃ d, ⌜P c n.val d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))
  q w := Pipeline.shareOf spec0 w
  owed _ := 0

variable (P : (c : Dev nD) → ℕ → Vec F S2560x2560 .f32 → Prop) (R1 : (c : Dev nD) → Fin cfg0.N → Vec F S128x128 .f32 → Prop) (R2 : (c : Dev nD) → Fin cfg0.N → Vec F S128x7680 .bf16 → Prop)

/-- The predicate on each window's buffer. -/
def relW (c : Dev nD) : (w : Fin cfg0.W) → Fin cfg0.N → ((cfg0.win w).block.Idx → Elt F (cfg0.win w).elt) → Prop
  | ⟨0, _⟩ => fun _ _ => True
  | ⟨1, _⟩ => fun t X => R1 c t X
  | ⟨2, _⟩ => fun t X => R2 c t X

/-- The proof data's arrays are the region-entry contents. -/
theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem before0_0 (c : Dev nD) (t : Fin cfg0.N) (d) : (dats m P 0 c).before 0 t d = iblk m c 0 t :=
  before0_0_of m (dats m P 0 c) (A_eq m P c 0) (after0_0 m P c) t d

/-- The relational proof data of the call. -/
abbrev rdats (c : Dev nD) : Pipeline.RDat τ (Elt F) Unit ℕ (UR sig nD τ) ℕ cfg0 c := (dats m P 0 c).toRRel forgets0 (relW R1 R2 c)

/-- Every array is held whole. -/
theorem hshare (c : Dev nD) : ∀ w, (rdats m P R1 R2 c).share w = fullShare := by
  intro w; fin_cases w <;> rfl

/-- From point 20 on the block of diagonals is not written back before the last point, and never fetched. -/
theorem flush1 : ∀ t : Fin cfg0.N, 20 ≤ t.val → (cfg0.win 1).flush ⟨t.val - 1, Nat.lt_of_le_of_lt (Nat.sub_le _ _) t.isLt⟩ = false := by decide +kernel
theorem fetch1 : ∀ t : Fin cfg0.N, (cfg0.win 1).fetch t = false := by decide +kernel

/-- From point 20 on the buffer of diagonals holds what the point before left. -/
theorem finds1 (c : Dev nD) (t : Fin cfg0.N) (ht : 20 ≤ t.val) (X : Vec F S128x128 .f32) (h : (rdats m P R1 R2 c).Finds 1 t X) :
    R1 c ⟨t.val - 1, Nat.lt_of_le_of_lt (Nat.sub_le _ _) t.isLt⟩ X := by
  rcases (Pipeline.RDat.finds_of_pos (rdats m P R1 R2 c) (fetch1 t) (by omega) X).mp h with h | h
  · rw [flush1 t ht] at h; exact absurd h Bool.false_ne_true
  · exact Dat.toRRel_leaves (dats m P 0 c) (fgt := forgets0) (Rl := relW R1 R2 c) (w := 1) rfl h

/-- What the body is called with at point `t`, the windows one by one, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ Y, ⌜(rdats m P R1 R2 c).Finds 1 t Y⌝ ∗ owns (c : Thread nD τ) (ms0_1 t) fullShare Y)
    ∗ (∃ Y, ⌜(rdats m P R1 R2 c).Finds 2 t Y⌝ ∗ owns (c : Thread nD τ) (ms0_2 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ (∃ X, ⌜R1 c t X⌝ ∗ owns (c : Thread nD τ) (ms0_1 t) fullShare X)
    ∗ (∃ X, ⌜R2 c t X⌝ ∗ owns (c : Thread nD τ) (ms0_2 t) fullShare X))

variable (hS : ∀ c, Steps m c (P c) (R1 c) (R2 c))
include hS

set_option maxHeartbeats 2400000 in
/-- The body at any point keeps the invariants. -/
theorem sound_body (c : Dev nD) (t : Fin cfg0.N) :
    bodyPre m P R1 R2 c t ⊢ wp frame (wpE (defs₀ (F := F)) Variants.none c none) Set.univ (bodyAt0 t) (fun _ => bodyPost m P R1 R2 c t) := by
  unfold bodyPre bodyPost bodyAt0
  simp only [before0_0, after0_0]
  rw [show (dats m P 0 c).owesAt () t.succ = (dats m P 0 c).owesAt () t.castSucc from rfl]
  rw [show (dats m P 0 c).Φ t.castSucc = iprop(((∃ d, ⌜P c t.val d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) from rfl,
    show (dats m P 0 c).Φ t.succ = iprop(((∃ d, ⌜P c (t.val + 1) d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) from rfl]
  iintro ⟨⟨⟨⟨%d4, %hP, HS0⟩, ⟨%d5, HS1⟩, ⟨%d6, HS2⟩, ⟨%d7, HS3⟩⟩, Hg⟩, Ho, ⟨%d0, H0⟩, ⟨%d2, %hF, H1⟩, ⟨%d3, %hF2, H2⟩⟩
  by_cases t20 : t.val < 20
  · have h1 := (hcond1 t).mpr t20
    have n2 : ¬ k0_cond2 (grid0.coords t) = 1#1 := fun h => absurd ((hcond2 t).mp h) (by omega)
    have n3 : ¬ k0_cond3 (grid0.coords t) = 1#1 := fun h => absurd ((hcond3 t).mp h) (by omega)
    have hst := (hS c).read t h1 t20 d4 hP
    iapply (run_A c (grid0.coords t) _ _ _ _ _ _ _ _ _ _ _ _ _ _ h1 n2 n3 (iblk m c 0 t) d2 d3 d4 d5 d6 d7 Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iintro ⟨H0, H1, H2, HS0, HS1, HS2, HS3⟩
    isplitl [HS0 HS1 HS2 HS3 Hg]
    · isplitl [HS0 HS1 HS2 HS3]
      · isplitl [HS0]
        · iexists _; isplitr; · ipureintro; exact hst.1
          iexact HS0
        isplitl [HS1]; · iexists _; iexact HS1
        isplitl [HS2]; · iexists _; iexact HS2
        iexists _; iexact HS3
      iexact Hg
    isplitl [Ho]; · iexact Ho
    isplitl [H0]; · iexact H0
    isplitl [H1]
    · iexists _; isplitr; swap; · iexact H1
      ipureintro; exact hst.2
    iexists _; isplitr; swap; · iexact H2
    ipureintro; exact ((hS c).before t (by omega) _)
  · by_cases t30 : t.val < 30
    · have h2 := (hcond2 t).mpr ⟨by omega, t30⟩
      have n1 : ¬ k0_cond1 (grid0.coords t) = 1#1 := fun h => absurd ((hcond1 t).mp h) (by omega)
      have n3 : ¬ k0_cond3 (grid0.coords t) = 1#1 := fun h => absurd ((hcond3 t).mp h) (by omega)
      have hst := (hS c).sweep t h2 (by omega) t30 d4 d6 hP
      iapply (run_B c (grid0.coords t) _ _ _ _ _ _ _ _ _ _ _ _ _ _ n1 h2 n3 (iblk m c 0 t) d2 d3 d4 d5 d6 d7 Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]
          · iexists _; isplitr; · ipureintro; exact hst
            iexact HS0
          isplitl [HS1]; · iexists _; iexact HS1
          isplitl [HS2]; · iexists _; iexact HS2
          iexists _; iexact HS3
        iexact Hg
      isplitl [Ho]; · iexact Ho
      isplitl [H0]; · iexact H0
      isplitl [H1]
      · iexists _; isplitr; swap; · iexact H1
        ipureintro; exact ((hS c).keep t _ (by omega) rfl _ (finds1 m P R1 R2 c t (by omega) d2 hF))
      iexists _; isplitr; swap; · iexact H2
      ipureintro; exact ((hS c).before t (by omega) _)
    · have h3 := (hcond3 t).mpr (by omega)
      have n1 : ¬ k0_cond1 (grid0.coords t) = 1#1 := fun h => absurd ((hcond1 t).mp h) (by omega)
      have n2 : ¬ k0_cond2 (grid0.coords t) = 1#1 := fun h => absurd ((hcond2 t).mp h) (by omega)
      have hst := (hS c).out t h3 (by omega) d3 d4 hP
      iapply (run_C c (grid0.coords t) _ _ _ _ _ _ _ _ _ _ _ _ _ _ n1 n2 h3 (iblk m c 0 t) d2 d3 d4 d5 d6 d7 Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]
          · iexists _; isplitr; · ipureintro; exact hst.1
            iexact HS0
          isplitl [HS1]; · iexists _; iexact HS1
          isplitl [HS2]; · iexists _; iexact HS2
          iexists _; iexact HS3
        iexact Hg
      isplitl [Ho]; · iexact Ho
      isplitl [H0]; · iexact H0
      isplitl [H1]
      · iexists _; isplitr; swap; · iexact H1
        ipureintro; exact ((hS c).keep t _ (by omega) rfl _ (finds1 m P R1 R2 c t (by omega) d2 hF))
      iexists _; isplitr; swap; · iexact H2
      ipureintro; exact hst.2

omit hS in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m P 0 c) (defs₀ (F := F)) Variants.none () Set.univ forgets0 (relW R1 R2 c) := fun t => by
  rw [bigSep_W0, bigSep_W0, defs₀_row]
  exact triple_restated (sound_body m P R1 R2 hS c t) rfl .rfl fun _ => .rfl

omit hS in
/-- The region is entered with the scratch at any contents: `P 0` holds of them all. -/
theorem Phi_in (h0 : ∀ c X, P c 0 X) (c : Dev nD) : (Pipeline.ΦA spec0 c : sProp 𝕄) ⊢ (dats m P 0 c).Φ 0 := by
  rw [PhiA0_eq]
  show _ ⊢ iprop(((∃ d, ⌜P c 0 d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r))
  iintro ⟨⟨⟨%d, H⟩, Hs⟩, Hg⟩
  isplitl [H Hs]
  · isplitl [H]
    · iexists d; isplitr; · ipureintro; exact h0 c d
      iexact H
    iexact Hs
  iexact Hg

omit hS in
/-- The region is left with the scratch at some contents. -/
theorem Phi_out (c : Dev nD) : (dats m P 0 c).Φ (Fin.last cfg0.N) ⊢ (Pipeline.ΦA spec0 c : sProp 𝕄) := by
  rw [PhiA0_eq]
  show iprop(((∃ d, ⌜P c _ d⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ⊢ _
  iintro ⟨⟨⟨%d, %hd, H⟩, Hs⟩, Hg⟩
  isplitl [H Hs]
  · isplitl [H]
    · iexists d; iexact H
    iexact Hs
  iexact Hg

set_option backward.isDefEq.respectTransparency.types false in
/-- The launch: every fair execution ends, at arrays the relational proof data allow, with every counter at zero. -/
theorem run_main_quiescent : θ_run defs (onTc (τ := τ) (main (F := F))) (s₀ m ρ) (fun r => (Pipeline.RDat.FramePost (cfgs 0) (rdats m P R1 R2) (V m)) r ∧ r.2.sem = fun _ => 0) :=
  Pipeline.RDat.θ_run_frame_track (Q' := _) cfgs (0 : Fin 1) launch0 defs₀ Variants.none (rdats m P R1 R2) m ρ main
    (hbody := fun c => (body_obligation m P R1 R2 hS c).toRRel) (hshare := hshare m P R1 R2)
    (howed := fun _ _ => rfl) (V := V m) (hmain := hmain m Variants.none) (hA := A_eq m P) (hin := Phi_in m P fun c X => (hS c).zero X) (hout := Phi_out m P)
    (hQ' := fun _ h => h)

/-- What a final state holds: at each flushing point some contents that meet the predicates, and the result arrays as those
    contents written back; the arguments as launched; every counter at zero. -/
theorem run_main : θ_run defs (onTc (τ := τ) (main (F := F))) ⟨m, fun _ => 0, ρ⟩ (fun r => ((∀ c : Dev nD,
      (∃ after : (w' : Fin cfg0.W) → Fin cfg0.N → (cfg0.win w').block.Idx → Elt F (cfg0.win w').elt,
        (∀ u : Fin cfg0.N, (cfg0.win 1).flush u = true → R1 c u (after 1 u))
          ∧ (∀ u : Fin cfg0.N, (cfg0.win 2).flush u = true → R2 c u (after 2 u))
          ∧ r.2.mem ((cfg0.spec 1).arr.view.loc (c.tc : Thread nD τ)) = ((rdats m P R1 R2 c).withAfter after).arrAt 1 cfg0.N
          ∧ r.2.mem ((cfg0.spec 2).arr.view.loc (c.tc : Thread nD τ)) = ((rdats m P R1 R2 c).withAfter after).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)))
      ∧ r.2.sem = fun _ => 0) := by
  refine (θ_run defs _ _).mono (fun r h => ⟨fun c => ⟨?_, ?_⟩, h.2⟩) (run_main_quiescent m ρ P R1 R2 hS)
  · haveI : ∀ e, Nonempty (Elt F e) := fun e => inferInstance
    obtain ⟨after, hL, hA⟩ := Pipeline.RDat.FramePost.exists_exact h.1 c
    exact ⟨after, fun u hu => Dat.toRRel_leaves (dats m P 0 c) (fgt := forgets0) (Rl := relW R1 R2 c) (w := 1) rfl (hL 1 u hu),
      fun u hu => Dat.toRRel_leaves (dats m P 0 c) (fgt := forgets0) (Rl := relW R1 R2 c) (w := 2) rfl (hL 2 u hu), hA 1, hA 2⟩
  · have h := h.1
    exact ⟨(Pipeline.RDat.FramePost.arr_in h c 0 rfl).trans (V_main_arg0 m c),
      ((h c).2 main_arg1 (Pipeline.mem_restRefs_of main_arg1 (by decide) (by decide))).trans (V_main_arg1 m c)⟩

end Cert.Inverse.Gen

end
-- ==== Proof.InverseBits.Frame.lean ====
/- The frame of the inverse call over the machine's floats: it runs, its arguments are unchanged, its semaphores end at zero. -/
module

public import proofs.«01_k».proof.Proof.InverseBits.Data
public import proofs.«01_k».proof.Defs

@[expose] public section

noncomputable section

namespace Cert.Inverse.BitsFrame

open Cert.Inverse Cert.Inverse.Gen Idealize.ShloMosaic Idealize.ShloMosaic.TcCoe Idealize.SL.Sem

/-- Invariants that say nothing are kept by every point. -/
theorem steps_true {F : FTy → Type} [FloatOps F] (m : (ℓ : Loc nD τ sig) → Buf (Elt F) ℓ) (c : Dev nD) :
    Steps m c (fun _ _ => True) (fun _ _ => True) (fun _ _ => True) where
  zero := fun _ => trivial
  read := fun _ _ _ _ _ => ⟨trivial, trivial⟩
  sweep := fun _ _ _ _ _ _ _ => trivial
  out := fun _ _ _ _ _ _ => ⟨trivial, trivial⟩
  keep := fun _ _ _ _ _ _ => trivial
  before := fun _ _ _ => trivial

/-- The frame. -/
theorem frame : Cert.quiescent_Inverse (hInverse := Cert.Inverse.Gen.facts) := fun m ρ _ =>
  (θ_run defs _ _).mono (fun r h => ⟨fun c => (h.1 c).2, h.2⟩) (run_main m ρ (fun _ _ _ => True) (fun _ _ _ => True) (fun _ _ _ => True) (steps_true m))

end Cert.Inverse.BitsFrame

end
-- ==== Proof.lean ====
module

public import proofs.«01_k».proof.Defs
public import proofs.«01_k».proof.Proof.Gen.Rhs
public import proofs.«01_k».proof.Proof.Gen.Rhs.Skeleton
public import proofs.«01_k».proof.Proof.Gen.Rhs.Launch
public import proofs.«01_k».proof.Proof.Gen.Rhs.Points
public import proofs.«01_k».proof.Proof.Gen.Rhs.Frame
public import proofs.«01_k».proof.Proof.Gen.RhsIdeal
public import proofs.«01_k».proof.Proof.Gen.RhsIdeal.Skeleton
public import proofs.«01_k».proof.Proof.Gen.RhsIdeal.Launch
public import proofs.«01_k».proof.Proof.Gen.RhsIdeal.Points
public import proofs.«01_k».proof.Proof.Gen.RhsIdeal.Frame
public import proofs.«01_k».proof.Proof.Gen.RhsRefIdeal
public import proofs.«01_k».proof.Proof.Gen.RhsRefIdeal.Skeleton
public import proofs.«01_k».proof.Proof.Gen.RhsRefIdeal.Launch
public import proofs.«01_k».proof.Proof.Gen.RhsRefIdeal.Points
public import proofs.«01_k».proof.Proof.Gen.RhsRefIdeal.Frame
public import proofs.«01_k».proof.Proof.Gen.RhsRefIdeal.Value
public import proofs.«01_k».proof.Proof.Gen.Pre_finite
public import proofs.«01_k».proof.Proof.Gen.Solve
public import proofs.«01_k».proof.Proof.Gen.Solve.Skeleton
public import proofs.«01_k».proof.Proof.Gen.Solve.Launch
public import proofs.«01_k».proof.Proof.Gen.Solve.Points
public import proofs.«01_k».proof.Proof.Gen.Solve.Frame
public import proofs.«01_k».proof.Proof.Gen.SolveIdeal
public import proofs.«01_k».proof.Proof.Gen.SolveIdeal.Skeleton
public import proofs.«01_k».proof.Proof.Gen.SolveIdeal.Launch
public import proofs.«01_k».proof.Proof.Gen.SolveIdeal.Points
public import proofs.«01_k».proof.Proof.Gen.SolveIdeal.Frame
public import proofs.«01_k».proof.Proof.Gen.SolveRefIdeal
public import proofs.«01_k».proof.Proof.Gen.SolveRefIdeal.Run
public import proofs.«01_k».proof.Proof.Gen.Inverse
public import proofs.«01_k».proof.Proof.Gen.Inverse.Skeleton
public import proofs.«01_k».proof.Proof.Gen.Inverse.Launch
public import proofs.«01_k».proof.Proof.Gen.Inverse.Points
public import proofs.«01_k».proof.Proof.Gen.Inverse.Frame
public import proofs.«01_k».proof.Proof.Gen.InverseRefIdeal.Run
public import proofs.«01_k».proof.Proof.Gen.Pre_factored
public import proofs.«01_k».proof.Proof.Gen.InverseIdeal
public import proofs.«01_k».proof.Proof.Gen.InverseIdeal.Skeleton
public import proofs.«01_k».proof.Proof.Gen.InverseIdeal.Launch
public import proofs.«01_k».proof.Proof.Gen.InverseIdeal.Points
public import proofs.«01_k».proof.Proof.Gen.InverseIdeal.Frame
public import proofs.«01_k».proof.Proof.Rhs.Final
public import proofs.«01_k».proof.Proof.RhsBits.Frame
public import proofs.«01_k».proof.Proof.Solve.Final
public import proofs.«01_k».proof.Proof.SolveBits.Frame
public import proofs.«01_k».proof.Proof.Inverse.Final
public import proofs.«01_k».proof.Proof.InverseBits.Frame
public import Idealize.ShloMosaic.Adequacy
public import Idealize.ShloMosaic.Init

@[expose] public section

noncomputable section

namespace Cert.Proof

open Idealize.ShloMosaic Idealize.SL.Sem Cert.Rhs

theorem claim : Cert.Claim := ⟨Cert.Rhs.Gen.facts, Cert.RhsIdeal.Gen.facts, Cert.RhsRefIdeal.Gen.facts,
  Cert.Solve.Gen.facts, Cert.SolveIdeal.Gen.facts, Cert.SolveRefIdeal.Gen.facts,
  Cert.Inverse.Gen.facts, Cert.InverseIdeal.Gen.facts, Cert.InverseRefIdeal.Gen.facts,
  Cert.Pre_finite.Gen.facts, Cert.Pre_factored.Gen.facts,
  Cert.Rhs.BitsFrame.frame,
  Cert.RhsIdeal.Final.frame,
  fun m ρ _ => Cert.RhsRefIdeal.Gen.frame m ρ,
  Cert.Solve.BitsFrame.frame,
  Cert.SolveIdeal.Final.frame,
  fun m ρ _ => Cert.SolveIdeal.Final.frame m ρ trivial,
  Cert.SolveIdeal.Final.ref_frame,
  fun m ρ _ => Cert.SolveIdeal.Final.ref_frame m ρ trivial,
  Cert.Inverse.BitsFrame.frame,
  Cert.InverseIdeal.Final.frame,
  fun m ρ _ => Cert.InverseIdeal.Final.frame m ρ trivial,
  Cert.InverseIdeal.Final.ref_frame,
  fun m ρ _ => Cert.InverseIdeal.Final.ref_frame m ρ trivial,
  trivial,
  Cert.RhsIdeal.Final.algebraic,
  trivial,
  Cert.SolveIdeal.Final.algebraic,
  trivial,
  Cert.InverseIdeal.Final.algebraic⟩

end Cert.Proof

end
